-- ==== Defs.lean ====
def Pre_Feat0 (m : (ℓ : Loc Cert.Feat0.nD Cert.Feat0.τ Cert.Feat0.sig) → Buf (Elt Bits) ℓ) : Prop :=
  True

def Pre_Feat0Ideal (m : (ℓ : Loc Cert.Feat0Ideal.nD Cert.Feat0Ideal.τ Cert.Feat0Ideal.sig) → Buf (Elt Ideal) ℓ) : Prop :=
  True

def Pre_Ref0Ideal (m : (ℓ : Loc Cert.Ref0Ideal.nD Cert.Ref0Ideal.τ Cert.Ref0Ideal.sig) → Buf (Elt Ideal) ℓ) : Prop :=
  True

def Pre_Feat1 (m : (ℓ : Loc Cert.Feat1.nD Cert.Feat1.τ Cert.Feat1.sig) → Buf (Elt Bits) ℓ) : Prop :=
  True

def Pre_Feat1Ideal (m : (ℓ : Loc Cert.Feat1Ideal.nD Cert.Feat1Ideal.τ Cert.Feat1Ideal.sig) → Buf (Elt Ideal) ℓ) : Prop :=
  True

def Pre_Ref1Ideal (m : (ℓ : Loc Cert.Ref1Ideal.nD Cert.Ref1Ideal.τ Cert.Ref1Ideal.sig) → Buf (Elt Ideal) ℓ) : Prop :=
  True

def Pre_Feat2 (m : (ℓ : Loc Cert.Feat2.nD Cert.Feat2.τ Cert.Feat2.sig) → Buf (Elt Bits) ℓ) : Prop :=
  True

def Pre_Feat2Ideal (m : (ℓ : Loc Cert.Feat2Ideal.nD Cert.Feat2Ideal.τ Cert.Feat2Ideal.sig) → Buf (Elt Ideal) ℓ) : Prop :=
  True

def Pre_Ref2Ideal (m : (ℓ : Loc Cert.Ref2Ideal.nD Cert.Ref2Ideal.τ Cert.Ref2Ideal.sig) → Buf (Elt Ideal) ℓ) : Prop :=
  True

def Pre_Fps0 (m : (ℓ : Loc Cert.Fps0.nD Cert.Fps0.τ Cert.Fps0.sig) → Buf (Elt Bits) ℓ) : Prop :=
  True

def Pre_Fps0Ideal (m : (ℓ : Loc Cert.Fps0Ideal.nD Cert.Fps0Ideal.τ Cert.Fps0Ideal.sig) → Buf (Elt Ideal) ℓ) : Prop :=
  True

def Pre_RefFps0Ideal (m : (ℓ : Loc Cert.RefFps0Ideal.nD Cert.RefFps0Ideal.τ Cert.RefFps0Ideal.sig) → Buf (Elt Ideal) ℓ) : Prop :=
  True

def Pre_Fps1 (m : (ℓ : Loc Cert.Fps1.nD Cert.Fps1.τ Cert.Fps1.sig) → Buf (Elt Bits) ℓ) : Prop :=
  True

def Pre_Fps1Ideal (m : (ℓ : Loc Cert.Fps1Ideal.nD Cert.Fps1Ideal.τ Cert.Fps1Ideal.sig) → Buf (Elt Ideal) ℓ) : Prop :=
  True

def Pre_RefFps1Ideal (m : (ℓ : Loc Cert.RefFps1Ideal.nD Cert.RefFps1Ideal.τ Cert.RefFps1Ideal.sig) → Buf (Elt Ideal) ℓ) : Prop :=
  True

def Pre_Fps2 (m : (ℓ : Loc Cert.Fps2.nD Cert.Fps2.τ Cert.Fps2.sig) → Buf (Elt Bits) ℓ) : Prop :=
  True

def Pre_Fps2Ideal (m : (ℓ : Loc Cert.Fps2Ideal.nD Cert.Fps2Ideal.τ Cert.Fps2Ideal.sig) → Buf (Elt Ideal) ℓ) : Prop :=
  True

def Pre_RefFps2Ideal (m : (ℓ : Loc Cert.RefFps2Ideal.nD Cert.RefFps2Ideal.τ Cert.RefFps2Ideal.sig) → Buf (Elt Ideal) ℓ) : Prop :=
  True

def quiescent_Feat0 [hFeat0 : Cert.Feat0.Facts] : Prop :=
  ∀ (m : (ℓ : Loc Cert.Feat0.nD Cert.Feat0.τ Cert.Feat0.sig) → Buf (Elt Bits) ℓ) (g : Dev Cert.Feat0.nD → PrngReg), Pre_Feat0 m →
    θ_run (Cert.Feat0.defs (F := Bits)) (onTc (τ := Cert.Feat0.τ) (Cert.Feat0.main (F := Bits))) ⟨m, fun _ => 0, g⟩ (fun r => (∀ c : Dev Cert.Feat0.nD,
      r.2.mem ((c.tc : Thread Cert.Feat0.nD Cert.Feat0.τ).loc Cert.Feat0.main_arg0) = m ((c.tc : Thread Cert.Feat0.nD Cert.Feat0.τ).loc Cert.Feat0.main_arg0)
      ∧ r.2.mem ((c.tc : Thread Cert.Feat0.nD Cert.Feat0.τ).loc Cert.Feat0.main_arg1) = m ((c.tc : Thread Cert.Feat0.nD Cert.Feat0.τ).loc Cert.Feat0.main_arg1)
      ∧ r.2.mem ((c.tc : Thread Cert.Feat0.nD Cert.Feat0.τ).loc Cert.Feat0.main_arg2) = m ((c.tc : Thread Cert.Feat0.nD Cert.Feat0.τ).loc Cert.Feat0.main_arg2)
      ∧ r.2.mem ((c.tc : Thread Cert.Feat0.nD Cert.Feat0.τ).loc Cert.Feat0.main_arg3) = m ((c.tc : Thread Cert.Feat0.nD Cert.Feat0.τ).loc Cert.Feat0.main_arg3)
      ∧ r.2.mem ((c.tc : Thread Cert.Feat0.nD Cert.Feat0.τ).loc Cert.Feat0.main_arg4) = m ((c.tc : Thread Cert.Feat0.nD Cert.Feat0.τ).loc Cert.Feat0.main_arg4))
      ∧ r.2.sem = fun _ => 0)

def quiescent_Feat0Ideal [hFeat0Ideal : Cert.Feat0Ideal.Facts] : Prop :=
  ∀ (m : (ℓ : Loc Cert.Feat0Ideal.nD Cert.Feat0Ideal.τ Cert.Feat0Ideal.sig) → Buf (Elt Ideal) ℓ) (g : Dev Cert.Feat0Ideal.nD → PrngReg), Pre_Feat0Ideal m →
    θ_run (Cert.Feat0Ideal.defs (F := Ideal)) (onTc (τ := Cert.Feat0Ideal.τ) (Cert.Feat0Ideal.main (F := Ideal))) ⟨m, fun _ => 0, g⟩ (fun r => (∀ c : Dev Cert.Feat0Ideal.nD,
      r.2.mem ((c.tc : Thread Cert.Feat0Ideal.nD Cert.Feat0Ideal.τ).loc Cert.Feat0Ideal.main_arg0) = m ((c.tc : Thread Cert.Feat0Ideal.nD Cert.Feat0Ideal.τ).loc Cert.Feat0Ideal.main_arg0)
      ∧ r.2.mem ((c.tc : Thread Cert.Feat0Ideal.nD Cert.Feat0Ideal.τ).loc Cert.Feat0Ideal.main_arg1) = m ((c.tc : Thread Cert.Feat0Ideal.nD Cert.Feat0Ideal.τ).loc Cert.Feat0Ideal.main_arg1)
      ∧ r.2.mem ((c.tc : Thread Cert.Feat0Ideal.nD Cert.Feat0Ideal.τ).loc Cert.Feat0Ideal.main_arg2) = m ((c.tc : Thread Cert.Feat0Ideal.nD Cert.Feat0Ideal.τ).loc Cert.Feat0Ideal.main_arg2)
      ∧ r.2.mem ((c.tc : Thread Cert.Feat0Ideal.nD Cert.Feat0Ideal.τ).loc Cert.Feat0Ideal.main_arg3) = m ((c.tc : Thread Cert.Feat0Ideal.nD Cert.Feat0Ideal.τ).loc Cert.Feat0Ideal.main_arg3)
      ∧ r.2.mem ((c.tc : Thread Cert.Feat0Ideal.nD Cert.Feat0Ideal.τ).loc Cert.Feat0Ideal.main_arg4) = m ((c.tc : Thread Cert.Feat0Ideal.nD Cert.Feat0Ideal.τ).loc Cert.Feat0Ideal.main_arg4))
      ∧ r.2.sem = fun _ => 0)

def quiescent_Ref0Ideal [hRef0Ideal : Cert.Ref0Ideal.Facts] : Prop :=
  ∀ (m : (ℓ : Loc Cert.Ref0Ideal.nD Cert.Ref0Ideal.τ Cert.Ref0Ideal.sig) → Buf (Elt Ideal) ℓ) (g : Dev Cert.Ref0Ideal.nD → PrngReg), Pre_Ref0Ideal m →
    θ_run (Cert.Ref0Ideal.defs (F := Ideal)) (onTc (τ := Cert.Ref0Ideal.τ) (Cert.Ref0Ideal.main (F := Ideal))) ⟨m, fun _ => 0, g⟩ (fun r => (∀ c : Dev Cert.Ref0Ideal.nD,
      r.2.mem ((c.tc : Thread Cert.Ref0Ideal.nD Cert.Ref0Ideal.τ).loc Cert.Ref0Ideal.main_arg0) = m ((c.tc : Thread Cert.Ref0Ideal.nD Cert.Ref0Ideal.τ).loc Cert.Ref0Ideal.main_arg0)
      ∧ r.2.mem ((c.tc : Thread Cert.Ref0Ideal.nD Cert.Ref0Ideal.τ).loc Cert.Ref0Ideal.main_arg1) = m ((c.tc : Thread Cert.Ref0Ideal.nD Cert.Ref0Ideal.τ).loc Cert.Ref0Ideal.main_arg1)
      ∧ r.2.mem ((c.tc : Thread Cert.Ref0Ideal.nD Cert.Ref0Ideal.τ).loc Cert.Ref0Ideal.main_arg2) = m ((c.tc : Thread Cert.Ref0Ideal.nD Cert.Ref0Ideal.τ).loc Cert.Ref0Ideal.main_arg2)
      ∧ r.2.mem ((c.tc : Thread Cert.Ref0Ideal.nD Cert.Ref0Ideal.τ).loc Cert.Ref0Ideal.main_arg3) = m ((c.tc : Thread Cert.Ref0Ideal.nD Cert.Ref0Ideal.τ).loc Cert.Ref0Ideal.main_arg3)
      ∧ r.2.mem ((c.tc : Thread Cert.Ref0Ideal.nD Cert.Ref0Ideal.τ).loc Cert.Ref0Ideal.main_arg4) = m ((c.tc : Thread Cert.Ref0Ideal.nD Cert.Ref0Ideal.τ).loc Cert.Ref0Ideal.main_arg4))
      ∧ r.2.sem = fun _ => 0)

def quiescent_Feat1 [hFeat1 : Cert.Feat1.Facts] : Prop :=
  ∀ (m : (ℓ : Loc Cert.Feat1.nD Cert.Feat1.τ Cert.Feat1.sig) → Buf (Elt Bits) ℓ) (g : Dev Cert.Feat1.nD → PrngReg), Pre_Feat1 m →
    θ_run (Cert.Feat1.defs (F := Bits)) (onTc (τ := Cert.Feat1.τ) (Cert.Feat1.main (F := Bits))) ⟨m, fun _ => 0, g⟩ (fun r => (∀ c : Dev Cert.Feat1.nD,
      r.2.mem ((c.tc : Thread Cert.Feat1.nD Cert.Feat1.τ).loc Cert.Feat1.main_arg0) = m ((c.tc : Thread Cert.Feat1.nD Cert.Feat1.τ).loc Cert.Feat1.main_arg0)
      ∧ r.2.mem ((c.tc : Thread Cert.Feat1.nD Cert.Feat1.τ).loc Cert.Feat1.main_arg1) = m ((c.tc : Thread Cert.Feat1.nD Cert.Feat1.τ).loc Cert.Feat1.main_arg1)
      ∧ r.2.mem ((c.tc : Thread Cert.Feat1.nD Cert.Feat1.τ).loc Cert.Feat1.main_arg2) = m ((c.tc : Thread Cert.Feat1.nD Cert.Feat1.τ).loc Cert.Feat1.main_arg2)
      ∧ r.2.mem ((c.tc : Thread Cert.Feat1.nD Cert.Feat1.τ).loc Cert.Feat1.main_arg3) = m ((c.tc : Thread Cert.Feat1.nD Cert.Feat1.τ).loc Cert.Feat1.main_arg3)
      ∧ r.2.mem ((c.tc : Thread Cert.Feat1.nD Cert.Feat1.τ).loc Cert.Feat1.main_arg4) = m ((c.tc : Thread Cert.Feat1.nD Cert.Feat1.τ).loc Cert.Feat1.main_arg4))
      ∧ r.2.sem = fun _ => 0)

def quiescent_Feat1Ideal [hFeat1Ideal : Cert.Feat1Ideal.Facts] : Prop :=
  ∀ (m : (ℓ : Loc Cert.Feat1Ideal.nD Cert.Feat1Ideal.τ Cert.Feat1Ideal.sig) → Buf (Elt Ideal) ℓ) (g : Dev Cert.Feat1Ideal.nD → PrngReg), Pre_Feat1Ideal m →
    θ_run (Cert.Feat1Ideal.defs (F := Ideal)) (onTc (τ := Cert.Feat1Ideal.τ) (Cert.Feat1Ideal.main (F := Ideal))) ⟨m, fun _ => 0, g⟩ (fun r => (∀ c : Dev Cert.Feat1Ideal.nD,
      r.2.mem ((c.tc : Thread Cert.Feat1Ideal.nD Cert.Feat1Ideal.τ).loc Cert.Feat1Ideal.main_arg0) = m ((c.tc : Thread Cert.Feat1Ideal.nD Cert.Feat1Ideal.τ).loc Cert.Feat1Ideal.main_arg0)
      ∧ r.2.mem ((c.tc : Thread Cert.Feat1Ideal.nD Cert.Feat1Ideal.τ).loc Cert.Feat1Ideal.main_arg1) = m ((c.tc : Thread Cert.Feat1Ideal.nD Cert.Feat1Ideal.τ).loc Cert.Feat1Ideal.main_arg1)
      ∧ r.2.mem ((c.tc : Thread Cert.Feat1Ideal.nD Cert.Feat1Ideal.τ).loc Cert.Feat1Ideal.main_arg2) = m ((c.tc : Thread Cert.Feat1Ideal.nD Cert.Feat1Ideal.τ).loc Cert.Feat1Ideal.main_arg2)
      ∧ r.2.mem ((c.tc : Thread Cert.Feat1Ideal.nD Cert.Feat1Ideal.τ).loc Cert.Feat1Ideal.main_arg3) = m ((c.tc : Thread Cert.Feat1Ideal.nD Cert.Feat1Ideal.τ).loc Cert.Feat1Ideal.main_arg3)
      ∧ r.2.mem ((c.tc : Thread Cert.Feat1Ideal.nD Cert.Feat1Ideal.τ).loc Cert.Feat1Ideal.main_arg4) = m ((c.tc : Thread Cert.Feat1Ideal.nD Cert.Feat1Ideal.τ).loc Cert.Feat1Ideal.main_arg4))
      ∧ r.2.sem = fun _ => 0)

def quiescent_Ref1Ideal [hRef1Ideal : Cert.Ref1Ideal.Facts] : Prop :=
  ∀ (m : (ℓ : Loc Cert.Ref1Ideal.nD Cert.Ref1Ideal.τ Cert.Ref1Ideal.sig) → Buf (Elt Ideal) ℓ) (g : Dev Cert.Ref1Ideal.nD → PrngReg), Pre_Ref1Ideal m →
    θ_run (Cert.Ref1Ideal.defs (F := Ideal)) (onTc (τ := Cert.Ref1Ideal.τ) (Cert.Ref1Ideal.main (F := Ideal))) ⟨m, fun _ => 0, g⟩ (fun r => (∀ c : Dev Cert.Ref1Ideal.nD,
      r.2.mem ((c.tc : Thread Cert.Ref1Ideal.nD Cert.Ref1Ideal.τ).loc Cert.Ref1Ideal.main_arg0) = m ((c.tc : Thread Cert.Ref1Ideal.nD Cert.Ref1Ideal.τ).loc Cert.Ref1Ideal.main_arg0)
      ∧ r.2.mem ((c.tc : Thread Cert.Ref1Ideal.nD Cert.Ref1Ideal.τ).loc Cert.Ref1Ideal.main_arg1) = m ((c.tc : Thread Cert.Ref1Ideal.nD Cert.Ref1Ideal.τ).loc Cert.Ref1Ideal.main_arg1)
      ∧ r.2.mem ((c.tc : Thread Cert.Ref1Ideal.nD Cert.Ref1Ideal.τ).loc Cert.Ref1Ideal.main_arg2) = m ((c.tc : Thread Cert.Ref1Ideal.nD Cert.Ref1Ideal.τ).loc Cert.Ref1Ideal.main_arg2)
      ∧ r.2.mem ((c.tc : Thread Cert.Ref1Ideal.nD Cert.Ref1Ideal.τ).loc Cert.Ref1Ideal.main_arg3) = m ((c.tc : Thread Cert.Ref1Ideal.nD Cert.Ref1Ideal.τ).loc Cert.Ref1Ideal.main_arg3)
      ∧ r.2.mem ((c.tc : Thread Cert.Ref1Ideal.nD Cert.Ref1Ideal.τ).loc Cert.Ref1Ideal.main_arg4) = m ((c.tc : Thread Cert.Ref1Ideal.nD Cert.Ref1Ideal.τ).loc Cert.Ref1Ideal.main_arg4))
      ∧ r.2.sem = fun _ => 0)

def quiescent_Feat2 [hFeat2 : Cert.Feat2.Facts] : Prop :=
  ∀ (m : (ℓ : Loc Cert.Feat2.nD Cert.Feat2.τ Cert.Feat2.sig) → Buf (Elt Bits) ℓ) (g : Dev Cert.Feat2.nD → PrngReg), Pre_Feat2 m →
    θ_run (Cert.Feat2.defs (F := Bits)) (onTc (τ := Cert.Feat2.τ) (Cert.Feat2.main (F := Bits))) ⟨m, fun _ => 0, g⟩ (fun r => (∀ c : Dev Cert.Feat2.nD,
      r.2.mem ((c.tc : Thread Cert.Feat2.nD Cert.Feat2.τ).loc Cert.Feat2.main_arg0) = m ((c.tc : Thread Cert.Feat2.nD Cert.Feat2.τ).loc Cert.Feat2.main_arg0)
      ∧ r.2.mem ((c.tc : Thread Cert.Feat2.nD Cert.Feat2.τ).loc Cert.Feat2.main_arg1) = m ((c.tc : Thread Cert.Feat2.nD Cert.Feat2.τ).loc Cert.Feat2.main_arg1)
      ∧ r.2.mem ((c.tc : Thread Cert.Feat2.nD Cert.Feat2.τ).loc Cert.Feat2.main_arg2) = m ((c.tc : Thread Cert.Feat2.nD Cert.Feat2.τ).loc Cert.Feat2.main_arg2)
      ∧ r.2.mem ((c.tc : Thread Cert.Feat2.nD Cert.Feat2.τ).loc Cert.Feat2.main_arg3) = m ((c.tc : Thread Cert.Feat2.nD Cert.Feat2.τ).loc Cert.Feat2.main_arg3)
      ∧ r.2.mem ((c.tc : Thread Cert.Feat2.nD Cert.Feat2.τ).loc Cert.Feat2.main_arg4) = m ((c.tc : Thread Cert.Feat2.nD Cert.Feat2.τ).loc Cert.Feat2.main_arg4))
      ∧ r.2.sem = fun _ => 0)

def quiescent_Feat2Ideal [hFeat2Ideal : Cert.Feat2Ideal.Facts] : Prop :=
  ∀ (m : (ℓ : Loc Cert.Feat2Ideal.nD Cert.Feat2Ideal.τ Cert.Feat2Ideal.sig) → Buf (Elt Ideal) ℓ) (g : Dev Cert.Feat2Ideal.nD → PrngReg), Pre_Feat2Ideal m →
    θ_run (Cert.Feat2Ideal.defs (F := Ideal)) (onTc (τ := Cert.Feat2Ideal.τ) (Cert.Feat2Ideal.main (F := Ideal))) ⟨m, fun _ => 0, g⟩ (fun r => (∀ c : Dev Cert.Feat2Ideal.nD,
      r.2.mem ((c.tc : Thread Cert.Feat2Ideal.nD Cert.Feat2Ideal.τ).loc Cert.Feat2Ideal.main_arg0) = m ((c.tc : Thread Cert.Feat2Ideal.nD Cert.Feat2Ideal.τ).loc Cert.Feat2Ideal.main_arg0)
      ∧ r.2.mem ((c.tc : Thread Cert.Feat2Ideal.nD Cert.Feat2Ideal.τ).loc Cert.Feat2Ideal.main_arg1) = m ((c.tc : Thread Cert.Feat2Ideal.nD Cert.Feat2Ideal.τ).loc Cert.Feat2Ideal.main_arg1)
      ∧ r.2.mem ((c.tc : Thread Cert.Feat2Ideal.nD Cert.Feat2Ideal.τ).loc Cert.Feat2Ideal.main_arg2) = m ((c.tc : Thread Cert.Feat2Ideal.nD Cert.Feat2Ideal.τ).loc Cert.Feat2Ideal.main_arg2)
      ∧ r.2.mem ((c.tc : Thread Cert.Feat2Ideal.nD Cert.Feat2Ideal.τ).loc Cert.Feat2Ideal.main_arg3) = m ((c.tc : Thread Cert.Feat2Ideal.nD Cert.Feat2Ideal.τ).loc Cert.Feat2Ideal.main_arg3)
      ∧ r.2.mem ((c.tc : Thread Cert.Feat2Ideal.nD Cert.Feat2Ideal.τ).loc Cert.Feat2Ideal.main_arg4) = m ((c.tc : Thread Cert.Feat2Ideal.nD Cert.Feat2Ideal.τ).loc Cert.Feat2Ideal.main_arg4))
      ∧ r.2.sem = fun _ => 0)

def quiescent_Ref2Ideal [hRef2Ideal : Cert.Ref2Ideal.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2)
      ∧ r.2.mem ((c.tc : Thread Cert.Ref2Ideal.nD Cert.Ref2Ideal.τ).loc Cert.Ref2Ideal.main_arg3) = m ((c.tc : Thread Cert.Ref2Ideal.nD Cert.Ref2Ideal.τ).loc Cert.Ref2Ideal.main_arg3)
      ∧ r.2.mem ((c.tc : Thread Cert.Ref2Ideal.nD Cert.Ref2Ideal.τ).loc Cert.Ref2Ideal.main_arg4) = m ((c.tc : Thread Cert.Ref2Ideal.nD Cert.Ref2Ideal.τ).loc Cert.Ref2Ideal.main_arg4))
      ∧ r.2.sem = fun _ => 0)

def quiescent_Fps0 [hFps0 : Cert.Fps0.Facts] : Prop :=
  ∀ (m : (ℓ : Loc Cert.Fps0.nD Cert.Fps0.τ Cert.Fps0.sig) → Buf (Elt Bits) ℓ) (g : Dev Cert.Fps0.nD → PrngReg), Pre_Fps0 m →
    θ_run (Cert.Fps0.defs (F := Bits)) (onTc (τ := Cert.Fps0.τ) (Cert.Fps0.main (F := Bits))) ⟨m, fun _ => 0, g⟩ (fun r => (∀ c : Dev Cert.Fps0.nD,
      r.2.mem ((c.tc : Thread Cert.Fps0.nD Cert.Fps0.τ).loc Cert.Fps0.main_arg0) = m ((c.tc : Thread Cert.Fps0.nD Cert.Fps0.τ).loc Cert.Fps0.main_arg0))
      ∧ r.2.sem = fun _ => 0)

def quiescent_Fps0Ideal [hFps0Ideal : Cert.Fps0Ideal.Facts] : Prop :=
  ∀ (m : (ℓ : Loc Cert.Fps0Ideal.nD Cert.Fps0Ideal.τ Cert.Fps0Ideal.sig) → Buf (Elt Ideal) ℓ) (g : Dev Cert.Fps0Ideal.nD → PrngReg), Pre_Fps0Ideal m →
    θ_run (Cert.Fps0Ideal.defs (F := Ideal)) (onTc (τ := Cert.Fps0Ideal.τ) (Cert.Fps0Ideal.main (F := Ideal))) ⟨m, fun _ => 0, g⟩ (fun r => (∀ c : Dev Cert.Fps0Ideal.nD,
      r.2.mem ((c.tc : Thread Cert.Fps0Ideal.nD Cert.Fps0Ideal.τ).loc Cert.Fps0Ideal.main_arg0) = m ((c.tc : Thread Cert.Fps0Ideal.nD Cert.Fps0Ideal.τ).loc Cert.Fps0Ideal.main_arg0))
      ∧ r.2.sem = fun _ => 0)

def quiescent_RefFps0Ideal [hRefFps0Ideal : Cert.RefFps0Ideal.Facts] : Prop :=
  ∀ (m : (ℓ : Loc Cert.RefFps0Ideal.nD Cert.RefFps0Ideal.τ Cert.RefFps0Ideal.sig) → Buf (Elt Ideal) ℓ) (g : Dev Cert.RefFps0Ideal.nD → PrngReg), Pre_RefFps0Ideal m →
    θ_run (Cert.RefFps0Ideal.defs (F := Ideal)) (onTc (τ := Cert.RefFps0Ideal.τ) (Cert.RefFps0Ideal.main (F := Ideal))) ⟨m, fun _ => 0, g⟩ (fun r => (∀ c : Dev Cert.RefFps0Ideal.nD,
      r.2.mem ((c.tc : Thread Cert.RefFps0Ideal.nD Cert.RefFps0Ideal.τ).loc Cert.RefFps0Ideal.main_arg0) = m ((c.tc : Thread Cert.RefFps0Ideal.nD Cert.RefFps0Ideal.τ).loc Cert.RefFps0Ideal.main_arg0))
      ∧ r.2.sem = fun _ => 0)

def quiescent_Fps1 [hFps1 : Cert.Fps1.Facts] : Prop :=
  ∀ (m : (ℓ : Loc Cert.Fps1.nD Cert.Fps1.τ Cert.Fps1.sig) → Buf (Elt Bits) ℓ) (g : Dev Cert.Fps1.nD → PrngReg), Pre_Fps1 m →
    θ_run (Cert.Fps1.defs (F := Bits)) (onTc (τ := Cert.Fps1.τ) (Cert.Fps1.main (F := Bits))) ⟨m, fun _ => 0, g⟩ (fun r => (∀ c : Dev Cert.Fps1.nD,
      r.2.mem ((c.tc : Thread Cert.Fps1.nD Cert.Fps1.τ).loc Cert.Fps1.main_arg0) = m ((c.tc : Thread Cert.Fps1.nD Cert.Fps1.τ).loc Cert.Fps1.main_arg0))
      ∧ r.2.sem = fun _ => 0)

def quiescent_Fps1Ideal [hFps1Ideal : Cert.Fps1Ideal.Facts] : Prop :=
  ∀ (m : (ℓ : Loc Cert.Fps1Ideal.nD Cert.Fps1Ideal.τ Cert.Fps1Ideal.sig) → Buf (Elt Ideal) ℓ) (g : Dev Cert.Fps1Ideal.nD → PrngReg), Pre_Fps1Ideal m →
    θ_run (Cert.Fps1Ideal.defs (F := Ideal)) (onTc (τ := Cert.Fps1Ideal.τ) (Cert.Fps1Ideal.main (F := Ideal))) ⟨m, fun _ => 0, g⟩ (fun r => (∀ c : Dev Cert.Fps1Ideal.nD,
      r.2.mem ((c.tc : Thread Cert.Fps1Ideal.nD Cert.Fps1Ideal.τ).loc Cert.Fps1Ideal.main_arg0) = m ((c.tc : Thread Cert.Fps1Ideal.nD Cert.Fps1Ideal.τ).loc Cert.Fps1Ideal.main_arg0))
      ∧ r.2.sem = fun _ => 0)

def quiescent_RefFps1Ideal [hRefFps1Ideal : Cert.RefFps1Ideal.Facts] : Prop :=
  ∀ (m : (ℓ : Loc Cert.RefFps1Ideal.nD Cert.RefFps1Ideal.τ Cert.RefFps1Ideal.sig) → Buf (Elt Ideal) ℓ) (g : Dev Cert.RefFps1Ideal.nD → PrngReg), Pre_RefFps1Ideal m →
    θ_run (Cert.RefFps1Ideal.defs (F := Ideal)) (onTc (τ := Cert.RefFps1Ideal.τ) (Cert.RefFps1Ideal.main (F := Ideal))) ⟨m, fun _ => 0, g⟩ (fun r => (∀ c : Dev Cert.RefFps1Ideal.nD,
      r.2.mem ((c.tc : Thread Cert.RefFps1Ideal.nD Cert.RefFps1Ideal.τ).loc Cert.RefFps1Ideal.main_arg0) = m ((c.tc : Thread Cert.RefFps1Ideal.nD Cert.RefFps1Ideal.τ).loc Cert.RefFps1Ideal.main_arg0))
      ∧ r.2.sem = fun _ => 0)

def quiescent_Fps2 [hFps2 : Cert.Fps2.Facts] : Prop :=
  ∀ (m : (ℓ : Loc Cert.Fps2.nD Cert.Fps2.τ Cert.Fps2.sig) → Buf (Elt Bits) ℓ) (g : Dev Cert.Fps2.nD → PrngReg), Pre_Fps2 m →
    θ_run (Cert.Fps2.defs (F := Bits)) (onTc (τ := Cert.Fps2.τ) (Cert.Fps2.main (F := Bits))) ⟨m, fun _ => 0, g⟩ (fun r => (∀ c : Dev Cert.Fps2.nD,
      r.2.mem ((c.tc : Thread Cert.Fps2.nD Cert.Fps2.τ).loc Cert.Fps2.main_arg0) = m ((c.tc : Thread Cert.Fps2.nD Cert.Fps2.τ).loc Cert.Fps2.main_arg0))
      ∧ r.2.sem = fun _ => 0)

def quiescent_Fps2Ideal [hFps2Ideal : Cert.Fps2Ideal.Facts] : Prop :=
  ∀ (m : (ℓ : Loc Cert.Fps2Ideal.nD Cert.Fps2Ideal.τ Cert.Fps2Ideal.sig) → Buf (Elt Ideal) ℓ) (g : Dev Cert.Fps2Ideal.nD → PrngReg), Pre_Fps2Ideal m →
    θ_run (Cert.Fps2Ideal.defs (F := Ideal)) (onTc (τ := Cert.Fps2Ideal.τ) (Cert.Fps2Ideal.main (F := Ideal))) ⟨m, fun _ => 0, g⟩ (fun r => (∀ c : Dev Cert.Fps2Ideal.nD,
      r.2.mem ((c.tc : Thread Cert.Fps2Ideal.nD Cert.Fps2Ideal.τ).loc Cert.Fps2Ideal.main_arg0) = m ((c.tc : Thread Cert.Fps2Ideal.nD Cert.Fps2Ideal.τ).loc Cert.Fps2Ideal.main_arg0))
      ∧ r.2.sem = fun _ => 0)

def quiescent_RefFps2Ideal [hRefFps2Ideal : Cert.RefFps2Ideal.Facts] : Prop :=
  ∀ (m : (ℓ : Loc Cert.RefFps2Ideal.nD Cert.RefFps2Ideal.τ Cert.RefFps2Ideal.sig) → Buf (Elt Ideal) ℓ) (g : Dev Cert.RefFps2Ideal.nD → PrngReg), Pre_RefFps2Ideal m →
    θ_run (Cert.RefFps2Ideal.defs (F := Ideal)) (onTc (τ := Cert.RefFps2Ideal.τ) (Cert.RefFps2Ideal.main (F := Ideal))) ⟨m, fun _ => 0, g⟩ (fun r => (∀ c : Dev Cert.RefFps2Ideal.nD,
      r.2.mem ((c.tc : Thread Cert.RefFps2Ideal.nD Cert.RefFps2Ideal.τ).loc Cert.RefFps2Ideal.main_arg0) = m ((c.tc : Thread Cert.RefFps2Ideal.nD Cert.RefFps2Ideal.τ).loc Cert.RefFps2Ideal.main_arg0))
      ∧ r.2.sem = fun _ => 0)

def preserves_Feat0_Feat0Ideal : Prop :=
  IdealRules.named_const.Statement Cert.Feat0Ideal.κ "half_pi" .f32 0x3FC90FDB#32 (((1 / 2) * Real.pi : ℝ) : EReal)

def algebraic_Feat0Ideal_Ref0Ideal [hFeat0Ideal : Cert.Feat0Ideal.Facts] [hRef0Ideal : Cert.Ref0Ideal.Facts] : Prop :=
  ∀ (m : (ℓ : Loc Cert.Feat0Ideal.nD Cert.Feat0Ideal.τ Cert.Feat0Ideal.sig) → Buf (Elt Ideal) ℓ) (g : Dev Cert.Feat0Ideal.nD → PrngReg)
    (m' : (ℓ : Loc Cert.Ref0Ideal.nD Cert.Ref0Ideal.τ Cert.Ref0Ideal.sig) → Buf (Elt Ideal) ℓ) (g' : Dev Cert.Ref0Ideal.nD → PrngReg), Pre_Feat0Ideal m →
    (∀ c : Dev Cert.Feat0Ideal.nD,
      m' ((c.tc : Thread Cert.Ref0Ideal.nD Cert.Ref0Ideal.τ).loc Cert.Ref0Ideal.main_arg0) = m ((c.tc : Thread Cert.Feat0Ideal.nD Cert.Feat0Ideal.τ).loc Cert.Feat0Ideal.main_arg0)
      ∧ m' ((c.tc : Thread Cert.Ref0Ideal.nD Cert.Ref0Ideal.τ).loc Cert.Ref0Ideal.main_arg1) = m ((c.tc : Thread Cert.Feat0Ideal.nD Cert.Feat0Ideal.τ).loc Cert.Feat0Ideal.main_arg1)
      ∧ m' ((c.tc : Thread Cert.Ref0Ideal.nD Cert.Ref0Ideal.τ).loc Cert.Ref0Ideal.main_arg2) = m ((c.tc : Thread Cert.Feat0Ideal.nD Cert.Feat0Ideal.τ).loc Cert.Feat0Ideal.main_arg2)
      ∧ m' ((c.tc : Thread Cert.Ref0Ideal.nD Cert.Ref0Ideal.τ).loc Cert.Ref0Ideal.main_arg3) = m ((c.tc : Thread Cert.Feat0Ideal.nD Cert.Feat0Ideal.τ).loc Cert.Feat0Ideal.main_arg3)
      ∧ m' ((c.tc : Thread Cert.Ref0Ideal.nD Cert.Ref0Ideal.τ).loc Cert.Ref0Ideal.main_arg4) = m ((c.tc : Thread Cert.Feat0Ideal.nD Cert.Feat0Ideal.τ).loc Cert.Feat0Ideal.main_arg4)) →
    ∃ (v0 : (c : Dev Cert.Feat0Ideal.nD) → Buf (Elt Ideal) ((c.tc : Thread Cert.Feat0Ideal.nD Cert.Feat0Ideal.τ).loc Cert.Feat0Ideal.main_v3)),
      θ_run (Cert.Feat0Ideal.defs (F := Ideal)) (onTc (τ := Cert.Feat0Ideal.τ) (Cert.Feat0Ideal.main (F := Ideal))) ⟨m, fun _ => 0, g⟩ (fun r => ∀ c : Dev Cert.Feat0Ideal.nD,
          r.2.mem ((c.tc : Thread Cert.Feat0Ideal.nD Cert.Feat0Ideal.τ).loc Cert.Feat0Ideal.main_v3) = v0 c
          ∧ r.2.mem ((c.tc : Thread Cert.Feat0Ideal.nD Cert.Feat0Ideal.τ).loc Cert.Feat0Ideal.main_arg0) = m ((c.tc : Thread Cert.Feat0Ideal.nD Cert.Feat0Ideal.τ).loc Cert.Feat0Ideal.main_arg0)
          ∧ r.2.mem ((c.tc : Thread Cert.Feat0Ideal.nD Cert.Feat0Ideal.τ).loc Cert.Feat0Ideal.main_arg1) = m ((c.tc : Thread Cert.Feat0Ideal.nD Cert.Feat0Ideal.τ).loc Cert.Feat0Ideal.main_arg1)
          ∧ r.2.mem ((c.tc : Thread Cert.Feat0Ideal.nD Cert.Feat0Ideal.τ).loc Cert.Feat0Ideal.main_arg2) = m ((c.tc : Thread Cert.Feat0Ideal.nD Cert.Feat0Ideal.τ).loc Cert.Feat0Ideal.main_arg2)
          ∧ r.2.mem ((c.tc : Thread Cert.Feat0Ideal.nD Cert.Feat0Ideal.τ).loc Cert.Feat0Ideal.main_arg3) = m ((c.tc : Thread Cert.Feat0Ideal.nD Cert.Feat0Ideal.τ).loc Cert.Feat0Ideal.main_arg3)
          ∧ r.2.mem ((c.tc : Thread Cert.Feat0Ideal.nD Cert.Feat0Ideal.τ).loc Cert.Feat0Ideal.main_arg4) = m ((c.tc : Thread Cert.Feat0Ideal.nD Cert.Feat0Ideal.τ).loc Cert.Feat0Ideal.main_arg4))
      ∧ θ_run (Cert.Ref0Ideal.defs (F := Ideal)) (onTc (τ := Cert.Ref0Ideal.τ) (Cert.Ref0Ideal.main (F := Ideal))) ⟨m', fun _ => 0, g'⟩ (fun r => ∀ c : Dev Cert.Ref0Ideal.nD,
          r.2.mem ((c.tc : Thread Cert.Ref0Ideal.nD Cert.Ref0Ideal.τ).loc Cert.Ref0Ideal.main_v97) = v0 c
          ∧ r.2.mem ((c.tc : Thread Cert.Ref0Ideal.nD Cert.Ref0Ideal.τ).loc Cert.Ref0Ideal.main_arg0) = m' ((c.tc : Thread Cert.Ref0Ideal.nD Cert.Ref0Ideal.τ).loc Cert.Ref0Ideal.main_arg0)
          ∧ r.2.mem ((c.tc : Thread Cert.Ref0Ideal.nD Cert.Ref0Ideal.τ).loc Cert.Ref0Ideal.main_arg1) = m' ((c.tc : Thread Cert.Ref0Ideal.nD Cert.Ref0Ideal.τ).loc Cert.Ref0Ideal.main_arg1)
          ∧ r.2.mem ((c.tc : Thread Cert.Ref0Ideal.nD Cert.Ref0Ideal.τ).loc Cert.Ref0Ideal.main_arg2) = m' ((c.tc : Thread Cert.Ref0Ideal.nD Cert.Ref0Ideal.τ).loc Cert.Ref0Ideal.main_arg2)
          ∧ r.2.mem ((c.tc : Thread Cert.Ref0Ideal.nD Cert.Ref0Ideal.τ).loc Cert.Ref0Ideal.main_arg3) = m' ((c.tc : Thread Cert.Ref0Ideal.nD Cert.Ref0Ideal.τ).loc Cert.Ref0Ideal.main_arg3)
          ∧ r.2.mem ((c.tc : Thread Cert.Ref0Ideal.nD Cert.Ref0Ideal.τ).loc Cert.Ref0Ideal.main_arg4) = m' ((c.tc : Thread Cert.Ref0Ideal.nD Cert.Ref0Ideal.τ).loc Cert.Ref0Ideal.main_arg4))

def preserves_Feat1_Feat1Ideal : Prop :=
  IdealRules.named_const.Statement Cert.Feat1Ideal.κ "half_pi" .f32 0x3FC90FDB#32 (((1 / 2) * Real.pi : ℝ) : EReal)

def algebraic_Feat1Ideal_Ref1Ideal [hFeat1Ideal : Cert.Feat1Ideal.Facts] [hRef1Ideal : Cert.Ref1Ideal.Facts] : Prop :=
  ∀ (m : (ℓ : Loc Cert.Feat1Ideal.nD Cert.Feat1Ideal.τ Cert.Feat1Ideal.sig) → Buf (Elt Ideal) ℓ) (g : Dev Cert.Feat1Ideal.nD → PrngReg)
    (m' : (ℓ : Loc Cert.Ref1Ideal.nD Cert.Ref1Ideal.τ Cert.Ref1Ideal.sig) → Buf (Elt Ideal) ℓ) (g' : Dev Cert.Ref1Ideal.nD → PrngReg), Pre_Feat1Ideal m →
    (∀ c : Dev Cert.Feat1Ideal.nD,
      m' ((c.tc : Thread Cert.Ref1Ideal.nD Cert.Ref1Ideal.τ).loc Cert.Ref1Ideal.main_arg0) = m ((c.tc : Thread Cert.Feat1Ideal.nD Cert.Feat1Ideal.τ).loc Cert.Feat1Ideal.main_arg0)
      ∧ m' ((c.tc : Thread Cert.Ref1Ideal.nD Cert.Ref1Ideal.τ).loc Cert.Ref1Ideal.main_arg1) = m ((c.tc : Thread Cert.Feat1Ideal.nD Cert.Feat1Ideal.τ).loc Cert.Feat1Ideal.main_arg1)
      ∧ m' ((c.tc : Thread Cert.Ref1Ideal.nD Cert.Ref1Ideal.τ).loc Cert.Ref1Ideal.main_arg2) = m ((c.tc : Thread Cert.Feat1Ideal.nD Cert.Feat1Ideal.τ).loc Cert.Feat1Ideal.main_arg2)
      ∧ m' ((c.tc : Thread Cert.Ref1Ideal.nD Cert.Ref1Ideal.τ).loc Cert.Ref1Ideal.main_arg3) = m ((c.tc : Thread Cert.Feat1Ideal.nD Cert.Feat1Ideal.τ).loc Cert.Feat1Ideal.main_arg3)
      ∧ m' ((c.tc : Thread Cert.Ref1Ideal.nD Cert.Ref1Ideal.τ).loc Cert.Ref1Ideal.main_arg4) = m ((c.tc : Thread Cert.Feat1Ideal.nD Cert.Feat1Ideal.τ).loc Cert.Feat1Ideal.main_arg4)) →
    ∃ (v0 : (c : Dev Cert.Feat1Ideal.nD) → Buf (Elt Ideal) ((c.tc : Thread Cert.Feat1Ideal.nD Cert.Feat1Ideal.τ).loc Cert.Feat1Ideal.main_v3)),
      θ_run (Cert.Feat1Ideal.defs (F := Ideal)) (onTc (τ := Cert.Feat1Ideal.τ) (Cert.Feat1Ideal.main (F := Ideal))) ⟨m, fun _ => 0, g⟩ (fun r => ∀ c : Dev Cert.Feat1Ideal.nD,
          r.2.mem ((c.tc : Thread Cert.Feat1Ideal.nD Cert.Feat1Ideal.τ).loc Cert.Feat1Ideal.main_v3) = v0 c
          ∧ r.2.mem ((c.tc : Thread Cert.Feat1Ideal.nD Cert.Feat1Ideal.τ).loc Cert.Feat1Ideal.main_arg0) = m ((c.tc : Thread Cert.Feat1Ideal.nD Cert.Feat1Ideal.τ).loc Cert.Feat1Ideal.main_arg0)
          ∧ r.2.mem ((c.tc : Thread Cert.Feat1Ideal.nD Cert.Feat1Ideal.τ).loc Cert.Feat1Ideal.main_arg1) = m ((c.tc : Thread Cert.Feat1Ideal.nD Cert.Feat1Ideal.τ).loc Cert.Feat1Ideal.main_arg1)
          ∧ r.2.mem ((c.tc : Thread Cert.Feat1Ideal.nD Cert.Feat1Ideal.τ).loc Cert.Feat1Ideal.main_arg2) = m ((c.tc : Thread Cert.Feat1Ideal.nD Cert.Feat1Ideal.τ).loc Cert.Feat1Ideal.main_arg2)
          ∧ r.2.mem ((c.tc : Thread Cert.Feat1Ideal.nD Cert.Feat1Ideal.τ).loc Cert.Feat1Ideal.main_arg3) = m ((c.tc : Thread Cert.Feat1Ideal.nD Cert.Feat1Ideal.τ).loc Cert.Feat1Ideal.main_arg3)
          ∧ r.2.mem ((c.tc : Thread Cert.Feat1Ideal.nD Cert.Feat1Ideal.τ).loc Cert.Feat1Ideal.main_arg4) = m ((c.tc : Thread Cert.Feat1Ideal.nD Cert.Feat1Ideal.τ).loc Cert.Feat1Ideal.main_arg4))
      ∧ θ_run (Cert.Ref1Ideal.defs (F := Ideal)) (onTc (τ := Cert.Ref1Ideal.τ) (Cert.Ref1Ideal.main (F := Ideal))) ⟨m', fun _ => 0, g'⟩ (fun r => ∀ c : Dev Cert.Ref1Ideal.nD,
          r.2.mem ((c.tc : Thread Cert.Ref1Ideal.nD Cert.Ref1Ideal.τ).loc Cert.Ref1Ideal.main_v97) = v0 c
          ∧ r.2.mem ((c.tc : Thread Cert.Ref1Ideal.nD Cert.Ref1Ideal.τ).loc Cert.Ref1Ideal.main_arg0) = m' ((c.tc : Thread Cert.Ref1Ideal.nD Cert.Ref1Ideal.τ).loc Cert.Ref1Ideal.main_arg0)
          ∧ r.2.mem ((c.tc : Thread Cert.Ref1Ideal.nD Cert.Ref1Ideal.τ).loc Cert.Ref1Ideal.main_arg1) = m' ((c.tc : Thread Cert.Ref1Ideal.nD Cert.Ref1Ideal.τ).loc Cert.Ref1Ideal.main_arg1)
          ∧ r.2.mem ((c.tc : Thread Cert.Ref1Ideal.nD Cert.Ref1Ideal.τ).loc Cert.Ref1Ideal.main_arg2) = m' ((c.tc : Thread Cert.Ref1Ideal.nD Cert.Ref1Ideal.τ).loc Cert.Ref1Ideal.main_arg2)
          ∧ r.2.mem ((c.tc : Thread Cert.Ref1Ideal.nD Cert.Ref1Ideal.τ).loc Cert.Ref1Ideal.main_arg3) = m' ((c.tc : Thread Cert.Ref1Ideal.nD Cert.Ref1Ideal.τ).loc Cert.Ref1Ideal.main_arg3)
          ∧ r.2.mem ((c.tc : Thread Cert.Ref1Ideal.nD Cert.Ref1Ideal.τ).loc Cert.Ref1Ideal.main_arg4) = m' ((c.tc : Thread Cert.Ref1Ideal.nD Cert.Ref1Ideal.τ).loc Cert.Ref1Ideal.main_arg4))

def preserves_Feat2_Feat2Ideal : Prop :=
  IdealRules.named_const.Statement Cert.Feat2Ideal.κ "half_pi" .f32 0x3FC90FDB#32 (((1 / 2) * Real.pi : ℝ) : EReal)

def algebraic_Feat2Ideal_Ref2Ideal [hFeat2Ideal : Cert.Feat2Ideal.Facts] [hRef2Ideal : Cert.Ref2Ideal.Facts] : Prop :=
  ∀ (m : (ℓ : Loc Cert.Feat2Ideal.nD Cert.Feat2Ideal.τ Cert.Feat2Ideal.sig) → Buf (Elt Ideal) ℓ) (g : Dev Cert.Feat2Ideal.nD → PrngReg)
    (m' : (ℓ : Loc Cert.Ref2Ideal.nD Cert.Ref2Ideal.τ Cert.Ref2Ideal.sig) → Buf (Elt Ideal) ℓ) (g' : Dev Cert.Ref2Ideal.nD → PrngReg), Pre_Feat2Ideal m →
    (∀ c : Dev Cert.Feat2Ideal.nD,
      m' ((c.tc : Thread Cert.Ref2Ideal.nD Cert.Ref2Ideal.τ).loc Cert.Ref2Ideal.main_arg0) = m ((c.tc : Thread Cert.Feat2Ideal.nD Cert.Feat2Ideal.τ).loc Cert.Feat2Ideal.main_arg0)
      ∧ m' ((c.tc : Thread Cert.Ref2Ideal.nD Cert.Ref2Ideal.τ).loc Cert.Ref2Ideal.main_arg1) = m ((c.tc : Thread Cert.Feat2Ideal.nD Cert.Feat2Ideal.τ).loc Cert.Feat2Ideal.main_arg1)
      ∧ m' ((c.tc : Thread Cert.Ref2Ideal.nD Cert.Ref2Ideal.τ).loc Cert.Ref2Ideal.main_arg2) = m ((c.tc : Thread Cert.Feat2Ideal.nD Cert.Feat2Ideal.τ).loc Cert.Feat2Ideal.main_arg2)
      ∧ m' ((c.tc : Thread Cert.Ref2Ideal.nD Cert.Ref2Ideal.τ).loc Cert.Ref2Ideal.main_arg3) = m ((c.tc : Thread Cert.Feat2Ideal.nD Cert.Feat2Ideal.τ).loc Cert.Feat2Ideal.main_arg3)
      ∧ m' ((c.tc : Thread Cert.Ref2Ideal.nD Cert.Ref2Ideal.τ).loc Cert.Ref2Ideal.main_arg4) = m ((c.tc : Thread Cert.Feat2Ideal.nD Cert.Feat2Ideal.τ).loc Cert.Feat2Ideal.main_arg4)) →
    ∃ (v0 : (c : Dev Cert.Feat2Ideal.nD) → Buf (Elt Ideal) ((c.tc : Thread Cert.Feat2Ideal.nD Cert.Feat2Ideal.τ).loc Cert.Feat2Ideal.main_v4)),
      θ_run (Cert.Feat2Ideal.defs (F := Ideal)) (onTc (τ := Cert.Feat2Ideal.τ) (Cert.Feat2Ideal.main (F := Ideal))) ⟨m, fun _ => 0, g⟩ (fun r => ∀ c : Dev Cert.Feat2Ideal.nD,
          r.2.mem ((c.tc : Thread Cert.Feat2Ideal.nD Cert.Feat2Ideal.τ).loc Cert.Feat2Ideal.main_v4) = v0 c
          ∧ r.2.mem ((c.tc : Thread Cert.Feat2Ideal.nD Cert.Feat2Ideal.τ).loc Cert.Feat2Ideal.main_arg0) = m ((c.tc : Thread Cert.Feat2Ideal.nD Cert.Feat2Ideal.τ).loc Cert.Feat2Ideal.main_arg0)
          ∧ r.2.mem ((c.tc : Thread Cert.Feat2Ideal.nD Cert.Feat2Ideal.τ).loc Cert.Feat2Ideal.main_arg1) = m ((c.tc : Thread Cert.Feat2Ideal.nD Cert.Feat2Ideal.τ).loc Cert.Feat2Ideal.main_arg1)
          ∧ r.2.mem ((c.tc : Thread Cert.Feat2Ideal.nD Cert.Feat2Ideal.τ).loc Cert.Feat2Ideal.main_arg2) = m ((c.tc : Thread Cert.Feat2Ideal.nD Cert.Feat2Ideal.τ).loc Cert.Feat2Ideal.main_arg2)
          ∧ r.2.mem ((c.tc : Thread Cert.Feat2Ideal.nD Cert.Feat2Ideal.τ).loc Cert.Feat2Ideal.main_arg3) = m ((c.tc : Thread Cert.Feat2Ideal.nD Cert.Feat2Ideal.τ).loc Cert.Feat2Ideal.main_arg3)
          ∧ r.2.mem ((c.tc : Thread Cert.Feat2Ideal.nD Cert.Feat2Ideal.τ).loc Cert.Feat2Ideal.main_arg4) = m ((c.tc : Thread Cert.Feat2Ideal.nD Cert.Feat2Ideal.τ).loc Cert.Feat2Ideal.main_arg4))
      ∧ θ_run (Cert.Ref2Ideal.defs (F := Ideal)) (onTc (τ := Cert.Ref2Ideal.τ) (Cert.Ref2Ideal.main (F := Ideal))) ⟨m', fun _ => 0, g'⟩ (fun r => ∀ c : Dev Cert.Ref2Ideal.nD,
          r.2.mem ((c.tc : Thread Cert.Ref2Ideal.nD Cert.Ref2Ideal.τ).loc Cert.Ref2Ideal.main_v98) = v0 c
          ∧ r.2.mem ((c.tc : Thread Cert.Ref2Ideal.nD Cert.Ref2Ideal.τ).loc Cert.Ref2Ideal.main_arg0) = m' ((c.tc : Thread Cert.Ref2Ideal.nD Cert.Ref2Ideal.τ).loc Cert.Ref2Ideal.main_arg0)
          ∧ r.2.mem ((c.tc : Thread Cert.Ref2Ideal.nD Cert.Ref2Ideal.τ).loc Cert.Ref2Ideal.main_arg1) = m' ((c.tc : Thread Cert.Ref2Ideal.nD Cert.Ref2Ideal.τ).loc Cert.Ref2Ideal.main_arg1)
          ∧ r.2.mem ((c.tc : Thread Cert.Ref2Ideal.nD Cert.Ref2Ideal.τ).loc Cert.Ref2Ideal.main_arg2) = m' ((c.tc : Thread Cert.Ref2Ideal.nD Cert.Ref2Ideal.τ).loc Cert.Ref2Ideal.main_arg2)
          ∧ r.2.mem ((c.tc : Thread Cert.Ref2Ideal.nD Cert.Ref2Ideal.τ).loc Cert.Ref2Ideal.main_arg3) = m' ((c.tc : Thread Cert.Ref2Ideal.nD Cert.Ref2Ideal.τ).loc Cert.Ref2Ideal.main_arg3)
          ∧ r.2.mem ((c.tc : Thread Cert.Ref2Ideal.nD Cert.Ref2Ideal.τ).loc Cert.Ref2Ideal.main_arg4) = m' ((c.tc : Thread Cert.Ref2Ideal.nD Cert.Ref2Ideal.τ).loc Cert.Ref2Ideal.main_arg4))

def preserves_Fps0_Fps0Ideal : Prop :=
  True

def algebraic_Fps0Ideal_RefFps0Ideal [hFps0Ideal : Cert.Fps0Ideal.Facts] [hRefFps0Ideal : Cert.RefFps0Ideal.Facts] : Prop :=
  ∀ (m : (ℓ : Loc Cert.Fps0Ideal.nD Cert.Fps0Ideal.τ Cert.Fps0Ideal.sig) → Buf (Elt Ideal) ℓ) (g : Dev Cert.Fps0Ideal.nD → PrngReg)
    (m' : (ℓ : Loc Cert.RefFps0Ideal.nD Cert.RefFps0Ideal.τ Cert.RefFps0Ideal.sig) → Buf (Elt Ideal) ℓ) (g' : Dev Cert.RefFps0Ideal.nD → PrngReg), Pre_Fps0Ideal m →
    (∀ c : Dev Cert.Fps0Ideal.nD,
      m' ((c.tc : Thread Cert.RefFps0Ideal.nD Cert.RefFps0Ideal.τ).loc Cert.RefFps0Ideal.main_arg0) = m ((c.tc : Thread Cert.Fps0Ideal.nD Cert.Fps0Ideal.τ).loc Cert.Fps0Ideal.main_arg0)) →
    ∃ (v0 : (c : Dev Cert.Fps0Ideal.nD) → Buf (Elt Ideal) ((c.tc : Thread Cert.Fps0Ideal.nD Cert.Fps0Ideal.τ).loc Cert.Fps0Ideal.main_v0)),
      θ_run (Cert.Fps0Ideal.defs (F := Ideal)) (onTc (τ := Cert.Fps0Ideal.τ) (Cert.Fps0Ideal.main (F := Ideal))) ⟨m, fun _ => 0, g⟩ (fun r => ∀ c : Dev Cert.Fps0Ideal.nD,
          r.2.mem ((c.tc : Thread Cert.Fps0Ideal.nD Cert.Fps0Ideal.τ).loc Cert.Fps0Ideal.main_v0) = v0 c
          ∧ r.2.mem ((c.tc : Thread Cert.Fps0Ideal.nD Cert.Fps0Ideal.τ).loc Cert.Fps0Ideal.main_arg0) = m ((c.tc : Thread Cert.Fps0Ideal.nD Cert.Fps0Ideal.τ).loc Cert.Fps0Ideal.main_arg0))
      ∧ θ_run (Cert.RefFps0Ideal.defs (F := Ideal)) (onTc (τ := Cert.RefFps0Ideal.τ) (Cert.RefFps0Ideal.main (F := Ideal))) ⟨m', fun _ => 0, g'⟩ (fun r => ∀ c : Dev Cert.RefFps0Ideal.nD,
          r.2.mem ((c.tc : Thread Cert.RefFps0Ideal.nD Cert.RefFps0Ideal.τ).loc Cert.RefFps0Ideal.main_v12) = v0 c
          ∧ r.2.mem ((c.tc : Thread Cert.RefFps0Ideal.nD Cert.RefFps0Ideal.τ).loc Cert.RefFps0Ideal.main_arg0) = m' ((c.tc : Thread Cert.RefFps0Ideal.nD Cert.RefFps0Ideal.τ).loc Cert.RefFps0Ideal.main_arg0))

def preserves_Fps1_Fps1Ideal : Prop :=
  True

def algebraic_Fps1Ideal_RefFps1Ideal [hFps1Ideal : Cert.Fps1Ideal.Facts] [hRefFps1Ideal : Cert.RefFps1Ideal.Facts] : Prop :=
  ∀ (m : (ℓ : Loc Cert.Fps1Ideal.nD Cert.Fps1Ideal.τ Cert.Fps1Ideal.sig) → Buf (Elt Ideal) ℓ) (g : Dev Cert.Fps1Ideal.nD → PrngReg)
    (m' : (ℓ : Loc Cert.RefFps1Ideal.nD Cert.RefFps1Ideal.τ Cert.RefFps1Ideal.sig) → Buf (Elt Ideal) ℓ) (g' : Dev Cert.RefFps1Ideal.nD → PrngReg), Pre_Fps1Ideal m →
    (∀ c : Dev Cert.Fps1Ideal.nD,
      m' ((c.tc : Thread Cert.RefFps1Ideal.nD Cert.RefFps1Ideal.τ).loc Cert.RefFps1Ideal.main_arg0) = m ((c.tc : Thread Cert.Fps1Ideal.nD Cert.Fps1Ideal.τ).loc Cert.Fps1Ideal.main_arg0)) →
    ∃ (v0 : (c : Dev Cert.Fps1Ideal.nD) → Buf (Elt Ideal) ((c.tc : Thread Cert.Fps1Ideal.nD Cert.Fps1Ideal.τ).loc Cert.Fps1Ideal.main_v0)),
      θ_run (Cert.Fps1Ideal.defs (F := Ideal)) (onTc (τ := Cert.Fps1Ideal.τ) (Cert.Fps1Ideal.main (F := Ideal))) ⟨m, fun _ => 0, g⟩ (fun r => ∀ c : Dev Cert.Fps1Ideal.nD,
          r.2.mem ((c.tc : Thread Cert.Fps1Ideal.nD Cert.Fps1Ideal.τ).loc Cert.Fps1Ideal.main_v0) = v0 c
          ∧ r.2.mem ((c.tc : Thread Cert.Fps1Ideal.nD Cert.Fps1Ideal.τ).loc Cert.Fps1Ideal.main_arg0) = m ((c.tc : Thread Cert.Fps1Ideal.nD Cert.Fps1Ideal.τ).loc Cert.Fps1Ideal.main_arg0))
      ∧ θ_run (Cert.RefFps1Ideal.defs (F := Ideal)) (onTc (τ := Cert.RefFps1Ideal.τ) (Cert.RefFps1Ideal.main (F := Ideal))) ⟨m', fun _ => 0, g'⟩ (fun r => ∀ c : Dev Cert.RefFps1Ideal.nD,
          r.2.mem ((c.tc : Thread Cert.RefFps1Ideal.nD Cert.RefFps1Ideal.τ).loc Cert.RefFps1Ideal.main_v12) = v0 c
          ∧ r.2.mem ((c.tc : Thread Cert.RefFps1Ideal.nD Cert.RefFps1Ideal.τ).loc Cert.RefFps1Ideal.main_arg0) = m' ((c.tc : Thread Cert.RefFps1Ideal.nD Cert.RefFps1Ideal.τ).loc Cert.RefFps1Ideal.main_arg0))

def preserves_Fps2_Fps2Ideal : Prop :=
  True

def algebraic_Fps2Ideal_RefFps2Ideal [hFps2Ideal : Cert.Fps2Ideal.Facts] [hRefFps2Ideal : Cert.RefFps2Ideal.Facts] : Prop :=
  ∀ (m : (ℓ : Loc Cert.Fps2Ideal.nD Cert.Fps2Ideal.τ Cert.Fps2Ideal.sig) → Buf (Elt Ideal) ℓ) (g : Dev Cert.Fps2Ideal.nD → PrngReg)
    (m' : (ℓ : Loc Cert.RefFps2Ideal.nD Cert.RefFps2Ideal.τ Cert.RefFps2Ideal.sig) → Buf (Elt Ideal) ℓ) (g' : Dev Cert.RefFps2Ideal.nD → PrngReg), Pre_Fps2Ideal m →
    (∀ c : Dev Cert.Fps2Ideal.nD,
      m' ((c.tc : Thread Cert.RefFps2Ideal.nD Cert.RefFps2Ideal.τ).loc Cert.RefFps2Ideal.main_arg0) = m ((c.tc : Thread Cert.Fps2Ideal.nD Cert.Fps2Ideal.τ).loc Cert.Fps2Ideal.main_arg0)) →
    ∃ (v0 : (c : Dev Cert.Fps2Ideal.nD) → Buf (Elt Ideal) ((c.tc : Thread Cert.Fps2Ideal.nD Cert.Fps2Ideal.τ).loc Cert.Fps2Ideal.main_v0)),
      θ_run (Cert.Fps2Ideal.defs (F := Ideal)) (onTc (τ := Cert.Fps2Ideal.τ) (Cert.Fps2Ideal.main (F := Ideal))) ⟨m, fun _ => 0, g⟩ (fun r => ∀ c : Dev Cert.Fps2Ideal.nD,
          r.2.mem ((c.tc : Thread Cert.Fps2Ideal.nD Cert.Fps2Ideal.τ).loc Cert.Fps2Ideal.main_v0) = v0 c
          ∧ r.2.mem ((c.tc : Thread Cert.Fps2Ideal.nD Cert.Fps2Ideal.τ).loc Cert.Fps2Ideal.main_arg0) = m ((c.tc : Thread Cert.Fps2Ideal.nD Cert.Fps2Ideal.τ).loc Cert.Fps2Ideal.main_arg0))
      ∧ θ_run (Cert.RefFps2Ideal.defs (F := Ideal)) (onTc (τ := Cert.RefFps2Ideal.τ) (Cert.RefFps2Ideal.main (F := Ideal))) ⟨m', fun _ => 0, g'⟩ (fun r => ∀ c : Dev Cert.RefFps2Ideal.nD,
          r.2.mem ((c.tc : Thread Cert.RefFps2Ideal.nD Cert.RefFps2Ideal.τ).loc Cert.RefFps2Ideal.main_v12) = v0 c
          ∧ r.2.mem ((c.tc : Thread Cert.RefFps2Ideal.nD Cert.RefFps2Ideal.τ).loc Cert.RefFps2Ideal.main_arg0) = m' ((c.tc : Thread Cert.RefFps2Ideal.nD Cert.RefFps2Ideal.τ).loc Cert.RefFps2Ideal.main_arg0))

def Claim : Prop :=
  ∃ (hFeat0 : Cert.Feat0.Facts) (hFeat0Ideal : Cert.Feat0Ideal.Facts) (hRef0Ideal : Cert.Ref0Ideal.Facts) (hFeat1 : Cert.Feat1.Facts) (hFeat1Ideal : Cert.Feat1Ideal.Facts) (hRef1Ideal : Cert.Ref1Ideal.Facts) (hFeat2 : Cert.Feat2.Facts) (hFeat2Ideal : Cert.Feat2Ideal.Facts) (hRef2Ideal : Cert.Ref2Ideal.Facts) (hFps0 : Cert.Fps0.Facts) (hFps0Ideal : Cert.Fps0Ideal.Facts) (hRefFps0Ideal : Cert.RefFps0Ideal.Facts) (hFps1 : Cert.Fps1.Facts) (hFps1Ideal : Cert.Fps1Ideal.Facts) (hRefFps1Ideal : Cert.RefFps1Ideal.Facts) (hFps2 : Cert.Fps2.Facts) (hFps2Ideal : Cert.Fps2Ideal.Facts) (hRefFps2Ideal : Cert.RefFps2Ideal.Facts),
    quiescent_Feat0 (hFeat0 := hFeat0)
    ∧ quiescent_Feat0Ideal (hFeat0Ideal := hFeat0Ideal)
    ∧ quiescent_Ref0Ideal (hRef0Ideal := hRef0Ideal)
    ∧ quiescent_Feat1 (hFeat1 := hFeat1)
    ∧ quiescent_Feat1Ideal (hFeat1Ideal := hFeat1Ideal)
    ∧ quiescent_Ref1Ideal (hRef1Ideal := hRef1Ideal)
    ∧ quiescent_Feat2 (hFeat2 := hFeat2)
    ∧ quiescent_Feat2Ideal (hFeat2Ideal := hFeat2Ideal)
    ∧ quiescent_Ref2Ideal (hRef2Ideal := hRef2Ideal)
    ∧ quiescent_Fps0 (hFps0 := hFps0)
    ∧ quiescent_Fps0Ideal (hFps0Ideal := hFps0Ideal)
    ∧ quiescent_RefFps0Ideal (hRefFps0Ideal := hRefFps0Ideal)
    ∧ quiescent_Fps1 (hFps1 := hFps1)
    ∧ quiescent_Fps1Ideal (hFps1Ideal := hFps1Ideal)
    ∧ quiescent_RefFps1Ideal (hRefFps1Ideal := hRefFps1Ideal)
    ∧ quiescent_Fps2 (hFps2 := hFps2)
    ∧ quiescent_Fps2Ideal (hFps2Ideal := hFps2Ideal)
    ∧ quiescent_RefFps2Ideal (hRefFps2Ideal := hRefFps2Ideal)
    ∧ preserves_Feat0_Feat0Ideal
    ∧ algebraic_Feat0Ideal_Ref0Ideal (hFeat0Ideal := hFeat0Ideal) (hRef0Ideal := hRef0Ideal)
    ∧ preserves_Feat1_Feat1Ideal
    ∧ algebraic_Feat1Ideal_Ref1Ideal (hFeat1Ideal := hFeat1Ideal) (hRef1Ideal := hRef1Ideal)
    ∧ preserves_Feat2_Feat2Ideal
    ∧ algebraic_Feat2Ideal_Ref2Ideal (hFeat2Ideal := hFeat2Ideal) (hRef2Ideal := hRef2Ideal)
    ∧ preserves_Fps0_Fps0Ideal
    ∧ algebraic_Fps0Ideal_RefFps0Ideal (hFps0Ideal := hFps0Ideal) (hRefFps0Ideal := hRefFps0Ideal)
    ∧ preserves_Fps1_Fps1Ideal
    ∧ algebraic_Fps1Ideal_RefFps1Ideal (hFps1Ideal := hFps1Ideal) (hRefFps1Ideal := hRefFps1Ideal)
    ∧ preserves_Fps2_Fps2Ideal
    ∧ algebraic_Fps2Ideal_RefFps2Ideal (hFps2Ideal := hFps2Ideal) (hRefFps2Ideal := hRefFps2Ideal)
-- ==== Feat0.lean ====
abbrev S4x512x32x96 : Shape := ⟨4, ![4, 512, 32, 96]⟩
abbrev S4x512x32x3 : Shape := ⟨4, ![4, 512, 32, 3]⟩
abbrev S4x512x3 : Shape := ⟨3, ![4, 512, 3]⟩
abbrev S1x1 : Shape := ⟨2, ![1, 1]⟩
abbrev S7x48 : Shape := ⟨2, ![7, 48]⟩
abbrev S192 : Shape := ⟨1, ![192]⟩
abbrev S1x192 : Shape := ⟨2, ![1, 192]⟩
abbrev S4x512x192 : Shape := ⟨3, ![4, 512, 192]⟩
abbrev S1x64x32x96 : Shape := ⟨4, ![1, 64, 32, 96]⟩
abbrev S1x64x32x3 : Shape := ⟨4, ![1, 64, 32, 3]⟩
abbrev S1x64x3 : Shape := ⟨3, ![1, 64, 3]⟩
abbrev S1x64x192 : Shape := ⟨3, ![1, 64, 192]⟩
abbrev S64x32x96 : Shape := ⟨3, ![64, 32, 96]⟩
abbrev S2048x96 : Shape := ⟨2, ![2048, 96]⟩
abbrev S64x32x3 : Shape := ⟨3, ![64, 32, 3]⟩
abbrev S2048x3 : Shape := ⟨2, ![2048, 3]⟩
abbrev S64x3 : Shape := ⟨2, ![64, 3]⟩
abbrev S64x1x3 : Shape := ⟨3, ![64, 1, 3]⟩
abbrev S2048x1 : Shape := ⟨2, ![2048, 1]⟩
abbrev S2048x7 : Shape := ⟨2, ![2048, 7]⟩
abbrev S2048x48 : Shape := ⟨2, ![2048, 48]⟩
abbrev S2048x192 : Shape := ⟨2, ![2048, 192]⟩
abbrev S64x32x192 : Shape := ⟨3, ![64, 32, 192]⟩
abbrev S64x192 : Shape := ⟨2, ![64, 192]⟩

abbrev nBuf : Space → Nat
  | .hbm => 13
  | .vmem => 14
  | .smem => 0
  | _ => 0

abbrev bufTy : (tb : Table) → Fin (tcTables nBuf tb) → BufTy
  | .hbm, ⟨0, _⟩ => ⟨S4x512x32x96, .f32⟩
  | .hbm, ⟨1, _⟩ => ⟨S4x512x32x3, .f32⟩
  | .hbm, ⟨2, _⟩ => ⟨S4x512x3, .f32⟩
  | .hbm, ⟨3, _⟩ => ⟨S1x1, .f32⟩
  | .hbm, ⟨4, _⟩ => ⟨S1x1, .f32⟩
  | .hbm, ⟨5, _⟩ => ⟨S7x48, .f32⟩
  | .hbm, ⟨6, _⟩ => ⟨S192, .i32⟩
  | .hbm, ⟨7, _⟩ => ⟨S1x192, .i32⟩
  | .hbm, ⟨8, _⟩ => ⟨S192, .f32⟩
  | .hbm, ⟨9, _⟩ => ⟨S1x192, .f32⟩
  | .hbm, ⟨10, _⟩ => ⟨S192, .f32⟩
  | .hbm, ⟨11, _⟩ => ⟨S1x192, .f32⟩
  | .hbm, ⟨12, _⟩ => ⟨S4x512x192, .f32⟩
  | .local _ .vmem, ⟨0, _⟩ => ⟨S1x64x32x96, .f32⟩
  | .local _ .vmem, ⟨1, _⟩ => ⟨S1x64x32x96, .f32⟩
  | .local _ .vmem, ⟨2, _⟩ => ⟨S1x64x32x3, .f32⟩
  | .local _ .vmem, ⟨3, _⟩ => ⟨S1x64x32x3, .f32⟩
  | .local _ .vmem, ⟨4, _⟩ => ⟨S1x64x3, .f32⟩
  | .local _ .vmem, ⟨5, _⟩ => ⟨S1x64x3, .f32⟩
  | .local _ .vmem, ⟨6, _⟩ => ⟨S1x1, .f32⟩
  | .local _ .vmem, ⟨7, _⟩ => ⟨S1x1, .f32⟩
  | .local _ .vmem, ⟨8, _⟩ => ⟨S7x48, .f32⟩
  | .local _ .vmem, ⟨9, _⟩ => ⟨S1x192, .i32⟩
  | .local _ .vmem, ⟨10, _⟩ => ⟨S1x192, .f32⟩
  | .local _ .vmem, ⟨11, _⟩ => ⟨S1x192, .f32⟩
  | .local _ .vmem, ⟨12, _⟩ => ⟨S1x64x192, .f32⟩
  | .local _ .vmem, ⟨13, _⟩ => ⟨S1x64x192, .f32⟩
  | _, _ => ⟨S4x512x32x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x32x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S7x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x192 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Feat0Ideal.lean ====
variable {F : FTy → Type} [FloatOps F] [Named F]
def κ : String → Option EReal := fun
  | "half_pi" => some (((1 / 2) * Real.pi : ℝ) : EReal)
  | _ => none
-- ==== Ref0Ideal.lean ====
abbrev S4x512x32x96 : Shape := ⟨4, ![4, 512, 32, 96]⟩
abbrev S4x512x32x3 : Shape := ⟨4, ![4, 512, 32, 3]⟩
abbrev S4x512x3 : Shape := ⟨3, ![4, 512, 3]⟩
abbrev S1x1 : Shape := ⟨2, ![1, 1]⟩
abbrev S7x48 : Shape := ⟨2, ![7, 48]⟩
abbrev S32 : Shape := ⟨1, ![32]⟩
abbrev S_ : Shape := ⟨0, ![]⟩
abbrev S4x512x1x3 : Shape := ⟨4, ![4, 512, 1, 3]⟩
abbrev S4x3x512x32 : Shape := ⟨4, ![4, 3, 512, 32]⟩
abbrev S4x96x512x32 : Shape := ⟨4, ![4, 96, 512, 32]⟩
abbrev S4x1x512x32 : Shape := ⟨4, ![4, 1, 512, 32]⟩
abbrev S4x512x32 : Shape := ⟨3, ![4, 512, 32]⟩
abbrev S4x7x512x32 : Shape := ⟨4, ![4, 7, 512, 32]⟩
abbrev S4x512x32x7 : Shape := ⟨4, ![4, 512, 32, 7]⟩
abbrev S4x512x32x48 : Shape := ⟨4, ![4, 512, 32, 48]⟩
abbrev S4x192x512x32 : Shape := ⟨4, ![4, 192, 512, 32]⟩
abbrev S4x3x512x32x1 : Shape := ⟨5, ![4, 3, 512, 32, 1]⟩
abbrev S1x1x1x1x32 : Shape := ⟨5, ![1, 1, 1, 1, 32]⟩
abbrev S4x3x512x32x32 : Shape := ⟨5, ![4, 3, 512, 32, 32]⟩
abbrev S4x3x512x32x32x1 : Shape := ⟨6, ![4, 3, 512, 32, 32, 1]⟩
abbrev S4x3x512x32x32x2 : Shape := ⟨6, ![4, 3, 512, 32, 32, 2]⟩
abbrev S4x3x512x32x64 : Shape := ⟨5, ![4, 3, 512, 32, 64]⟩
abbrev S4x3x64x512x32 : Shape := ⟨5, ![4, 3, 64, 512, 32]⟩
abbrev S4x192x512 : Shape := ⟨3, ![4, 192, 512]⟩
abbrev S4x512x192 : Shape := ⟨3, ![4, 512, 192]⟩

abbrev nBuf : Space → Nat
  | .hbm => 116
  | .vmem => 0
  | .smem => 0
  | _ => 0

abbrev bufTy : (tb : Table) → Fin (tcTables nBuf tb) → BufTy
  | .hbm, ⟨0, _⟩ => ⟨S4x512x32x96, .f32⟩
  | .hbm, ⟨1, _⟩ => ⟨S4x512x32x3, .f32⟩
  | .hbm, ⟨2, _⟩ => ⟨S4x512x3, .f32⟩
  | .hbm, ⟨3, _⟩ => ⟨S1x1, .f32⟩
  | .hbm, ⟨4, _⟩ => ⟨S1x1, .f32⟩
  | .hbm, ⟨5, _⟩ => ⟨S7x48, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x512x32x96, .f32⟩
  | .hbm, ⟨12, _⟩ => ⟨S4x512x32x96, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x512x32x3, .f32⟩
  | .hbm, ⟨17, _⟩ => ⟨S4x512x32x3, .f32⟩
  | .hbm, ⟨18, _⟩ => ⟨S4x512x1x3, .f32⟩
  | .hbm, ⟨19, _⟩ => ⟨S4x512x32x3, .f32⟩
  | .hbm, ⟨20, _⟩ => ⟨S4x3x512x32, .f32⟩
  | .hbm, ⟨21, _⟩ => ⟨S4x96x512x32, .f32⟩
  | .hbm, ⟨22, _⟩ => ⟨S4x3x512x32, .f32⟩
  | .hbm, ⟨23, _⟩ => ⟨S4x1x512x32, .f32⟩
  | .hbm, ⟨24, _⟩ => ⟨S4x512x32, .f32⟩
  | .hbm, ⟨25, _⟩ => ⟨S4x1x512x32, .f32⟩
  | .hbm, ⟨26, _⟩ => ⟨S4x512x32, .f32⟩
  | .hbm, ⟨27, _⟩ => ⟨S4x1x512x32, .f32⟩
  | .hbm, ⟨28, _⟩ => ⟨S4x512x32, .f32⟩
  | .hbm, ⟨29, _⟩ => ⟨S4x1x512x32, .f32⟩
  | .hbm, ⟨30, _⟩ => ⟨S4x512x32, .f32⟩
  | .hbm, ⟨31, _⟩ => ⟨S4x1x512x32, .f32⟩
  | .hbm, ⟨32, _⟩ => ⟨S4x512x32, .f32⟩
  | .hbm, ⟨33, _⟩ => ⟨S4x1x512x32, .f32⟩
  | .hbm, ⟨34, _⟩ => ⟨S4x512x32, .f32⟩
  | .hbm, ⟨35, _⟩ => ⟨S4x512x32, .f32⟩
  | .hbm, ⟨36, _⟩ => ⟨S4x512x32, .f32⟩
  | .hbm, ⟨37, _⟩ => ⟨S4x512x32, .f32⟩
  | .hbm, ⟨38, _⟩ => ⟨S4x512x32, .f32⟩
  | .hbm, ⟨39, _⟩ => ⟨S4x512x32, .f32⟩
  | .hbm, ⟨40, _⟩ => ⟨S4x512x32, .f32⟩
  | .hbm, ⟨41, _⟩ => ⟨S4x512x32, .f32⟩
  | .hbm, ⟨42, _⟩ => ⟨S4x512x32, .f32⟩
  | .hbm, ⟨43, _⟩ => ⟨S4x512x32, .f32⟩
  | .hbm, ⟨44, _⟩ => ⟨S4x1x512x32, .f32⟩
  | .hbm, ⟨45, _⟩ => ⟨S4x1x512x32, .f32⟩
  | .hbm, ⟨46, _⟩ => ⟨S4x1x512x32, .f32⟩
  | .hbm, ⟨47, _⟩ => ⟨S4x3x512x32, .f32⟩
  | .hbm, ⟨48, _⟩ => ⟨S4x3x512x32, .f32⟩
  | .hbm, ⟨49, _⟩ => ⟨S_, .f32⟩
  | .hbm, ⟨50, _⟩ => ⟨S4x512x32, .f32⟩
  | .hbm, ⟨51, _⟩ => ⟨S4x1x512x32, .f32⟩
  | .hbm, ⟨52, _⟩ => ⟨S4x7x512x32, .f32⟩
  | .hbm, ⟨53, _⟩ => ⟨S4x512x32x7, .f32⟩
  | .hbm, ⟨54, _⟩ => ⟨S4x512x32x48, .f32⟩
  | .hbm, ⟨55, _⟩ => ⟨S_, .f32⟩
  | .hbm, ⟨56, _⟩ => ⟨S4x512x32x48, .f32⟩
  | .hbm, ⟨57, _⟩ => ⟨S4x512x32x48, .f32⟩
  | .hbm, ⟨58, _⟩ => ⟨S4x512x32x48, .f32⟩
  | .hbm, ⟨59, _⟩ => ⟨S_, .f32⟩
  | .hbm, ⟨60, _⟩ => ⟨S4x512x32x48, .f32⟩
  | .hbm, ⟨61, _⟩ => ⟨S4x512x32x48, .f32⟩
  | .hbm, ⟨62, _⟩ => ⟨S4x512x32x48, .f32⟩
  | .hbm, ⟨63, _⟩ => ⟨S4x512x32x96, .f32⟩
  | .hbm, ⟨64, _⟩ => ⟨S4x512x32x96, .f32⟩
  | .hbm, ⟨65, _⟩ => ⟨S4x512x32x96, .f32⟩
  | .hbm, ⟨66, _⟩ => ⟨S4x512x32x96, .f32⟩
  | .hbm, ⟨67, _⟩ => ⟨S4x512x32x96, .f32⟩
  | .hbm, ⟨68, _⟩ => ⟨S4x512x32x96, .f32⟩
  | .hbm, ⟨69, _⟩ => ⟨S4x512x32x96, .f32⟩
  | .hbm, ⟨70, _⟩ => ⟨S4x96x512x32, .f32⟩
  | .hbm, ⟨71, _⟩ => ⟨S4x192x512x32, .f32⟩
  | .hbm, ⟨72, _⟩ => ⟨S4x3x512x32x1, .f32⟩
  | .hbm, ⟨73, _⟩ => ⟨S_, .f32⟩
  | .hbm, ⟨74, _⟩ => ⟨S4x3x512x32x1, .f32⟩
  | .hbm, ⟨75, _⟩ => ⟨S4x3x512x32x1, .f32⟩
  | .hbm, ⟨76, _⟩ => ⟨S1x1x1x1x32, .f32⟩
  | .hbm, ⟨77, _⟩ => ⟨S4x3x512x32x32, .f32⟩
  | .hbm, ⟨78, _⟩ => ⟨S4x3x512x32x32, .f32⟩
  | .hbm, ⟨79, _⟩ => ⟨S4x3x512x32x32, .f32⟩
  | .hbm, ⟨80, _⟩ => ⟨S4x3x512x32x32, .f32⟩
  | .hbm, ⟨81, _⟩ => ⟨S4x3x512x32x32, .f32⟩
  | .hbm, ⟨82, _⟩ => ⟨S4x3x512x32x32x1, .f32⟩
  | .hbm, ⟨83, _⟩ => ⟨S4x3x512x32x32x1, .f32⟩
  | .hbm, ⟨84, _⟩ => ⟨S4x3x512x32x32x2, .f32⟩
  | .hbm, ⟨85, _⟩ => ⟨S4x3x512x32x64, .f32⟩
  | .hbm, ⟨86, _⟩ => ⟨S4x3x64x512x32, .f32⟩
  | .hbm, ⟨87, _⟩ => ⟨S4x192x512x32, .f32⟩
  | .hbm, ⟨88, _⟩ => ⟨S4x3x512x32x1, .f32⟩
  | .hbm, ⟨89, _⟩ => ⟨S_, .f32⟩
  | .hbm, ⟨90, _⟩ => ⟨S4x3x512x32x1, .f32⟩
  | .hbm, ⟨91, _⟩ => ⟨S4x3x512x32x1, .f32⟩
  | .hbm, ⟨92, _⟩ => ⟨S1x1x1x1x32, .f32⟩
  | .hbm, ⟨93, _⟩ => ⟨S4x3x512x32x32, .f32⟩
  | .hbm, ⟨94, _⟩ => ⟨S4x3x512x32x32, .f32⟩
  | .hbm, ⟨95, _⟩ => ⟨S4x3x512x32x32, .f32⟩
  | .hbm, ⟨96, _⟩ => ⟨S4x3x512x32x32, .f32⟩
  | .hbm, ⟨97, _⟩ => ⟨S4x3x512x32x32, .f32⟩
  | .hbm, ⟨98, _⟩ => ⟨S4x3x512x32x32x1, .f32⟩
  | .hbm, ⟨99, _⟩ => ⟨S4x3x512x32x32x1, .f32⟩
  | .hbm, ⟨100, _⟩ => ⟨S4x3x512x32x32x2, .f32⟩
  | .hbm, ⟨101, _⟩ => ⟨S4x3x512x32x64, .f32⟩
  | .hbm, ⟨102, _⟩ => ⟨S4x3x64x512x32, .f32⟩
  | .hbm, ⟨103, _⟩ => ⟨S4x192x512x32, .f32⟩
  | .hbm, ⟨104, _⟩ => ⟨S4x192x512x32, .f32⟩
  | .hbm, ⟨105, _⟩ => ⟨S4x192x512x32, .f32⟩
  | .hbm, ⟨106, _⟩ => ⟨S4x192x512x32, .f32⟩
  | .hbm, ⟨107, _⟩ => ⟨S_, .f32⟩
  | .hbm, ⟨108, _⟩ => ⟨S4x192x512, .f32⟩
  | .hbm, ⟨109, _⟩ => ⟨S_, .f32⟩
  | .hbm, ⟨110, _⟩ => ⟨S4x192x512, .f32⟩
  | .hbm, ⟨111, _⟩ => ⟨S_, .f32⟩
  | .hbm, ⟨112, _⟩ => ⟨S4x192x512, .f32⟩
  | .hbm, ⟨113, _⟩ => ⟨S4x192x512, .f32⟩
  | .hbm, ⟨114, _⟩ => ⟨S4x192x512, .f32⟩
  | .hbm, ⟨115, _⟩ => ⟨S4x512x192, .f32⟩
  | _, _ => ⟨S4x512x32x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_cst_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_8 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_9 : Ref sig .tc := ⟨.hbm, 107, rfl⟩
abbrev main_v92 : Ref sig .tc := ⟨.hbm, 108, rfl⟩
abbrev main_cst_10 : Ref sig .tc := ⟨.hbm, 109, rfl⟩
abbrev main_v93 : Ref sig .tc := ⟨.hbm, 110, rfl⟩
abbrev main_cst_11 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩

abbrev nD : Nat := 1
abbrev τ : Topo := Topo.v7x

variable {F : FTy → Type} [FloatOps F]
-- ==== Feat1.lean ====
abbrev S4x256x32x192 : Shape := ⟨4, ![4, 256, 32, 192]⟩
abbrev S4x256x32x3 : Shape := ⟨4, ![4, 256, 32, 3]⟩
abbrev S4x256x3 : Shape := ⟨3, ![4, 256, 3]⟩
abbrev S1x1 : Shape := ⟨2, ![1, 1]⟩
abbrev S7x96 : Shape := ⟨2, ![7, 96]⟩
abbrev S384 : Shape := ⟨1, ![384]⟩
abbrev S1x384 : Shape := ⟨2, ![1, 384]⟩
abbrev S4x256x384 : Shape := ⟨3, ![4, 256, 384]⟩
abbrev S1x32x32x192 : Shape := ⟨4, ![1, 32, 32, 192]⟩
abbrev S1x32x32x3 : Shape := ⟨4, ![1, 32, 32, 3]⟩
abbrev S1x32x3 : Shape := ⟨3, ![1, 32, 3]⟩
abbrev S1x32x384 : Shape := ⟨3, ![1, 32, 384]⟩
abbrev S32x32x192 : Shape := ⟨3, ![32, 32, 192]⟩
abbrev S1024x192 : Shape := ⟨2, ![1024, 192]⟩
abbrev S32x32x3 : Shape := ⟨3, ![32, 32, 3]⟩
abbrev S1024x3 : Shape := ⟨2, ![1024, 3]⟩
abbrev S32x3 : Shape := ⟨2, ![32, 3]⟩
abbrev S32x1x3 : Shape := ⟨3, ![32, 1, 3]⟩
abbrev S1024x1 : Shape := ⟨2, ![1024, 1]⟩
abbrev S1024x7 : Shape := ⟨2, ![1024, 7]⟩
abbrev S1024x96 : Shape := ⟨2, ![1024, 96]⟩
abbrev S1024x384 : Shape := ⟨2, ![1024, 384]⟩
abbrev S32x32x384 : Shape := ⟨3, ![32, 32, 384]⟩
abbrev S32x384 : Shape := ⟨2, ![32, 384]⟩

abbrev nBuf : Space → Nat
  | .hbm => 13
  | .vmem => 14
  | .smem => 0
  | _ => 0

abbrev bufTy : (tb : Table) → Fin (tcTables nBuf tb) → BufTy
  | .hbm, ⟨0, _⟩ => ⟨S4x256x32x192, .f32⟩
  | .hbm, ⟨1, _⟩ => ⟨S4x256x32x3, .f32⟩
  | .hbm, ⟨2, _⟩ => ⟨S4x256x3, .f32⟩
  | .hbm, ⟨3, _⟩ => ⟨S1x1, .f32⟩
  | .hbm, ⟨4, _⟩ => ⟨S1x1, .f32⟩
  | .hbm, ⟨5, _⟩ => ⟨S7x96, .f32⟩
  | .hbm, ⟨6, _⟩ => ⟨S384, .i32⟩
  | .hbm, ⟨7, _⟩ => ⟨S1x384, .i32⟩
  | .hbm, ⟨8, _⟩ => ⟨S384, .f32⟩
  | .hbm, ⟨9, _⟩ => ⟨S1x384, .f32⟩
  | .hbm, ⟨10, _⟩ => ⟨S384, .f32⟩
  | .hbm, ⟨11, _⟩ => ⟨S1x384, .f32⟩
  | .hbm, ⟨12, _⟩ => ⟨S4x256x384, .f32⟩
  | .local _ .vmem, ⟨0, _⟩ => ⟨S1x32x32x192, .f32⟩
  | .local _ .vmem, ⟨1, _⟩ => ⟨S1x32x32x192, .f32⟩
  | .local _ .vmem, ⟨2, _⟩ => ⟨S1x32x32x3, .f32⟩
  | .local _ .vmem, ⟨3, _⟩ => ⟨S1x32x32x3, .f32⟩
  | .local _ .vmem, ⟨4, _⟩ => ⟨S1x32x3, .f32⟩
  | .local _ .vmem, ⟨5, _⟩ => ⟨S1x32x3, .f32⟩
  | .local _ .vmem, ⟨6, _⟩ => ⟨S1x1, .f32⟩
  | .local _ .vmem, ⟨7, _⟩ => ⟨S1x1, .f32⟩
  | .local _ .vmem, ⟨8, _⟩ => ⟨S7x96, .f32⟩
  | .local _ .vmem, ⟨9, _⟩ => ⟨S1x384, .i32⟩
  | .local _ .vmem, ⟨10, _⟩ => ⟨S1x384, .f32⟩
  | .local _ .vmem, ⟨11, _⟩ => ⟨S1x384, .f32⟩
  | .local _ .vmem, ⟨12, _⟩ => ⟨S1x32x384, .f32⟩
  | .local _ .vmem, ⟨13, _⟩ => ⟨S1x32x384, .f32⟩
  | _, _ => ⟨S4x256x32x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x32x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S7x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x32x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Feat1Ideal.lean ====
variable {F : FTy → Type} [FloatOps F] [Named F]
def κ : String → Option EReal := fun
  | "half_pi" => some (((1 / 2) * Real.pi : ℝ) : EReal)
  | _ => none
-- ==== Ref1Ideal.lean ====
abbrev S4x256x32x192 : Shape := ⟨4, ![4, 256, 32, 192]⟩
abbrev S4x256x32x3 : Shape := ⟨4, ![4, 256, 32, 3]⟩
abbrev S4x256x3 : Shape := ⟨3, ![4, 256, 3]⟩
abbrev S1x1 : Shape := ⟨2, ![1, 1]⟩
abbrev S7x96 : Shape := ⟨2, ![7, 96]⟩
abbrev S64 : Shape := ⟨1, ![64]⟩
abbrev S_ : Shape := ⟨0, ![]⟩
abbrev S4x256x1x3 : Shape := ⟨4, ![4, 256, 1, 3]⟩
abbrev S4x3x256x32 : Shape := ⟨4, ![4, 3, 256, 32]⟩
abbrev S4x192x256x32 : Shape := ⟨4, ![4, 192, 256, 32]⟩
abbrev S4x1x256x32 : Shape := ⟨4, ![4, 1, 256, 32]⟩
abbrev S4x256x32 : Shape := ⟨3, ![4, 256, 32]⟩
abbrev S4x7x256x32 : Shape := ⟨4, ![4, 7, 256, 32]⟩
abbrev S4x256x32x7 : Shape := ⟨4, ![4, 256, 32, 7]⟩
abbrev S4x256x32x96 : Shape := ⟨4, ![4, 256, 32, 96]⟩
abbrev S4x384x256x32 : Shape := ⟨4, ![4, 384, 256, 32]⟩
abbrev S4x3x256x32x1 : Shape := ⟨5, ![4, 3, 256, 32, 1]⟩
abbrev S1x1x1x1x64 : Shape := ⟨5, ![1, 1, 1, 1, 64]⟩
abbrev S4x3x256x32x64 : Shape := ⟨5, ![4, 3, 256, 32, 64]⟩
abbrev S4x3x256x32x64x1 : Shape := ⟨6, ![4, 3, 256, 32, 64, 1]⟩
abbrev S4x3x256x32x64x2 : Shape := ⟨6, ![4, 3, 256, 32, 64, 2]⟩
abbrev S4x3x256x32x128 : Shape := ⟨5, ![4, 3, 256, 32, 128]⟩
abbrev S4x3x128x256x32 : Shape := ⟨5, ![4, 3, 128, 256, 32]⟩
abbrev S4x384x256 : Shape := ⟨3, ![4, 384, 256]⟩
abbrev S4x256x384 : Shape := ⟨3, ![4, 256, 384]⟩

abbrev nBuf : Space → Nat
  | .hbm => 116
  | .vmem => 0
  | .smem => 0
  | _ => 0

abbrev bufTy : (tb : Table) → Fin (tcTables nBuf tb) → BufTy
  | .hbm, ⟨0, _⟩ => ⟨S4x256x32x192, .f32⟩
  | .hbm, ⟨1, _⟩ => ⟨S4x256x32x3, .f32⟩
  | .hbm, ⟨2, _⟩ => ⟨S4x256x3, .f32⟩
  | .hbm, ⟨3, _⟩ => ⟨S1x1, .f32⟩
  | .hbm, ⟨4, _⟩ => ⟨S1x1, .f32⟩
  | .hbm, ⟨5, _⟩ => ⟨S7x96, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x256x32x192, .f32⟩
  | .hbm, ⟨12, _⟩ => ⟨S4x256x32x192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x256x32x3, .f32⟩
  | .hbm, ⟨17, _⟩ => ⟨S4x256x32x3, .f32⟩
  | .hbm, ⟨18, _⟩ => ⟨S4x256x1x3, .f32⟩
  | .hbm, ⟨19, _⟩ => ⟨S4x256x32x3, .f32⟩
  | .hbm, ⟨20, _⟩ => ⟨S4x3x256x32, .f32⟩
  | .hbm, ⟨21, _⟩ => ⟨S4x192x256x32, .f32⟩
  | .hbm, ⟨22, _⟩ => ⟨S4x3x256x32, .f32⟩
  | .hbm, ⟨23, _⟩ => ⟨S4x1x256x32, .f32⟩
  | .hbm, ⟨24, _⟩ => ⟨S4x256x32, .f32⟩
  | .hbm, ⟨25, _⟩ => ⟨S4x1x256x32, .f32⟩
  | .hbm, ⟨26, _⟩ => ⟨S4x256x32, .f32⟩
  | .hbm, ⟨27, _⟩ => ⟨S4x1x256x32, .f32⟩
  | .hbm, ⟨28, _⟩ => ⟨S4x256x32, .f32⟩
  | .hbm, ⟨29, _⟩ => ⟨S4x1x256x32, .f32⟩
  | .hbm, ⟨30, _⟩ => ⟨S4x256x32, .f32⟩
  | .hbm, ⟨31, _⟩ => ⟨S4x1x256x32, .f32⟩
  | .hbm, ⟨32, _⟩ => ⟨S4x256x32, .f32⟩
  | .hbm, ⟨33, _⟩ => ⟨S4x1x256x32, .f32⟩
  | .hbm, ⟨34, _⟩ => ⟨S4x256x32, .f32⟩
  | .hbm, ⟨35, _⟩ => ⟨S4x256x32, .f32⟩
  | .hbm, ⟨36, _⟩ => ⟨S4x256x32, .f32⟩
  | .hbm, ⟨37, _⟩ => ⟨S4x256x32, .f32⟩
  | .hbm, ⟨38, _⟩ => ⟨S4x256x32, .f32⟩
  | .hbm, ⟨39, _⟩ => ⟨S4x256x32, .f32⟩
  | .hbm, ⟨40, _⟩ => ⟨S4x256x32, .f32⟩
  | .hbm, ⟨41, _⟩ => ⟨S4x256x32, .f32⟩
  | .hbm, ⟨42, _⟩ => ⟨S4x256x32, .f32⟩
  | .hbm, ⟨43, _⟩ => ⟨S4x256x32, .f32⟩
  | .hbm, ⟨44, _⟩ => ⟨S4x1x256x32, .f32⟩
  | .hbm, ⟨45, _⟩ => ⟨S4x1x256x32, .f32⟩
  | .hbm, ⟨46, _⟩ => ⟨S4x1x256x32, .f32⟩
  | .hbm, ⟨47, _⟩ => ⟨S4x3x256x32, .f32⟩
  | .hbm, ⟨48, _⟩ => ⟨S4x3x256x32, .f32⟩
  | .hbm, ⟨49, _⟩ => ⟨S_, .f32⟩
  | .hbm, ⟨50, _⟩ => ⟨S4x256x32, .f32⟩
  | .hbm, ⟨51, _⟩ => ⟨S4x1x256x32, .f32⟩
  | .hbm, ⟨52, _⟩ => ⟨S4x7x256x32, .f32⟩
  | .hbm, ⟨53, _⟩ => ⟨S4x256x32x7, .f32⟩
  | .hbm, ⟨54, _⟩ => ⟨S4x256x32x96, .f32⟩
  | .hbm, ⟨55, _⟩ => ⟨S_, .f32⟩
  | .hbm, ⟨56, _⟩ => ⟨S4x256x32x96, .f32⟩
  | .hbm, ⟨57, _⟩ => ⟨S4x256x32x96, .f32⟩
  | .hbm, ⟨58, _⟩ => ⟨S4x256x32x96, .f32⟩
  | .hbm, ⟨59, _⟩ => ⟨S_, .f32⟩
  | .hbm, ⟨60, _⟩ => ⟨S4x256x32x96, .f32⟩
  | .hbm, ⟨61, _⟩ => ⟨S4x256x32x96, .f32⟩
  | .hbm, ⟨62, _⟩ => ⟨S4x256x32x96, .f32⟩
  | .hbm, ⟨63, _⟩ => ⟨S4x256x32x192, .f32⟩
  | .hbm, ⟨64, _⟩ => ⟨S4x256x32x192, .f32⟩
  | .hbm, ⟨65, _⟩ => ⟨S4x256x32x192, .f32⟩
  | .hbm, ⟨66, _⟩ => ⟨S4x256x32x192, .f32⟩
  | .hbm, ⟨67, _⟩ => ⟨S4x256x32x192, .f32⟩
  | .hbm, ⟨68, _⟩ => ⟨S4x256x32x192, .f32⟩
  | .hbm, ⟨69, _⟩ => ⟨S4x256x32x192, .f32⟩
  | .hbm, ⟨70, _⟩ => ⟨S4x192x256x32, .f32⟩
  | .hbm, ⟨71, _⟩ => ⟨S4x384x256x32, .f32⟩
  | .hbm, ⟨72, _⟩ => ⟨S4x3x256x32x1, .f32⟩
  | .hbm, ⟨73, _⟩ => ⟨S_, .f32⟩
  | .hbm, ⟨74, _⟩ => ⟨S4x3x256x32x1, .f32⟩
  | .hbm, ⟨75, _⟩ => ⟨S4x3x256x32x1, .f32⟩
  | .hbm, ⟨76, _⟩ => ⟨S1x1x1x1x64, .f32⟩
  | .hbm, ⟨77, _⟩ => ⟨S4x3x256x32x64, .f32⟩
  | .hbm, ⟨78, _⟩ => ⟨S4x3x256x32x64, .f32⟩
  | .hbm, ⟨79, _⟩ => ⟨S4x3x256x32x64, .f32⟩
  | .hbm, ⟨80, _⟩ => ⟨S4x3x256x32x64, .f32⟩
  | .hbm, ⟨81, _⟩ => ⟨S4x3x256x32x64, .f32⟩
  | .hbm, ⟨82, _⟩ => ⟨S4x3x256x32x64x1, .f32⟩
  | .hbm, ⟨83, _⟩ => ⟨S4x3x256x32x64x1, .f32⟩
  | .hbm, ⟨84, _⟩ => ⟨S4x3x256x32x64x2, .f32⟩
  | .hbm, ⟨85, _⟩ => ⟨S4x3x256x32x128, .f32⟩
  | .hbm, ⟨86, _⟩ => ⟨S4x3x128x256x32, .f32⟩
  | .hbm, ⟨87, _⟩ => ⟨S4x384x256x32, .f32⟩
  | .hbm, ⟨88, _⟩ => ⟨S4x3x256x32x1, .f32⟩
  | .hbm, ⟨89, _⟩ => ⟨S_, .f32⟩
  | .hbm, ⟨90, _⟩ => ⟨S4x3x256x32x1, .f32⟩
  | .hbm, ⟨91, _⟩ => ⟨S4x3x256x32x1, .f32⟩
  | .hbm, ⟨92, _⟩ => ⟨S1x1x1x1x64, .f32⟩
  | .hbm, ⟨93, _⟩ => ⟨S4x3x256x32x64, .f32⟩
  | .hbm, ⟨94, _⟩ => ⟨S4x3x256x32x64, .f32⟩
  | .hbm, ⟨95, _⟩ => ⟨S4x3x256x32x64, .f32⟩
  | .hbm, ⟨96, _⟩ => ⟨S4x3x256x32x64, .f32⟩
  | .hbm, ⟨97, _⟩ => ⟨S4x3x256x32x64, .f32⟩
  | .hbm, ⟨98, _⟩ => ⟨S4x3x256x32x64x1, .f32⟩
  | .hbm, ⟨99, _⟩ => ⟨S4x3x256x32x64x1, .f32⟩
  | .hbm, ⟨100, _⟩ => ⟨S4x3x256x32x64x2, .f32⟩
  | .hbm, ⟨101, _⟩ => ⟨S4x3x256x32x128, .f32⟩
  | .hbm, ⟨102, _⟩ => ⟨S4x3x128x256x32, .f32⟩
  | .hbm, ⟨103, _⟩ => ⟨S4x384x256x32, .f32⟩
  | .hbm, ⟨104, _⟩ => ⟨S4x384x256x32, .f32⟩
  | .hbm, ⟨105, _⟩ => ⟨S4x384x256x32, .f32⟩
  | .hbm, ⟨106, _⟩ => ⟨S4x384x256x32, .f32⟩
  | .hbm, ⟨107, _⟩ => ⟨S_, .f32⟩
  | .hbm, ⟨108, _⟩ => ⟨S4x384x256, .f32⟩
  | .hbm, ⟨109, _⟩ => ⟨S_, .f32⟩
  | .hbm, ⟨110, _⟩ => ⟨S4x384x256, .f32⟩
  | .hbm, ⟨111, _⟩ => ⟨S_, .f32⟩
  | .hbm, ⟨112, _⟩ => ⟨S4x384x256, .f32⟩
  | .hbm, ⟨113, _⟩ => ⟨S4x384x256, .f32⟩
  | .hbm, ⟨114, _⟩ => ⟨S4x384x256, .f32⟩
  | .hbm, ⟨115, _⟩ => ⟨S4x256x384, .f32⟩
  | _, _ => ⟨S4x256x32x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_cst_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_8 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_9 : Ref sig .tc := ⟨.hbm, 107, rfl⟩
abbrev main_v92 : Ref sig .tc := ⟨.hbm, 108, rfl⟩
abbrev main_cst_10 : Ref sig .tc := ⟨.hbm, 109, rfl⟩
abbrev main_v93 : Ref sig .tc := ⟨.hbm, 110, rfl⟩
abbrev main_cst_11 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩

abbrev nD : Nat := 1
abbrev τ : Topo := Topo.v7x

variable {F : FTy → Type} [FloatOps F]
-- ==== Feat2.lean ====
abbrev S4x128x32x384 : Shape := ⟨4, ![4, 128, 32, 384]⟩
abbrev S4x128x32x3 : Shape := ⟨4, ![4, 128, 32, 3]⟩
abbrev S4x128x3 : Shape := ⟨3, ![4, 128, 3]⟩
abbrev S1x1 : Shape := ⟨2, ![1, 1]⟩
abbrev S7x192 : Shape := ⟨2, ![7, 192]⟩
abbrev S768 : Shape := ⟨1, ![768]⟩
abbrev S1x768 : Shape := ⟨2, ![1, 768]⟩
abbrev S4x128x768 : Shape := ⟨3, ![4, 128, 768]⟩
abbrev S1x16x32x384 : Shape := ⟨4, ![1, 16, 32, 384]⟩
abbrev S1x16x32x3 : Shape := ⟨4, ![1, 16, 32, 3]⟩
abbrev S1x16x3 : Shape := ⟨3, ![1, 16, 3]⟩
abbrev S1x16x768 : Shape := ⟨3, ![1, 16, 768]⟩
abbrev S16x32x384 : Shape := ⟨3, ![16, 32, 384]⟩
abbrev S512x384 : Shape := ⟨2, ![512, 384]⟩
abbrev S16x32x3 : Shape := ⟨3, ![16, 32, 3]⟩
abbrev S512x3 : Shape := ⟨2, ![512, 3]⟩
abbrev S16x3 : Shape := ⟨2, ![16, 3]⟩
abbrev S16x1x3 : Shape := ⟨3, ![16, 1, 3]⟩
abbrev S512x1 : Shape := ⟨2, ![512, 1]⟩
abbrev S512x7 : Shape := ⟨2, ![512, 7]⟩
abbrev S512x192 : Shape := ⟨2, ![512, 192]⟩
abbrev S512x768 : Shape := ⟨2, ![512, 768]⟩
abbrev S16x32x768 : Shape := ⟨3, ![16, 32, 768]⟩
abbrev S16x768 : Shape := ⟨2, ![16, 768]⟩
abbrev S4x768x128 : Shape := ⟨3, ![4, 768, 128]⟩

abbrev nBuf : Space → Nat
  | .hbm => 14
  | .vmem => 14
  | .smem => 0
  | _ => 0

abbrev bufTy : (tb : Table) → Fin (tcTables nBuf tb) → BufTy
  | .hbm, ⟨0, _⟩ => ⟨S4x128x32x384, .f32⟩
  | .hbm, ⟨1, _⟩ => ⟨S4x128x32x3, .f32⟩
  | .hbm, ⟨2, _⟩ => ⟨S4x128x3, .f32⟩
  | .hbm, ⟨3, _⟩ => ⟨S1x1, .f32⟩
  | .hbm, ⟨4, _⟩ => ⟨S1x1, .f32⟩
  | .hbm, ⟨5, _⟩ => ⟨S7x192, .f32⟩
  | .hbm, ⟨6, _⟩ => ⟨S768, .i32⟩
  | .hbm, ⟨7, _⟩ => ⟨S1x768, .i32⟩
  | .hbm, ⟨8, _⟩ => ⟨S768, .f32⟩
  | .hbm, ⟨9, _⟩ => ⟨S1x768, .f32⟩
  | .hbm, ⟨10, _⟩ => ⟨S768, .f32⟩
  | .hbm, ⟨11, _⟩ => ⟨S1x768, .f32⟩
  | .hbm, ⟨12, _⟩ => ⟨S4x128x768, .f32⟩
  | .hbm, ⟨13, _⟩ => ⟨S4x768x128, .f32⟩
  | .local _ .vmem, ⟨0, _⟩ => ⟨S1x16x32x384, .f32⟩
  | .local _ .vmem, ⟨1, _⟩ => ⟨S1x16x32x384, .f32⟩
  | .local _ .vmem, ⟨2, _⟩ => ⟨S1x16x32x3, .f32⟩
  | .local _ .vmem, ⟨3, _⟩ => ⟨S1x16x32x3, .f32⟩
  | .local _ .vmem, ⟨4, _⟩ => ⟨S1x16x3, .f32⟩
  | .local _ .vmem, ⟨5, _⟩ => ⟨S1x16x3, .f32⟩
  | .local _ .vmem, ⟨6, _⟩ => ⟨S1x1, .f32⟩
  | .local _ .vmem, ⟨7, _⟩ => ⟨S1x1, .f32⟩
  | .local _ .vmem, ⟨8, _⟩ => ⟨S7x192, .f32⟩
  | .local _ .vmem, ⟨9, _⟩ => ⟨S1x768, .i32⟩
  | .local _ .vmem, ⟨10, _⟩ => ⟨S1x768, .f32⟩
  | .local _ .vmem, ⟨11, _⟩ => ⟨S1x768, .f32⟩
  | .local _ .vmem, ⟨12, _⟩ => ⟨S1x16x768, .f32⟩
  | .local _ .vmem, ⟨13, _⟩ => ⟨S1x16x768, .f32⟩
  | _, _ => ⟨S4x128x32x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x32x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S7x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x768 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Feat2Ideal.lean ====
variable {F : FTy → Type} [FloatOps F] [Named F]
def κ : String → Option EReal := fun
  | "half_pi" => some (((1 / 2) * Real.pi : ℝ) : EReal)
  | _ => none
-- ==== Ref2Ideal.lean ====
abbrev S4x128x32x384 : Shape := ⟨4, ![4, 128, 32, 384]⟩
abbrev S4x128x32x3 : Shape := ⟨4, ![4, 128, 32, 3]⟩
abbrev S4x128x3 : Shape := ⟨3, ![4, 128, 3]⟩
abbrev S1x1 : Shape := ⟨2, ![1, 1]⟩
abbrev S7x192 : Shape := ⟨2, ![7, 192]⟩
abbrev S128 : Shape := ⟨1, ![128]⟩
abbrev S_ : Shape := ⟨0, ![]⟩
abbrev S4x128x1x3 : Shape := ⟨4, ![4, 128, 1, 3]⟩
abbrev S4x3x128x32 : Shape := ⟨4, ![4, 3, 128, 32]⟩
abbrev S4x384x128x32 : Shape := ⟨4, ![4, 384, 128, 32]⟩
abbrev S4x1x128x32 : Shape := ⟨4, ![4, 1, 128, 32]⟩
abbrev S4x128x32 : Shape := ⟨3, ![4, 128, 32]⟩
abbrev S4x7x128x32 : Shape := ⟨4, ![4, 7, 128, 32]⟩
abbrev S4x128x32x7 : Shape := ⟨4, ![4, 128, 32, 7]⟩
abbrev S4x128x32x192 : Shape := ⟨4, ![4, 128, 32, 192]⟩
abbrev S4x768x128x32 : Shape := ⟨4, ![4, 768, 128, 32]⟩
abbrev S4x3x128x32x1 : Shape := ⟨5, ![4, 3, 128, 32, 1]⟩
abbrev S1x1x1x1x128 : Shape := ⟨5, ![1, 1, 1, 1, 128]⟩
abbrev S4x3x128x32x128 : Shape := ⟨5, ![4, 3, 128, 32, 128]⟩
abbrev S4x3x128x32x128x1 : Shape := ⟨6, ![4, 3, 128, 32, 128, 1]⟩
abbrev S4x3x128x32x128x2 : Shape := ⟨6, ![4, 3, 128, 32, 128, 2]⟩
abbrev S4x3x128x32x256 : Shape := ⟨5, ![4, 3, 128, 32, 256]⟩
abbrev S4x3x256x128x32 : Shape := ⟨5, ![4, 3, 256, 128, 32]⟩
abbrev S4x768x128 : Shape := ⟨3, ![4, 768, 128]⟩
abbrev S4x128x768 : Shape := ⟨3, ![4, 128, 768]⟩

abbrev nBuf : Space → Nat
  | .hbm => 117
  | .vmem => 0
  | .smem => 0
  | _ => 0

abbrev bufTy : (tb : Table) → Fin (tcTables nBuf tb) → BufTy
  | .hbm, ⟨0, _⟩ => ⟨S4x128x32x384, .f32⟩
  | .hbm, ⟨1, _⟩ => ⟨S4x128x32x3, .f32⟩
  | .hbm, ⟨2, _⟩ => ⟨S4x128x3, .f32⟩
  | .hbm, ⟨3, _⟩ => ⟨S1x1, .f32⟩
  | .hbm, ⟨4, _⟩ => ⟨S1x1, .f32⟩
  | .hbm, ⟨5, _⟩ => ⟨S7x192, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x128x32x384, .f32⟩
  | .hbm, ⟨12, _⟩ => ⟨S4x128x32x384, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x128x32x3, .f32⟩
  | .hbm, ⟨17, _⟩ => ⟨S4x128x32x3, .f32⟩
  | .hbm, ⟨18, _⟩ => ⟨S4x128x1x3, .f32⟩
  | .hbm, ⟨19, _⟩ => ⟨S4x128x32x3, .f32⟩
  | .hbm, ⟨20, _⟩ => ⟨S4x3x128x32, .f32⟩
  | .hbm, ⟨21, _⟩ => ⟨S4x384x128x32, .f32⟩
  | .hbm, ⟨22, _⟩ => ⟨S4x3x128x32, .f32⟩
  | .hbm, ⟨23, _⟩ => ⟨S4x1x128x32, .f32⟩
  | .hbm, ⟨24, _⟩ => ⟨S4x128x32, .f32⟩
  | .hbm, ⟨25, _⟩ => ⟨S4x1x128x32, .f32⟩
  | .hbm, ⟨26, _⟩ => ⟨S4x128x32, .f32⟩
  | .hbm, ⟨27, _⟩ => ⟨S4x1x128x32, .f32⟩
  | .hbm, ⟨28, _⟩ => ⟨S4x128x32, .f32⟩
  | .hbm, ⟨29, _⟩ => ⟨S4x1x128x32, .f32⟩
  | .hbm, ⟨30, _⟩ => ⟨S4x128x32, .f32⟩
  | .hbm, ⟨31, _⟩ => ⟨S4x1x128x32, .f32⟩
  | .hbm, ⟨32, _⟩ => ⟨S4x128x32, .f32⟩
  | .hbm, ⟨33, _⟩ => ⟨S4x1x128x32, .f32⟩
  | .hbm, ⟨34, _⟩ => ⟨S4x128x32, .f32⟩
  | .hbm, ⟨35, _⟩ => ⟨S4x128x32, .f32⟩
  | .hbm, ⟨36, _⟩ => ⟨S4x128x32, .f32⟩
  | .hbm, ⟨37, _⟩ => ⟨S4x128x32, .f32⟩
  | .hbm, ⟨38, _⟩ => ⟨S4x128x32, .f32⟩
  | .hbm, ⟨39, _⟩ => ⟨S4x128x32, .f32⟩
  | .hbm, ⟨40, _⟩ => ⟨S4x128x32, .f32⟩
  | .hbm, ⟨41, _⟩ => ⟨S4x128x32, .f32⟩
  | .hbm, ⟨42, _⟩ => ⟨S4x128x32, .f32⟩
  | .hbm, ⟨43, _⟩ => ⟨S4x128x32, .f32⟩
  | .hbm, ⟨44, _⟩ => ⟨S4x1x128x32, .f32⟩
  | .hbm, ⟨45, _⟩ => ⟨S4x1x128x32, .f32⟩
  | .hbm, ⟨46, _⟩ => ⟨S4x1x128x32, .f32⟩
  | .hbm, ⟨47, _⟩ => ⟨S4x3x128x32, .f32⟩
  | .hbm, ⟨48, _⟩ => ⟨S4x3x128x32, .f32⟩
  | .hbm, ⟨49, _⟩ => ⟨S_, .f32⟩
  | .hbm, ⟨50, _⟩ => ⟨S4x128x32, .f32⟩
  | .hbm, ⟨51, _⟩ => ⟨S4x1x128x32, .f32⟩
  | .hbm, ⟨52, _⟩ => ⟨S4x7x128x32, .f32⟩
  | .hbm, ⟨53, _⟩ => ⟨S4x128x32x7, .f32⟩
  | .hbm, ⟨54, _⟩ => ⟨S4x128x32x192, .f32⟩
  | .hbm, ⟨55, _⟩ => ⟨S_, .f32⟩
  | .hbm, ⟨56, _⟩ => ⟨S4x128x32x192, .f32⟩
  | .hbm, ⟨57, _⟩ => ⟨S4x128x32x192, .f32⟩
  | .hbm, ⟨58, _⟩ => ⟨S4x128x32x192, .f32⟩
  | .hbm, ⟨59, _⟩ => ⟨S_, .f32⟩
  | .hbm, ⟨60, _⟩ => ⟨S4x128x32x192, .f32⟩
  | .hbm, ⟨61, _⟩ => ⟨S4x128x32x192, .f32⟩
  | .hbm, ⟨62, _⟩ => ⟨S4x128x32x192, .f32⟩
  | .hbm, ⟨63, _⟩ => ⟨S4x128x32x384, .f32⟩
  | .hbm, ⟨64, _⟩ => ⟨S4x128x32x384, .f32⟩
  | .hbm, ⟨65, _⟩ => ⟨S4x128x32x384, .f32⟩
  | .hbm, ⟨66, _⟩ => ⟨S4x128x32x384, .f32⟩
  | .hbm, ⟨67, _⟩ => ⟨S4x128x32x384, .f32⟩
  | .hbm, ⟨68, _⟩ => ⟨S4x128x32x384, .f32⟩
  | .hbm, ⟨69, _⟩ => ⟨S4x128x32x384, .f32⟩
  | .hbm, ⟨70, _⟩ => ⟨S4x384x128x32, .f32⟩
  | .hbm, ⟨71, _⟩ => ⟨S4x768x128x32, .f32⟩
  | .hbm, ⟨72, _⟩ => ⟨S4x3x128x32x1, .f32⟩
  | .hbm, ⟨73, _⟩ => ⟨S_, .f32⟩
  | .hbm, ⟨74, _⟩ => ⟨S4x3x128x32x1, .f32⟩
  | .hbm, ⟨75, _⟩ => ⟨S4x3x128x32x1, .f32⟩
  | .hbm, ⟨76, _⟩ => ⟨S1x1x1x1x128, .f32⟩
  | .hbm, ⟨77, _⟩ => ⟨S4x3x128x32x128, .f32⟩
  | .hbm, ⟨78, _⟩ => ⟨S4x3x128x32x128, .f32⟩
  | .hbm, ⟨79, _⟩ => ⟨S4x3x128x32x128, .f32⟩
  | .hbm, ⟨80, _⟩ => ⟨S4x3x128x32x128, .f32⟩
  | .hbm, ⟨81, _⟩ => ⟨S4x3x128x32x128, .f32⟩
  | .hbm, ⟨82, _⟩ => ⟨S4x3x128x32x128x1, .f32⟩
  | .hbm, ⟨83, _⟩ => ⟨S4x3x128x32x128x1, .f32⟩
  | .hbm, ⟨84, _⟩ => ⟨S4x3x128x32x128x2, .f32⟩
  | .hbm, ⟨85, _⟩ => ⟨S4x3x128x32x256, .f32⟩
  | .hbm, ⟨86, _⟩ => ⟨S4x3x256x128x32, .f32⟩
  | .hbm, ⟨87, _⟩ => ⟨S4x768x128x32, .f32⟩
  | .hbm, ⟨88, _⟩ => ⟨S4x3x128x32x1, .f32⟩
  | .hbm, ⟨89, _⟩ => ⟨S_, .f32⟩
  | .hbm, ⟨90, _⟩ => ⟨S4x3x128x32x1, .f32⟩
  | .hbm, ⟨91, _⟩ => ⟨S4x3x128x32x1, .f32⟩
  | .hbm, ⟨92, _⟩ => ⟨S1x1x1x1x128, .f32⟩
  | .hbm, ⟨93, _⟩ => ⟨S4x3x128x32x128, .f32⟩
  | .hbm, ⟨94, _⟩ => ⟨S4x3x128x32x128, .f32⟩
  | .hbm, ⟨95, _⟩ => ⟨S4x3x128x32x128, .f32⟩
  | .hbm, ⟨96, _⟩ => ⟨S4x3x128x32x128, .f32⟩
  | .hbm, ⟨97, _⟩ => ⟨S4x3x128x32x128, .f32⟩
  | .hbm, ⟨98, _⟩ => ⟨S4x3x128x32x128x1, .f32⟩
  | .hbm, ⟨99, _⟩ => ⟨S4x3x128x32x128x1, .f32⟩
  | .hbm, ⟨100, _⟩ => ⟨S4x3x128x32x128x2, .f32⟩
  | .hbm, ⟨101, _⟩ => ⟨S4x3x128x32x256, .f32⟩
  | .hbm, ⟨102, _⟩ => ⟨S4x3x256x128x32, .f32⟩
  | .hbm, ⟨103, _⟩ => ⟨S4x768x128x32, .f32⟩
  | .hbm, ⟨104, _⟩ => ⟨S4x768x128x32, .f32⟩
  | .hbm, ⟨105, _⟩ => ⟨S4x768x128x32, .f32⟩
  | .hbm, ⟨106, _⟩ => ⟨S4x768x128x32, .f32⟩
  | .hbm, ⟨107, _⟩ => ⟨S_, .f32⟩
  | .hbm, ⟨108, _⟩ => ⟨S4x768x128, .f32⟩
  | .hbm, ⟨109, _⟩ => ⟨S_, .f32⟩
  | .hbm, ⟨110, _⟩ => ⟨S4x768x128, .f32⟩
  | .hbm, ⟨111, _⟩ => ⟨S_, .f32⟩
  | .hbm, ⟨112, _⟩ => ⟨S4x768x128, .f32⟩
  | .hbm, ⟨113, _⟩ => ⟨S4x768x128, .f32⟩
  | .hbm, ⟨114, _⟩ => ⟨S4x768x128, .f32⟩
  | .hbm, ⟨115, _⟩ => ⟨S4x128x768, .f32⟩
  | .hbm, ⟨116, _⟩ => ⟨S4x768x128, .f32⟩
  | _, _ => ⟨S4x128x32x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_cst_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_8 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_9 : Ref sig .tc := ⟨.hbm, 107, rfl⟩
abbrev main_v92 : Ref sig .tc := ⟨.hbm, 108, rfl⟩
abbrev main_cst_10 : Ref sig .tc := ⟨.hbm, 109, rfl⟩
abbrev main_v93 : Ref sig .tc := ⟨.hbm, 110, rfl⟩
abbrev main_cst_11 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩

abbrev nD : Nat := 1
abbrev τ : Topo := Topo.v7x

variable {F : FTy → Type} [FloatOps F]
-- ==== Fps0.lean ====
abbrev S4x3x1024 : Shape := ⟨3, ![4, 3, 1024]⟩
abbrev S4x3x512 : Shape := ⟨3, ![4, 3, 512]⟩
abbrev S4x1024 : Shape := ⟨2, ![4, 1024]⟩
abbrev S4x1 : Shape := ⟨2, ![4, 1]⟩
abbrev S4x1x1024 : Shape := ⟨3, ![4, 1, 1024]⟩
abbrev S4x3 : Shape := ⟨2, ![4, 3]⟩
abbrev S4x3x1 : Shape := ⟨3, ![4, 3, 1]⟩
abbrev S4 : Shape := ⟨1, ![4]⟩

abbrev nBuf : Space → Nat
  | .hbm => 2
  | .vmem => 2
  | .smem => 0
  | _ => 0

abbrev bufTy : (tb : Table) → Fin (tcTables nBuf tb) → BufTy
  | .hbm, ⟨0, _⟩ => ⟨S4x3x1024, .f32⟩
  | .hbm, ⟨1, _⟩ => ⟨S4x3x512, .f32⟩
  | .local _ .vmem, ⟨0, _⟩ => ⟨S4x3x1024, .f32⟩
  | .local _ .vmem, ⟨1, _⟩ => ⟨S4x3x512, .f32⟩
  | _, _ => ⟨S4x3x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_6 : BitVec 32 := 0#32
  let c512_i32 : BitVec 32 := 512#32
  let v7 : BitVec 32 := Scalar.addi c0_i32_6 c512_i32
  let c1_i32 : BitVec 32 := 1#32
  ⟨c0_i32_6, v7, c1_i32⟩
abbrev stage0_0 : Fin 1 → Memref sig .tc .vmem S4x3x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefFps0Ideal.lean ====
abbrev S4x3x1024 : Shape := ⟨3, ![4, 3, 1024]⟩
abbrev S4x1024x3 : Shape := ⟨3, ![4, 1024, 3]⟩
abbrev S_ : Shape := ⟨0, ![]⟩
abbrev S4x512 : Shape := ⟨2, ![4, 512]⟩
abbrev S4x1024 : Shape := ⟨2, ![4, 1024]⟩
abbrev S4 : Shape := ⟨1, ![4]⟩
abbrev S1 : Shape := ⟨1, ![1]⟩
abbrev S4x1 : Shape := ⟨2, ![4, 1]⟩
abbrev S4x1x1 : Shape := ⟨3, ![4, 1, 1]⟩
abbrev S4x1x3 : Shape := ⟨3, ![4, 1, 3]⟩
abbrev S4x3 : Shape := ⟨2, ![4, 3]⟩
abbrev S4x512x1 : Shape := ⟨3, ![4, 512, 1]⟩
abbrev S4x512x3 : Shape := ⟨3, ![4, 512, 3]⟩
abbrev S4x3x512 : Shape := ⟨3, ![4, 3, 512]⟩

abbrev nBuf : Space → Nat
  | .hbm => 63
  | .vmem => 0
  | .smem => 0
  | _ => 0

abbrev bufTy : (tb : Table) → Fin (tcTables nBuf tb) → BufTy
  | .hbm, ⟨0, _⟩ => ⟨S4x3x1024, .f32⟩
  | .hbm, ⟨1, _⟩ => ⟨S4x1024x3, .f32⟩
  | .hbm, ⟨2, _⟩ => ⟨S_, .i32⟩
  | .hbm, ⟨3, _⟩ => ⟨S4x512, .i32⟩
  | .hbm, ⟨4, _⟩ => ⟨S_, .f32⟩
  | .hbm, ⟨5, _⟩ => ⟨S4x1024, .f32⟩
  | .hbm, ⟨6, _⟩ => ⟨S_, .i32⟩
  | .hbm, ⟨7, _⟩ => ⟨S4, .i32⟩
  | .hbm, ⟨8, _⟩ => ⟨S_, .i32⟩
  | .hbm, ⟨9, _⟩ => ⟨S_, .i32⟩
  | .hbm, ⟨10, _⟩ => ⟨S4x1024x3, .f32⟩
  | .hbm, ⟨11, _⟩ => ⟨S_, .i32⟩
  | .hbm, ⟨12, _⟩ => ⟨S_, .i32⟩
  | .hbm, ⟨13, _⟩ => ⟨S4x512, .i32⟩
  | .hbm, ⟨14, _⟩ => ⟨S4x1024, .f32⟩
  | .hbm, ⟨15, _⟩ => ⟨S4, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S4x512, .i32⟩
  | .hbm, ⟨28, _⟩ => ⟨S4x1, .i32⟩
  | .hbm, ⟨29, _⟩ => ⟨S_, .i32⟩
  | .hbm, ⟨30, _⟩ => ⟨S4x1, .i32⟩
  | .hbm, ⟨31, _⟩ => ⟨S4x1, .i1⟩
  | .hbm, ⟨32, _⟩ => ⟨S_, .i32⟩
  | .hbm, ⟨33, _⟩ => ⟨S4x1, .i32⟩
  | .hbm, ⟨34, _⟩ => ⟨S4x1, .i32⟩
  | .hbm, ⟨35, _⟩ => ⟨S4x1, .i32⟩
  | .hbm, ⟨36, _⟩ => ⟨S4x1x1, .i32⟩
  | .hbm, ⟨37, _⟩ => ⟨S4x1x3, .f32⟩
  | .hbm, ⟨38, _⟩ => ⟨S4x3, .f32⟩
  | .hbm, ⟨39, _⟩ => ⟨S4x1x3, .f32⟩
  | .hbm, ⟨40, _⟩ => ⟨S4x1024x3, .f32⟩
  | .hbm, ⟨41, _⟩ => ⟨S4x1024x3, .f32⟩
  | .hbm, ⟨42, _⟩ => ⟨S4x1024x3, .f32⟩
  | .hbm, ⟨43, _⟩ => ⟨S_, .f32⟩
  | .hbm, ⟨44, _⟩ => ⟨S4x1024, .f32⟩
  | .hbm, ⟨45, _⟩ => ⟨S4x1024, .f32⟩
  | .hbm, ⟨46, _⟩ => ⟨S4x1024, .i32⟩
  | .hbm, ⟨47, _⟩ => ⟨S_, .f32⟩
  | .hbm, ⟨48, _⟩ => ⟨S_, .i32⟩
  | .hbm, ⟨49, _⟩ => ⟨S4, .f32⟩
  | .hbm, ⟨50, _⟩ => ⟨S4, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S4x512, .i32⟩
  | .hbm, ⟨55, _⟩ => ⟨S4x512, .i1⟩
  | .hbm, ⟨56, _⟩ => ⟨S_, .i32⟩
  | .hbm, ⟨57, _⟩ => ⟨S4x512, .i32⟩
  | .hbm, ⟨58, _⟩ => ⟨S4x512, .i32⟩
  | .hbm, ⟨59, _⟩ => ⟨S4x512, .i32⟩
  | .hbm, ⟨60, _⟩ => ⟨S4x512x1, .i32⟩
  | .hbm, ⟨61, _⟩ => ⟨S4x512x3, .f32⟩
  | .hbm, ⟨62, _⟩ => ⟨S4x3x512, .f32⟩
  | _, _ => ⟨S4x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_c_2 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_while0c_c_10 : Ref sig .tc := ⟨.hbm, 16, rfl⟩
abbrev main_while0c_v13 : Ref sig .tc := ⟨.hbm, 17, rfl⟩
abbrev main_while0b_c_10 : Ref sig .tc := ⟨.hbm, 18, rfl⟩
abbrev main_while0b_v13 : Ref sig .tc := ⟨.hbm, 19, rfl⟩
abbrev main_while0b_c_11 : Ref sig .tc := ⟨.hbm, 20, rfl⟩
abbrev main_while0b_v14 : Ref sig .tc := ⟨.hbm, 21, rfl⟩
abbrev main_while0b_c_12 : Ref sig .tc := ⟨.hbm, 22, rfl⟩
abbrev main_while0b_v15 : Ref sig .tc := ⟨.hbm, 23, rfl⟩
abbrev main_while0b_v16 : Ref sig .tc := ⟨.hbm, 24, rfl⟩
abbrev main_while0b_v17 : Ref sig .tc := ⟨.hbm, 25, rfl⟩
abbrev main_while0b_v18 : Ref sig .tc := ⟨.hbm, 26, rfl⟩
abbrev main_while0b_v19 : Ref sig .tc := ⟨.hbm, 27, rfl⟩
abbrev main_while0b_v20 : Ref sig .tc := ⟨.hbm, 28, rfl⟩
abbrev main_while0b_c_13 : Ref sig .tc := ⟨.hbm, 29, rfl⟩
abbrev main_while0b_v21 : Ref sig .tc := ⟨.hbm, 30, rfl⟩
abbrev main_while0b_v22 : Ref sig .tc := ⟨.hbm, 31, rfl⟩
abbrev main_while0b_c_14 : Ref sig .tc := ⟨.hbm, 32, rfl⟩
abbrev main_while0b_v23 : Ref sig .tc := ⟨.hbm, 33, rfl⟩
abbrev main_while0b_v24 : Ref sig .tc := ⟨.hbm, 34, rfl⟩
abbrev main_while0b_v25 : Ref sig .tc := ⟨.hbm, 35, rfl⟩
abbrev main_while0b_v26 : Ref sig .tc := ⟨.hbm, 36, rfl⟩
abbrev main_while0b_v27 : Ref sig .tc := ⟨.hbm, 37, rfl⟩
abbrev main_while0b_v28 : Ref sig .tc := ⟨.hbm, 38, rfl⟩
abbrev main_while0b_v29 : Ref sig .tc := ⟨.hbm, 39, rfl⟩
abbrev main_while0b_v30 : Ref sig .tc := ⟨.hbm, 40, rfl⟩
abbrev main_while0b_v31 : Ref sig .tc := ⟨.hbm, 41, rfl⟩
abbrev main_while0b_v32 : Ref sig .tc := ⟨.hbm, 42, rfl⟩
abbrev main_while0b_cst_15 : Ref sig .tc := ⟨.hbm, 43, rfl⟩
abbrev main_while0b_v33 : Ref sig .tc := ⟨.hbm, 44, rfl⟩
abbrev main_while0b_v34 : Ref sig .tc := ⟨.hbm, 45, rfl⟩
abbrev main_while0b_call0_v0 : Ref sig .tc := ⟨.hbm, 46, rfl⟩
abbrev main_while0b_call0_cst : Ref sig .tc := ⟨.hbm, 47, rfl⟩
abbrev main_while0b_call0_c : Ref sig .tc := ⟨.hbm, 48, rfl⟩
abbrev main_while0b_call0_v1_0 : Ref sig .tc := ⟨.hbm, 49, rfl⟩
abbrev main_while0b_v35 : Ref sig .tc := ⟨.hbm, 50, rfl⟩
abbrev main_while0b_c_16 : Ref sig .tc := ⟨.hbm, 51, rfl⟩
abbrev main_while0b_v36 : Ref sig .tc := ⟨.hbm, 52, rfl⟩
abbrev main_c_3 : Ref sig .tc := ⟨.hbm, 53, rfl⟩
abbrev main_v5 : Ref sig .tc := ⟨.hbm, 54, rfl⟩
abbrev main_v6 : Ref sig .tc := ⟨.hbm, 55, rfl⟩
abbrev main_c_4 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩

abbrev nD : Nat := 1
abbrev τ : Topo := Topo.v7x

variable {F : FTy → Type} [FloatOps F]

abbrev main_while0_count : Scf.Loop 32 := ⟨0#32, 512#32, 1#32⟩
-- ==== Fps1.lean ====
abbrev S4x3x512 : Shape := ⟨3, ![4, 3, 512]⟩
abbrev S4x3x256 : Shape := ⟨3, ![4, 3, 256]⟩
abbrev S4x512 : Shape := ⟨2, ![4, 512]⟩
abbrev S4x1 : Shape := ⟨2, ![4, 1]⟩
abbrev S4x1x512 : Shape := ⟨3, ![4, 1, 512]⟩
abbrev S4x3 : Shape := ⟨2, ![4, 3]⟩
abbrev S4x3x1 : Shape := ⟨3, ![4, 3, 1]⟩
abbrev S4 : Shape := ⟨1, ![4]⟩

abbrev nBuf : Space → Nat
  | .hbm => 2
  | .vmem => 2
  | .smem => 0
  | _ => 0

abbrev bufTy : (tb : Table) → Fin (tcTables nBuf tb) → BufTy
  | .hbm, ⟨0, _⟩ => ⟨S4x3x512, .f32⟩
  | .hbm, ⟨1, _⟩ => ⟨S4x3x256, .f32⟩
  | .local _ .vmem, ⟨0, _⟩ => ⟨S4x3x512, .f32⟩
  | .local _ .vmem, ⟨1, _⟩ => ⟨S4x3x256, .f32⟩
  | _, _ => ⟨S4x3x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_6 : BitVec 32 := 0#32
  let c256_i32 : BitVec 32 := 256#32
  let v7 : BitVec 32 := Scalar.addi c0_i32_6 c256_i32
  let c1_i32 : BitVec 32 := 1#32
  ⟨c0_i32_6, v7, c1_i32⟩
abbrev stage0_0 : Fin 1 → Memref sig .tc .vmem S4x3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefFps1Ideal.lean ====
abbrev S4x3x512 : Shape := ⟨3, ![4, 3, 512]⟩
abbrev S4x512x3 : Shape := ⟨3, ![4, 512, 3]⟩
abbrev S_ : Shape := ⟨0, ![]⟩
abbrev S4x256 : Shape := ⟨2, ![4, 256]⟩
abbrev S4x512 : Shape := ⟨2, ![4, 512]⟩
abbrev S4 : Shape := ⟨1, ![4]⟩
abbrev S1 : Shape := ⟨1, ![1]⟩
abbrev S4x1 : Shape := ⟨2, ![4, 1]⟩
abbrev S4x1x1 : Shape := ⟨3, ![4, 1, 1]⟩
abbrev S4x1x3 : Shape := ⟨3, ![4, 1, 3]⟩
abbrev S4x3 : Shape := ⟨2, ![4, 3]⟩
abbrev S4x256x1 : Shape := ⟨3, ![4, 256, 1]⟩
abbrev S4x256x3 : Shape := ⟨3, ![4, 256, 3]⟩
abbrev S4x3x256 : Shape := ⟨3, ![4, 3, 256]⟩

abbrev nBuf : Space → Nat
  | .hbm => 63
  | .vmem => 0
  | .smem => 0
  | _ => 0

abbrev bufTy : (tb : Table) → Fin (tcTables nBuf tb) → BufTy
  | .hbm, ⟨0, _⟩ => ⟨S4x3x512, .f32⟩
  | .hbm, ⟨1, _⟩ => ⟨S4x512x3, .f32⟩
  | .hbm, ⟨2, _⟩ => ⟨S_, .i32⟩
  | .hbm, ⟨3, _⟩ => ⟨S4x256, .i32⟩
  | .hbm, ⟨4, _⟩ => ⟨S_, .f32⟩
  | .hbm, ⟨5, _⟩ => ⟨S4x512, .f32⟩
  | .hbm, ⟨6, _⟩ => ⟨S_, .i32⟩
  | .hbm, ⟨7, _⟩ => ⟨S4, .i32⟩
  | .hbm, ⟨8, _⟩ => ⟨S_, .i32⟩
  | .hbm, ⟨9, _⟩ => ⟨S_, .i32⟩
  | .hbm, ⟨10, _⟩ => ⟨S4x512x3, .f32⟩
  | .hbm, ⟨11, _⟩ => ⟨S_, .i32⟩
  | .hbm, ⟨12, _⟩ => ⟨S_, .i32⟩
  | .hbm, ⟨13, _⟩ => ⟨S4x256, .i32⟩
  | .hbm, ⟨14, _⟩ => ⟨S4x512, .f32⟩
  | .hbm, ⟨15, _⟩ => ⟨S4, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S4x256, .i32⟩
  | .hbm, ⟨28, _⟩ => ⟨S4x1, .i32⟩
  | .hbm, ⟨29, _⟩ => ⟨S_, .i32⟩
  | .hbm, ⟨30, _⟩ => ⟨S4x1, .i32⟩
  | .hbm, ⟨31, _⟩ => ⟨S4x1, .i1⟩
  | .hbm, ⟨32, _⟩ => ⟨S_, .i32⟩
  | .hbm, ⟨33, _⟩ => ⟨S4x1, .i32⟩
  | .hbm, ⟨34, _⟩ => ⟨S4x1, .i32⟩
  | .hbm, ⟨35, _⟩ => ⟨S4x1, .i32⟩
  | .hbm, ⟨36, _⟩ => ⟨S4x1x1, .i32⟩
  | .hbm, ⟨37, _⟩ => ⟨S4x1x3, .f32⟩
  | .hbm, ⟨38, _⟩ => ⟨S4x3, .f32⟩
  | .hbm, ⟨39, _⟩ => ⟨S4x1x3, .f32⟩
  | .hbm, ⟨40, _⟩ => ⟨S4x512x3, .f32⟩
  | .hbm, ⟨41, _⟩ => ⟨S4x512x3, .f32⟩
  | .hbm, ⟨42, _⟩ => ⟨S4x512x3, .f32⟩
  | .hbm, ⟨43, _⟩ => ⟨S_, .f32⟩
  | .hbm, ⟨44, _⟩ => ⟨S4x512, .f32⟩
  | .hbm, ⟨45, _⟩ => ⟨S4x512, .f32⟩
  | .hbm, ⟨46, _⟩ => ⟨S4x512, .i32⟩
  | .hbm, ⟨47, _⟩ => ⟨S_, .f32⟩
  | .hbm, ⟨48, _⟩ => ⟨S_, .i32⟩
  | .hbm, ⟨49, _⟩ => ⟨S4, .f32⟩
  | .hbm, ⟨50, _⟩ => ⟨S4, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S4x256, .i32⟩
  | .hbm, ⟨55, _⟩ => ⟨S4x256, .i1⟩
  | .hbm, ⟨56, _⟩ => ⟨S_, .i32⟩
  | .hbm, ⟨57, _⟩ => ⟨S4x256, .i32⟩
  | .hbm, ⟨58, _⟩ => ⟨S4x256, .i32⟩
  | .hbm, ⟨59, _⟩ => ⟨S4x256, .i32⟩
  | .hbm, ⟨60, _⟩ => ⟨S4x256x1, .i32⟩
  | .hbm, ⟨61, _⟩ => ⟨S4x256x3, .f32⟩
  | .hbm, ⟨62, _⟩ => ⟨S4x3x256, .f32⟩
  | _, _ => ⟨S4x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_c_2 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_while0c_c_10 : Ref sig .tc := ⟨.hbm, 16, rfl⟩
abbrev main_while0c_v13 : Ref sig .tc := ⟨.hbm, 17, rfl⟩
abbrev main_while0b_c_10 : Ref sig .tc := ⟨.hbm, 18, rfl⟩
abbrev main_while0b_v13 : Ref sig .tc := ⟨.hbm, 19, rfl⟩
abbrev main_while0b_c_11 : Ref sig .tc := ⟨.hbm, 20, rfl⟩
abbrev main_while0b_v14 : Ref sig .tc := ⟨.hbm, 21, rfl⟩
abbrev main_while0b_c_12 : Ref sig .tc := ⟨.hbm, 22, rfl⟩
abbrev main_while0b_v15 : Ref sig .tc := ⟨.hbm, 23, rfl⟩
abbrev main_while0b_v16 : Ref sig .tc := ⟨.hbm, 24, rfl⟩
abbrev main_while0b_v17 : Ref sig .tc := ⟨.hbm, 25, rfl⟩
abbrev main_while0b_v18 : Ref sig .tc := ⟨.hbm, 26, rfl⟩
abbrev main_while0b_v19 : Ref sig .tc := ⟨.hbm, 27, rfl⟩
abbrev main_while0b_v20 : Ref sig .tc := ⟨.hbm, 28, rfl⟩
abbrev main_while0b_c_13 : Ref sig .tc := ⟨.hbm, 29, rfl⟩
abbrev main_while0b_v21 : Ref sig .tc := ⟨.hbm, 30, rfl⟩
abbrev main_while0b_v22 : Ref sig .tc := ⟨.hbm, 31, rfl⟩
abbrev main_while0b_c_14 : Ref sig .tc := ⟨.hbm, 32, rfl⟩
abbrev main_while0b_v23 : Ref sig .tc := ⟨.hbm, 33, rfl⟩
abbrev main_while0b_v24 : Ref sig .tc := ⟨.hbm, 34, rfl⟩
abbrev main_while0b_v25 : Ref sig .tc := ⟨.hbm, 35, rfl⟩
abbrev main_while0b_v26 : Ref sig .tc := ⟨.hbm, 36, rfl⟩
abbrev main_while0b_v27 : Ref sig .tc := ⟨.hbm, 37, rfl⟩
abbrev main_while0b_v28 : Ref sig .tc := ⟨.hbm, 38, rfl⟩
abbrev main_while0b_v29 : Ref sig .tc := ⟨.hbm, 39, rfl⟩
abbrev main_while0b_v30 : Ref sig .tc := ⟨.hbm, 40, rfl⟩
abbrev main_while0b_v31 : Ref sig .tc := ⟨.hbm, 41, rfl⟩
abbrev main_while0b_v32 : Ref sig .tc := ⟨.hbm, 42, rfl⟩
abbrev main_while0b_cst_15 : Ref sig .tc := ⟨.hbm, 43, rfl⟩
abbrev main_while0b_v33 : Ref sig .tc := ⟨.hbm, 44, rfl⟩
abbrev main_while0b_v34 : Ref sig .tc := ⟨.hbm, 45, rfl⟩
abbrev main_while0b_call0_v0 : Ref sig .tc := ⟨.hbm, 46, rfl⟩
abbrev main_while0b_call0_cst : Ref sig .tc := ⟨.hbm, 47, rfl⟩
abbrev main_while0b_call0_c : Ref sig .tc := ⟨.hbm, 48, rfl⟩
abbrev main_while0b_call0_v1_0 : Ref sig .tc := ⟨.hbm, 49, rfl⟩
abbrev main_while0b_v35 : Ref sig .tc := ⟨.hbm, 50, rfl⟩
abbrev main_while0b_c_16 : Ref sig .tc := ⟨.hbm, 51, rfl⟩
abbrev main_while0b_v36 : Ref sig .tc := ⟨.hbm, 52, rfl⟩
abbrev main_c_3 : Ref sig .tc := ⟨.hbm, 53, rfl⟩
abbrev main_v5 : Ref sig .tc := ⟨.hbm, 54, rfl⟩
abbrev main_v6 : Ref sig .tc := ⟨.hbm, 55, rfl⟩
abbrev main_c_4 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩

abbrev nD : Nat := 1
abbrev τ : Topo := Topo.v7x

variable {F : FTy → Type} [FloatOps F]

abbrev main_while0_count : Scf.Loop 32 := ⟨0#32, 256#32, 1#32⟩
-- ==== Fps2.lean ====
abbrev S4x3x256 : Shape := ⟨3, ![4, 3, 256]⟩
abbrev S4x3x128 : Shape := ⟨3, ![4, 3, 128]⟩
abbrev S4x256 : Shape := ⟨2, ![4, 256]⟩
abbrev S4x1 : Shape := ⟨2, ![4, 1]⟩
abbrev S4x1x256 : Shape := ⟨3, ![4, 1, 256]⟩
abbrev S4x3 : Shape := ⟨2, ![4, 3]⟩
abbrev S4x3x1 : Shape := ⟨3, ![4, 3, 1]⟩
abbrev S4 : Shape := ⟨1, ![4]⟩

abbrev nBuf : Space → Nat
  | .hbm => 2
  | .vmem => 2
  | .smem => 0
  | _ => 0

abbrev bufTy : (tb : Table) → Fin (tcTables nBuf tb) → BufTy
  | .hbm, ⟨0, _⟩ => ⟨S4x3x256, .f32⟩
  | .hbm, ⟨1, _⟩ => ⟨S4x3x128, .f32⟩
  | .local _ .vmem, ⟨0, _⟩ => ⟨S4x3x256, .f32⟩
  | .local _ .vmem, ⟨1, _⟩ => ⟨S4x3x128, .f32⟩
  | _, _ => ⟨S4x3x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_6 : BitVec 32 := 0#32
  let c128_i32 : BitVec 32 := 128#32
  let v7 : BitVec 32 := Scalar.addi c0_i32_6 c128_i32
  let c1_i32 : BitVec 32 := 1#32
  ⟨c0_i32_6, v7, c1_i32⟩
abbrev stage0_0 : Fin 1 → Memref sig .tc .vmem S4x3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefFps2Ideal.lean ====
abbrev S4x3x256 : Shape := ⟨3, ![4, 3, 256]⟩
abbrev S4x256x3 : Shape := ⟨3, ![4, 256, 3]⟩
abbrev S_ : Shape := ⟨0, ![]⟩
abbrev S4x128 : Shape := ⟨2, ![4, 128]⟩
abbrev S4x256 : Shape := ⟨2, ![4, 256]⟩
abbrev S4 : Shape := ⟨1, ![4]⟩
abbrev S1 : Shape := ⟨1, ![1]⟩
abbrev S4x1 : Shape := ⟨2, ![4, 1]⟩
abbrev S4x1x1 : Shape := ⟨3, ![4, 1, 1]⟩
abbrev S4x1x3 : Shape := ⟨3, ![4, 1, 3]⟩
abbrev S4x3 : Shape := ⟨2, ![4, 3]⟩
abbrev S4x128x1 : Shape := ⟨3, ![4, 128, 1]⟩
abbrev S4x128x3 : Shape := ⟨3, ![4, 128, 3]⟩
abbrev S4x3x128 : Shape := ⟨3, ![4, 3, 128]⟩

abbrev nBuf : Space → Nat
  | .hbm => 63
  | .vmem => 0
  | .smem => 0
  | _ => 0

abbrev bufTy : (tb : Table) → Fin (tcTables nBuf tb) → BufTy
  | .hbm, ⟨0, _⟩ => ⟨S4x3x256, .f32⟩
  | .hbm, ⟨1, _⟩ => ⟨S4x256x3, .f32⟩
  | .hbm, ⟨2, _⟩ => ⟨S_, .i32⟩
  | .hbm, ⟨3, _⟩ => ⟨S4x128, .i32⟩
  | .hbm, ⟨4, _⟩ => ⟨S_, .f32⟩
  | .hbm, ⟨5, _⟩ => ⟨S4x256, .f32⟩
  | .hbm, ⟨6, _⟩ => ⟨S_, .i32⟩
  | .hbm, ⟨7, _⟩ => ⟨S4, .i32⟩
  | .hbm, ⟨8, _⟩ => ⟨S_, .i32⟩
  | .hbm, ⟨9, _⟩ => ⟨S_, .i32⟩
  | .hbm, ⟨10, _⟩ => ⟨S4x256x3, .f32⟩
  | .hbm, ⟨11, _⟩ => ⟨S_, .i32⟩
  | .hbm, ⟨12, _⟩ => ⟨S_, .i32⟩
  | .hbm, ⟨13, _⟩ => ⟨S4x128, .i32⟩
  | .hbm, ⟨14, _⟩ => ⟨S4x256, .f32⟩
  | .hbm, ⟨15, _⟩ => ⟨S4, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S4x128, .i32⟩
  | .hbm, ⟨28, _⟩ => ⟨S4x1, .i32⟩
  | .hbm, ⟨29, _⟩ => ⟨S_, .i32⟩
  | .hbm, ⟨30, _⟩ => ⟨S4x1, .i32⟩
  | .hbm, ⟨31, _⟩ => ⟨S4x1, .i1⟩
  | .hbm, ⟨32, _⟩ => ⟨S_, .i32⟩
  | .hbm, ⟨33, _⟩ => ⟨S4x1, .i32⟩
  | .hbm, ⟨34, _⟩ => ⟨S4x1, .i32⟩
  | .hbm, ⟨35, _⟩ => ⟨S4x1, .i32⟩
  | .hbm, ⟨36, _⟩ => ⟨S4x1x1, .i32⟩
  | .hbm, ⟨37, _⟩ => ⟨S4x1x3, .f32⟩
  | .hbm, ⟨38, _⟩ => ⟨S4x3, .f32⟩
  | .hbm, ⟨39, _⟩ => ⟨S4x1x3, .f32⟩
  | .hbm, ⟨40, _⟩ => ⟨S4x256x3, .f32⟩
  | .hbm, ⟨41, _⟩ => ⟨S4x256x3, .f32⟩
  | .hbm, ⟨42, _⟩ => ⟨S4x256x3, .f32⟩
  | .hbm, ⟨43, _⟩ => ⟨S_, .f32⟩
  | .hbm, ⟨44, _⟩ => ⟨S4x256, .f32⟩
  | .hbm, ⟨45, _⟩ => ⟨S4x256, .f32⟩
  | .hbm, ⟨46, _⟩ => ⟨S4x256, .i32⟩
  | .hbm, ⟨47, _⟩ => ⟨S_, .f32⟩
  | .hbm, ⟨48, _⟩ => ⟨S_, .i32⟩
  | .hbm, ⟨49, _⟩ => ⟨S4, .f32⟩
  | .hbm, ⟨50, _⟩ => ⟨S4, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S4x128, .i32⟩
  | .hbm, ⟨55, _⟩ => ⟨S4x128, .i1⟩
  | .hbm, ⟨56, _⟩ => ⟨S_, .i32⟩
  | .hbm, ⟨57, _⟩ => ⟨S4x128, .i32⟩
  | .hbm, ⟨58, _⟩ => ⟨S4x128, .i32⟩
  | .hbm, ⟨59, _⟩ => ⟨S4x128, .i32⟩
  | .hbm, ⟨60, _⟩ => ⟨S4x128x1, .i32⟩
  | .hbm, ⟨61, _⟩ => ⟨S4x128x3, .f32⟩
  | .hbm, ⟨62, _⟩ => ⟨S4x3x128, .f32⟩
  | _, _ => ⟨S4x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_c_2 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_while0c_c_10 : Ref sig .tc := ⟨.hbm, 16, rfl⟩
abbrev main_while0c_v13 : Ref sig .tc := ⟨.hbm, 17, rfl⟩
abbrev main_while0b_c_10 : Ref sig .tc := ⟨.hbm, 18, rfl⟩
abbrev main_while0b_v13 : Ref sig .tc := ⟨.hbm, 19, rfl⟩
abbrev main_while0b_c_11 : Ref sig .tc := ⟨.hbm, 20, rfl⟩
abbrev main_while0b_v14 : Ref sig .tc := ⟨.hbm, 21, rfl⟩
abbrev main_while0b_c_12 : Ref sig .tc := ⟨.hbm, 22, rfl⟩
abbrev main_while0b_v15 : Ref sig .tc := ⟨.hbm, 23, rfl⟩
abbrev main_while0b_v16 : Ref sig .tc := ⟨.hbm, 24, rfl⟩
abbrev main_while0b_v17 : Ref sig .tc := ⟨.hbm, 25, rfl⟩
abbrev main_while0b_v18 : Ref sig .tc := ⟨.hbm, 26, rfl⟩
abbrev main_while0b_v19 : Ref sig .tc := ⟨.hbm, 27, rfl⟩
abbrev main_while0b_v20 : Ref sig .tc := ⟨.hbm, 28, rfl⟩
abbrev main_while0b_c_13 : Ref sig .tc := ⟨.hbm, 29, rfl⟩
abbrev main_while0b_v21 : Ref sig .tc := ⟨.hbm, 30, rfl⟩
abbrev main_while0b_v22 : Ref sig .tc := ⟨.hbm, 31, rfl⟩
abbrev main_while0b_c_14 : Ref sig .tc := ⟨.hbm, 32, rfl⟩
abbrev main_while0b_v23 : Ref sig .tc := ⟨.hbm, 33, rfl⟩
abbrev main_while0b_v24 : Ref sig .tc := ⟨.hbm, 34, rfl⟩
abbrev main_while0b_v25 : Ref sig .tc := ⟨.hbm, 35, rfl⟩
abbrev main_while0b_v26 : Ref sig .tc := ⟨.hbm, 36, rfl⟩
abbrev main_while0b_v27 : Ref sig .tc := ⟨.hbm, 37, rfl⟩
abbrev main_while0b_v28 : Ref sig .tc := ⟨.hbm, 38, rfl⟩
abbrev main_while0b_v29 : Ref sig .tc := ⟨.hbm, 39, rfl⟩
abbrev main_while0b_v30 : Ref sig .tc := ⟨.hbm, 40, rfl⟩
abbrev main_while0b_v31 : Ref sig .tc := ⟨.hbm, 41, rfl⟩
abbrev main_while0b_v32 : Ref sig .tc := ⟨.hbm, 42, rfl⟩
abbrev main_while0b_cst_15 : Ref sig .tc := ⟨.hbm, 43, rfl⟩
abbrev main_while0b_v33 : Ref sig .tc := ⟨.hbm, 44, rfl⟩
abbrev main_while0b_v34 : Ref sig .tc := ⟨.hbm, 45, rfl⟩
abbrev main_while0b_call0_v0 : Ref sig .tc := ⟨.hbm, 46, rfl⟩
abbrev main_while0b_call0_cst : Ref sig .tc := ⟨.hbm, 47, rfl⟩
abbrev main_while0b_call0_c : Ref sig .tc := ⟨.hbm, 48, rfl⟩
abbrev main_while0b_call0_v1_0 : Ref sig .tc := ⟨.hbm, 49, rfl⟩
abbrev main_while0b_v35 : Ref sig .tc := ⟨.hbm, 50, rfl⟩
abbrev main_while0b_c_16 : Ref sig .tc := ⟨.hbm, 51, rfl⟩
abbrev main_while0b_v36 : Ref sig .tc := ⟨.hbm, 52, rfl⟩
abbrev main_c_3 : Ref sig .tc := ⟨.hbm, 53, rfl⟩
abbrev main_v5 : Ref sig .tc := ⟨.hbm, 54, rfl⟩
abbrev main_v6 : Ref sig .tc := ⟨.hbm, 55, rfl⟩
abbrev main_c_4 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩

abbrev nD : Nat := 1
abbrev τ : Topo := Topo.v7x

variable {F : FTy → Type} [FloatOps F]

abbrev main_while0_count : Scf.Loop 32 := ⟨0#32, 128#32, 1#32⟩
-- ==== Proof.Spec.lean ====
/- The mathematics of one neighbour of one group, over the extended reals: the seven features (position, cross product,
   inner product), their Fourier features to the fifth power, the sine and cosine position code, the combination of the
   three, and the pooling over the neighbours. Every constant that both programs spell by the same word stays that word. -/
module

public import Idealize.ShloMosaic.PureOps
public import Idealize.ShloMosaic.PureOps.Ideal.Laws
public import Idealize.ShloMosaic.Lib.ValueIdx
public import Idealize.ShloMosaic.Lib.Pipeline.Value
public import Idealize.ShloMosaic.Lib.MatmulPlain

@[expose] public section

noncomputable section

open scoped BigOperators

namespace Cert.Spec

open Idealize.ShloMosaic

/-- A quotient by a deviation moved off zero. -/
def scaled (x d : EReal) : EReal := Ideal.div x (d + Ideal.ofBits .f32 0x3727C5AC#32)

/-- The seven features of a neighbour at `z` of a centre at `l`: the position, the cross product, the inner product. -/
def emb (z l : Fin 3 → EReal) : Fin 7 → EReal :=
  ![z 0, z 1, z 2, z 1 * l 2 - z 2 * l 1, z 2 * l 0 - z 0 * l 2, z 0 * l 1 - z 1 * l 0,
    z 0 * l 0 + z 1 * l 1 + z 2 * l 2]

/-- The phase of one Fourier feature: a turn times the projection on the column `W`. -/
def phase (z l : Fin 3 → EReal) (W : Fin 7 → EReal) : EReal :=
  Ideal.ofBits .f32 0x40C90FDB#32 * ∑ j, emb z l j * W j

/-- The fifth power, by squaring. -/
def pow5 (f : EReal) : EReal := f * (f * f * (f * f))

/-- The weight column `c`: a channel of the neighbour, then the sine features, then the cosine features. -/
def wcol {C H : ℕ} (kx : Fin C → EReal) (W : Fin 7 → Fin H → EReal) (z l : Fin 3 → EReal) (c : ℕ) : EReal :=
  if h : c < C then kx ⟨c, h⟩
  else if h : c - C < H then pow5 (Ideal.sin (phase z l fun j => W j ⟨c - C, h⟩))
  else if h : c - C - H < H then pow5 (Ideal.cos (phase z l fun j => W j ⟨c - C - H, h⟩))
  else 0

/-- The angle of a coordinate at a frequency. -/
def angle (t d : EReal) : EReal := Ideal.div (Ideal.ofBits .f32 0x42C80000#32 * t) d

/-- The position code of a point `t` at column `c`, the frequencies `de`: axis `c / (2 fd)`, frequency `c % (2 fd) / 2`,
    the sine at an even column and the cosine at an odd one. -/
def pcol {fd : ℕ} (hfd : 0 < fd) (de : Fin fd → EReal) (t : Fin 3 → EReal) (c : Fin (6 * fd)) : EReal :=
  let a := angle (t ⟨c.val / (2 * fd), by have := c.isLt; rw [Nat.div_lt_iff_lt_mul (by omega)]; omega⟩)
    (de ⟨c.val % (2 * fd) / 2, by have := Nat.mod_lt c.val (show 0 < 2 * fd by omega); omega⟩)
  if c.val % 2 = 0 then Ideal.sin a else Ideal.cos a

/-- One neighbour's combined column. -/
def fin (w p : EReal) : EReal := (w + p) * p

/-- The pooling over the neighbours: the maximum plus the mean. -/
def pool (f : Fin 32 → EReal) : EReal :=
  (Finset.univ : Finset (Fin 32)).fold max (Ideal.ofBits .f32 0xFF800000#32) f + (∑ k, f k) * ((1 / 32 : ℝ) : EReal)

/-- The whole column of one group. -/
def feature {fd C H : ℕ} (hfd : 0 < fd) (de : Fin fd → EReal) (W : Fin 7 → Fin H → EReal) (kx : Fin 32 → Fin C → EReal)
    (z : Fin 32 → Fin 3 → EReal) (l : Fin 3 → EReal) (c : Fin (6 * fd)) : EReal :=
  pool fun k => fin (wcol (kx k) W (z k) l c.val) (pcol hfd de (z k) c + pcol hfd de l c)

/-! ## Facts over the extended reals -/

/-- The sine a quarter turn later is the cosine. -/
theorem sin_add_quarter (x : EReal) : Ideal.sin (x + 1 * (((1 / 2) * Real.pi : ℝ) : EReal)) = Ideal.cos x := by
  rw [one_mul]
  induction x with
  | bot => simp
  | top => rw [EReal.top_add_coe, Ideal.sin_top, Ideal.cos_top]
  | coe r =>
    rw [← EReal.coe_add, Ideal.sin_coe, Ideal.cos_coe, show (1 / 2) * Real.pi = Real.pi / 2 by ring, Real.sin_add_pi_div_two]

/-- No turn added. -/
theorem sin_add_none (x y : EReal) : Ideal.sin (x + 0 * y) = Ideal.sin x := by rw [zero_mul, add_zero]

/-- The fifth power by sign and magnitude, at a number or at the bottom. -/
theorem sign_mul_abs (f : EReal) (hf : f ≠ ⊤) :
    Ideal.sign f * (max f (-f) * (max f (-f) * max f (-f) * (max f (-f) * max f (-f)))) = pow5 f := by
  unfold pow5
  induction f with
  | bot =>
    have h : max (⊥ : EReal) (-⊥) = ⊤ := by simp
    rw [h]
    show (-1 : EReal) * _ = _
    simp
  | top => exact absurd rfl hf
  | coe r =>
    have hm : max (r : EReal) (-(r : EReal)) = ((|r| : ℝ) : EReal) := by
      rw [← EReal.coe_neg]; exact (EReal.coe_strictMono.monotone.map_max (a := r) (b := -r)).symm
    rw [hm]
    show ((SignType.sign r : ℝ) : EReal) * _ = _
    simp only [← EReal.coe_mul]
    congr 1
    rw [show |r| * (|r| * |r| * (|r| * |r|)) = |r| * ((r * r) * (r * r)) by rw [abs_mul_abs_self], ← mul_assoc,
      _root_.sign_mul_abs]

/-- A sine or a cosine is never the top. -/
theorem sin_ne_top (x : EReal) : Ideal.sin x ≠ ⊤ := by
  induction x with
  | bot => simp
  | top => simp
  | coe r => simp

theorem cos_ne_top (x : EReal) : Ideal.cos x ≠ ⊤ := by
  induction x with
  | bot => simp
  | top => simp
  | coe r => simp

/-- The word of one thirty-second. -/
theorem word_thirtysecond : Ideal.ofBits .f32 0x3D000000#32 = ((1 / 32 : ℝ) : EReal) := by
  simp [Ideal.ofBits, Ideal.ieee]; rw [← EReal.coe_mul]; norm_num

/-- The word of thirty-two. -/
theorem word_thirtytwo : Ideal.ofBits .f32 0x42000000#32 = ((32 : ℝ) : EReal) := by
  simp [Ideal.ofBits, Ideal.ieee]; rw [← EReal.coe_mul]; norm_num

/-- The word of one. -/
theorem word_one : Ideal.ofBits .f32 0x3F800000#32 = 1 := by
  simp [Ideal.ofBits, Ideal.ieee]; rw [← EReal.coe_mul]; norm_num

/-- The mean as the quotient by thirty-two. -/
theorem div_thirtytwo (s : EReal) : Ideal.div s (Ideal.ofBits .f32 0x42000000#32) = s * ((1 / 32 : ℝ) : EReal) := by
  rw [word_thirtytwo, Ideal.div_coe (by norm_num)]

end Cert.Spec

end
-- ==== Proof.Block.lean ====
/- What one block of the kernel computes, for any number of groups `g`, rows `R = 32 g`, channels `C = 2 H` and columns
   `C2 = 6 fd`: the block's vector operations as one function of its nine operands, and that function read at an index. -/
module

public import proofs.«01_k».proof.Proof.Spec

@[expose] public section

noncomputable section

open scoped BigOperators

namespace Cert.Block

open Idealize.ShloMosaic Idealize.ShloMosaic.ValueIdx Cert.Spec

abbrev Sh2 (a b : ℕ) : Shape := ⟨2, ![a, b]⟩
abbrev Sh3 (a b c : ℕ) : Shape := ⟨3, ![a, b, c]⟩
abbrev Sh4 (a b c d : ℕ) : Shape := ⟨4, ![a, b, c, d]⟩

/-- The shapes of the block's operations fit. -/
structure Fits (g R C C2 H : ℕ) : Prop where
  x3 : (Sh4 1 g 32 C).ShapeCasts (Sh3 g 32 C)
  x2 : (Sh3 g 32 C).ShapeCasts (Sh2 R C)
  e : ∀ a, (![0, 0] : Fin 2 → Nat) a < (Sh2 1 1).size a
  z3 : (Sh4 1 g 32 3).ShapeCasts (Sh3 g 32 3)
  z2 : (Sh3 g 32 3).ShapeCasts (Sh2 R 3)
  l2 : (Sh3 1 g 3).ShapeCasts (Sh2 g 3)
  l3 : (Sh2 g 3).ShapeCasts (Sh3 g 1 3)
  l4 : (Sh3 g 1 3).ShapeCasts (Sh3 g 1 3)
  lb : (Sh3 g 1 3).Broadcasts (Sh3 g 32 3)
  s0 : (Sh2 R 3).Slices ![0, 0] (Sh2 R 1)
  s1 : (Sh2 R 3).Slices ![0, 1] (Sh2 R 1)
  s2 : (Sh2 R 3).Slices ![0, 2] (Sh2 R 1)
  k7 : Shape.Concatenates [Sh2 R 1, Sh2 R 1, Sh2 R 1, Sh2 R 1, Sh2 R 1, Sh2 R 1, Sh2 R 1] (Sh2 R 7) 1
  kH : Shape.Concatenates [Sh2 R H, Sh2 R H] (Sh2 R C) 1
  kC : Shape.Concatenates [Sh2 R C, Sh2 R C] (Sh2 R C2) 1
  t1 : (Sh2 1 C2).ShapeCasts (Sh2 1 C2)
  tb : (Sh2 1 C2).Broadcasts (Sh2 R C2)
  c1 : (Sh2 R 1).ShapeCasts (Sh2 R 1)
  cb : (Sh2 R 1).Broadcasts (Sh2 R C2)
  f3 : (Sh2 R C2).ShapeCasts (Sh3 g 32 C2)
  r : (Sh3 g 32 C2).Reduces [1] (Sh2 g C2)
  o3 : (Sh2 g C2).ShapeCasts (Sh3 1 g C2)

variable {g R C C2 H fd : ℕ} (h : Fits g R C C2 H)

/-! ## The block's operations -/

def off (d : FVec Ideal (Sh2 1 1) .f32) : Ideal .f32 :=
  Scalar.addf (extractAt ![0, 0] d h.e) (Scalar.ofBits .f32 0x3727C5AC#32)

def kx (v : FVec Ideal (Sh4 1 g 32 C) .f32) (d : FVec Ideal (Sh2 1 1) .f32) : FVec Ideal (Sh2 R C) .f32 :=
  divf (shapeCast (Sh2 R C) (shapeCast (Sh3 g 32 C) v h.x3) h.x2) (broadcast (Sh2 R C) (off h d))

def kz (v : FVec Ideal (Sh4 1 g 32 3) .f32) (d : FVec Ideal (Sh2 1 1) .f32) : FVec Ideal (Sh2 R 3) .f32 :=
  divf (shapeCast (Sh2 R 3) (shapeCast (Sh3 g 32 3) v h.z3) h.z2) (broadcast (Sh2 R 3) (off h d))

def lc (v : FVec Ideal (Sh3 1 g 3) .f32) : FVec Ideal (Sh2 R 3) .f32 :=
  shapeCast (Sh2 R 3) (broadcastTo (Sh3 g 32 3) (shapeCast (Sh3 g 1 3) (shapeCast (Sh3 g 1 3) (shapeCast (Sh2 g 3) v h.l2) h.l3) h.l4) h.lb) h.z2

def col0 (x : FVec Ideal (Sh2 R 3) .f32) : FVec Ideal (Sh2 R 1) .f32 := extractStridedSlice (Sh2 R 1) ![0, 0] x h.s0
def col1 (x : FVec Ideal (Sh2 R 3) .f32) : FVec Ideal (Sh2 R 1) .f32 := extractStridedSlice (Sh2 R 1) ![0, 1] x h.s1
def col2 (x : FVec Ideal (Sh2 R 3) .f32) : FVec Ideal (Sh2 R 1) .f32 := extractStridedSlice (Sh2 R 1) ![0, 2] x h.s2

def seven (z l : FVec Ideal (Sh2 R 3) .f32) : FVec Ideal (Sh2 R 7) .f32 :=
  concatenate (Sh2 R 7) 1 [⟨Sh2 R 1, col0 h z⟩, ⟨Sh2 R 1, col1 h z⟩, ⟨Sh2 R 1, col2 h z⟩,
    ⟨Sh2 R 1, subf (mulf (col1 h z) (col2 h l)) (mulf (col2 h z) (col1 h l))⟩,
    ⟨Sh2 R 1, subf (mulf (col2 h z) (col0 h l)) (mulf (col0 h z) (col2 h l))⟩,
    ⟨Sh2 R 1, subf (mulf (col0 h z) (col1 h l)) (mulf (col1 h z) (col0 h l))⟩,
    ⟨Sh2 R 1, addf (addf (mulf (col0 h z) (col0 h l)) (mulf (col1 h z) (col1 h l))) (mulf (col2 h z) (col2 h l))⟩] h.k7

def turns (z l : FVec Ideal (Sh2 R 3) .f32) (bm : FVec Ideal (Sh2 7 H) .f32) : FVec Ideal (Sh2 R H) .f32 :=
  mulf (broadcast (Sh2 R H) (Scalar.ofBits .f32 0x40C90FDB#32))
    (matmul (DotDims.plain R 7 H) none (seven h z l) bm (constant (Sh2 R H) .f32 0x00000000#32))

def waves (z l : FVec Ideal (Sh2 R 3) .f32) (bm : FVec Ideal (Sh2 7 H) .f32) : FVec Ideal (Sh2 R C) .f32 :=
  concatenate (Sh2 R C) 1 [⟨Sh2 R H, sin (turns h z l bm)⟩, ⟨Sh2 R H, cos (turns h z l bm)⟩] h.kH

def ff5 (z l : FVec Ideal (Sh2 R 3) .f32) (bm : FVec Ideal (Sh2 7 H) .f32) : FVec Ideal (Sh2 R C) .f32 :=
  mulf (waves h z l bm)
    (mulf (mulf (waves h z l bm) (waves h z l bm)) (mulf (waves h z l bm) (waves h z l bm)))

def mask (is : IVec (Sh2 1 C2) 32) (n : BitVec 32) : IVec (Sh2 R C2) 1 :=
  broadcastTo (Sh2 R C2) (shapeCast (Sh2 1 C2) (cmpi .eq is (broadcast (Sh2 1 C2) n)) h.t1) h.tb

def spread (x : FVec Ideal (Sh2 R 1) .f32) : FVec Ideal (Sh2 R C2) .f32 :=
  broadcastTo (Sh2 R C2) (shapeCast (Sh2 R 1) x h.c1) h.cb

def pick (is : IVec (Sh2 1 C2) 32) (x : FVec Ideal (Sh2 R 3) .f32) : FVec Ideal (Sh2 R C2) .f32 :=
  select (mask h is 0#32) (spread h (col0 h x)) (select (mask h is 1#32) (spread h (col1 h x)) (spread h (col2 h x)))

def pos (is : IVec (Sh2 1 C2) 32) (so de : FVec Ideal (Sh2 1 C2) .f32) (q : Ideal .f32) (x : FVec Ideal (Sh2 R 3) .f32) :
    FVec Ideal (Sh2 R C2) .f32 :=
  sin (addf (divf (mulf (broadcast (Sh2 R C2) (Scalar.ofBits .f32 0x42C80000#32)) (pick h is x)) (broadcastTo (Sh2 R C2) de h.tb))
    (broadcastTo (Sh2 R C2) (mulf so (broadcast (Sh2 1 C2) q)) h.tb))

def fins (x f : FVec Ideal (Sh2 R C) .f32) (p : FVec Ideal (Sh2 R C2) .f32) : FVec Ideal (Sh3 g 32 C2) .f32 :=
  shapeCast (Sh3 g 32 C2) (mulf (addf (concatenate (Sh2 R C2) 1 [⟨Sh2 R C, x⟩, ⟨Sh2 R C, f⟩] h.kC) p) p) h.f3

def pooled (x : FVec Ideal (Sh3 g 32 C2) .f32) : FVec Ideal (Sh3 1 g C2) .f32 :=
  shapeCast (Sh3 1 g C2) (addf (multiReduction .maximumf [1] (Sh2 g C2) x 0xFF800000#32 h.r (.inl rfl) rfl)
    (mulf (multiReduction .add [1] (Sh2 g C2) x 0x00000000#32 h.r (.inl rfl) rfl)
      (broadcast (Sh2 g C2) (Scalar.ofBits .f32 0x3D000000#32)))) h.o3

/-- The block: what the body stores, as a function of its nine operands and the quarter turn `q`. -/
def block (v : FVec Ideal (Sh4 1 g 32 C) .f32) (vz : FVec Ideal (Sh4 1 g 32 3) .f32) (l : FVec Ideal (Sh3 1 g 3) .f32)
    (dx dz : FVec Ideal (Sh2 1 1) .f32) (bm : FVec Ideal (Sh2 7 H) .f32) (is : IVec (Sh2 1 C2) 32)
    (so de : FVec Ideal (Sh2 1 C2) .f32) (q : Ideal .f32) : FVec Ideal (Sh3 1 g C2) .f32 :=
  pooled h (fins h (kx h v dx) (ff5 h (kz h vz dz) (lc h l) bm)
    (addf (pos h is so de q (kz h vz dz)) (pos h is so de q (lc h l))))

/-! ## The operations read at an index -/

theorem off_eq (d : FVec Ideal (Sh2 1 1) .f32) : off h d = d (ix2 0 0) + Ideal.ofBits .f32 0x3727C5AC#32 := by
  show extractAt ![0, 0] d h.e + _ = _
  refine congrArg (· + _) (congrArg d ?_)
  funext a
  match a with
  | ⟨0, _⟩ => rfl
  | ⟨1, _⟩ => rfl

variable {p : Fin g} {k : Fin 32} {r : Fin R} (hr : r.val = p.val * 32 + k.val)
include hr

theorem kx_apply (v : FVec Ideal (Sh4 1 g 32 C) .f32) (d : FVec Ideal (Sh2 1 1) .f32) (c : Fin C) :
    kx h v d (ix2 r c) = scaled (v (ix4 0 p k c)) (d (ix2 0 0)) := by
  show Ideal.div _ (off h d) = _
  rw [off_eq]
  refine congrArg (Ideal.div · _) ?_
  rw [shapeCast_apply _ h.x2 (ix2 r c) (ix3 p k c) (by
      rw [Shape.rowMajor_val_two, Shape.rowMajor_val_three]
      show (p.val * 32 + k.val) * C + c.val = r.val * C + c.val
      rw [hr]),
    shapeCast_apply _ h.x3 (ix3 p k c) (ix4 0 p k c) (by
      rw [Shape.rowMajor_val_four, Shape.rowMajor_val_three]
      show ((0 * g + p.val) * 32 + k.val) * C + c.val = (p.val * 32 + k.val) * C + c.val
      rw [Nat.zero_mul, Nat.zero_add])]

theorem kz_apply (v : FVec Ideal (Sh4 1 g 32 3) .f32) (d : FVec Ideal (Sh2 1 1) .f32) (i : Fin 3) :
    kz h v d (ix2 r i) = scaled (v (ix4 0 p k i)) (d (ix2 0 0)) := by
  show Ideal.div _ (off h d) = _
  rw [off_eq]
  refine congrArg (Ideal.div · _) ?_
  rw [shapeCast_apply _ h.z2 (ix2 r i) (ix3 p k i) (by
      rw [Shape.rowMajor_val_two, Shape.rowMajor_val_three]
      show (p.val * 32 + k.val) * 3 + i.val = r.val * 3 + i.val
      rw [hr]),
    shapeCast_apply _ h.z3 (ix3 p k i) (ix4 0 p k i) (by
      rw [Shape.rowMajor_val_four, Shape.rowMajor_val_three]
      show ((0 * g + p.val) * 32 + k.val) * 3 + i.val = (p.val * 32 + k.val) * 3 + i.val
      rw [Nat.zero_mul, Nat.zero_add])]

theorem lc_apply (v : FVec Ideal (Sh3 1 g 3) .f32) (i : Fin 3) : lc h v (ix2 r i) = v (ix3 0 p i) := by
  unfold lc
  rw [shapeCast_apply _ h.z2 (ix2 r i) (ix3 p k i) (by
      rw [Shape.rowMajor_val_two, Shape.rowMajor_val_three]
      show (p.val * 32 + k.val) * 3 + i.val = r.val * 3 + i.val
      rw [hr]),
    broadcastTo_apply _ h.lb (ix3 p k i) (ix3 p 0 i) (fun a => by
      match a with
      | ⟨0, _⟩ =>
        show p.val = if g = 1 then 0 else p.val
        have := p.isLt
        split <;> omega
      | ⟨1, _⟩ => rfl
      | ⟨2, _⟩ => rfl),
    shapeCast_apply _ h.l4 (ix3 p 0 i) (ix3 p 0 i) rfl,
    shapeCast_apply _ h.l3 (ix3 p 0 i) (ix2 p i) (by
      rw [Shape.rowMajor_val_two, Shape.rowMajor_val_three]
      show p.val * 3 + i.val = (p.val * 1 + 0) * 3 + i.val
      omega),
    shapeCast_apply _ h.l2 (ix2 p i) (ix3 0 p i) (by
      rw [Shape.rowMajor_val_two, Shape.rowMajor_val_three]
      show (0 * g + p.val) * 3 + i.val = p.val * 3 + i.val
      omega)]

omit hr

theorem col0_apply (x : FVec Ideal (Sh2 R 3) .f32) : col0 h x (ix2 r 0) = x (ix2 r 0) :=
  extractStridedSlice_apply _ x h.s0 _ _ fun a => by match a with | ⟨0, _⟩ => exact (Nat.zero_add _).symm | ⟨1, _⟩ => rfl

theorem col1_apply (x : FVec Ideal (Sh2 R 3) .f32) : col1 h x (ix2 r 0) = x (ix2 r 1) :=
  extractStridedSlice_apply _ x h.s1 _ _ fun a => by match a with | ⟨0, _⟩ => exact (Nat.zero_add _).symm | ⟨1, _⟩ => rfl

theorem col2_apply (x : FVec Ideal (Sh2 R 3) .f32) : col2 h x (ix2 r 0) = x (ix2 r 2) :=
  extractStridedSlice_apply _ x h.s2 _ _ fun a => by match a with | ⟨0, _⟩ => exact (Nat.zero_add _).symm | ⟨1, _⟩ => rfl

theorem seven_apply (z l : FVec Ideal (Sh2 R 3) .f32) (j : Fin 7) :
    seven h z l (ix2 r j) = emb (fun i => z (ix2 r i)) (fun i => l (ix2 r i)) j := by
  refine (concatenate_ofFn_unit_apply (t := Sh2 R 7) (s₁ := Sh2 R 1) 1
    ![col0 h z, col1 h z, col2 h z,
      subf (mulf (col1 h z) (col2 h l)) (mulf (col2 h z) (col1 h l)),
      subf (mulf (col2 h z) (col0 h l)) (mulf (col0 h z) (col2 h l)),
      subf (mulf (col0 h z) (col1 h l)) (mulf (col1 h z) (col0 h l)),
      addf (addf (mulf (col0 h z) (col0 h l)) (mulf (col1 h z) (col1 h l))) (mulf (col2 h z) (col2 h l))]
    h.k7 rfl rfl (ix2 r j) j rfl (ix2 r 0) (fun b hb => by
      match b with
      | ⟨0, _⟩ => rfl
      | ⟨1, _⟩ => exact absurd rfl hb)).trans ?_
  fin_cases j <;>
  simp [emb, subf_apply, addf_apply, mulf_apply, col0_apply, col1_apply, col2_apply]

theorem turns_apply (z l : FVec Ideal (Sh2 R 3) .f32) (bm : FVec Ideal (Sh2 7 H) .f32) (c : Fin H) :
    turns h z l bm (ix2 r c) = phase (fun i => z (ix2 r i)) (fun i => l (ix2 r i)) fun j => bm (ix2 j c) := by
  show Ideal.ofBits .f32 0x40C90FDB#32 * FloatOps.matmul (DotDims.plain R 7 H) none (seven h z l) bm _ (ix2 r c) = _
  rw [Ideal.matmul_plain_apply]
  show Ideal.ofBits .f32 0x40C90FDB#32 * (Ideal.ofBits .f32 0x00000000#32 + _) = _
  rw [Ideal.ofBits_zero_f32, zero_add]
  simp only [seven_apply]
  rfl

/-- The weight's column: a channel, or the fifth power of a wave. -/
theorem weight_apply (hC : C = 2 * H) (hC2 : C2 = 2 * C) (x : FVec Ideal (Sh2 R C) .f32) (z l : FVec Ideal (Sh2 R 3) .f32)
    (bm : FVec Ideal (Sh2 7 H) .f32) (c : Fin C2) :
    concatenate (Sh2 R C2) 1 [⟨Sh2 R C, x⟩, ⟨Sh2 R C, ff5 h z l bm⟩] h.kC (ix2 r c)
      = wcol (fun c => x (ix2 r c)) (fun j c => bm (ix2 j c)) (fun i => z (ix2 r i)) (fun i => l (ix2 r i)) c.val := by
  unfold wcol
  have hc := c.isLt
  split
  · next h1 =>
    exact concatenate_pair_apply_left (t := Sh2 R C2) (s₁ := Sh2 R C) (s₂ := Sh2 R C) 1 x _ h.kC (ix2 r c) rfl (ix2 r ⟨c.val, h1⟩) fun b => by
      match b with
      | ⟨0, _⟩ => rfl
      | ⟨1, _⟩ => rfl
  · next h1 =>
    have h2 : c.val - C < C := by omega
    rw [concatenate_pair_apply_right (t := Sh2 R C2) (s₁ := Sh2 R C) (s₂ := Sh2 R C) 1 x (ff5 h z l bm) h.kC (ix2 r c) rfl rfl
      (ix2 r ⟨c.val - C, h2⟩) (fun b hb => by
        match b with
        | ⟨0, _⟩ => rfl
        | ⟨1, _⟩ => exact absurd rfl hb) (by show c.val - C + C = c.val; omega)]
    show pow5 (waves h z l bm (ix2 r ⟨c.val - C, h2⟩)) = _
    unfold waves
    split
    · next h3 =>
      rw [concatenate_pair_apply_left (t := Sh2 R C) (s₁ := Sh2 R H) (s₂ := Sh2 R H) 1 _ _ h.kH _ rfl (ix2 r ⟨c.val - C, h3⟩) fun b => by
        match b with
        | ⟨0, _⟩ => rfl
        | ⟨1, _⟩ => rfl]
      show pow5 (Ideal.sin (turns h z l bm _)) = _
      rw [turns_apply]
    · next h3 =>
      have h4 : c.val - C - H < H := by omega
      rw [dif_pos h4, concatenate_pair_apply_right (t := Sh2 R C) (s₁ := Sh2 R H) (s₂ := Sh2 R H) 1 _ _ h.kH _ rfl rfl
        (ix2 r ⟨c.val - C - H, h4⟩) (fun b hb => by
          match b with
          | ⟨0, _⟩ => rfl
          | ⟨1, _⟩ => exact absurd rfl hb) (by show c.val - C - H + H = c.val - C; omega)]
      show pow5 (Ideal.cos (turns h z l bm _)) = _
      rw [turns_apply]

theorem table_apply {α : Type} (x : (Sh2 1 C2).Idx → α) (c : Fin C2) : broadcastTo (Sh2 R C2) x h.tb (ix2 r c) = x (ix2 0 c) :=
  broadcastTo_apply x h.tb _ _ fun a => by
    match a with
    | ⟨0, _⟩ => rfl
    | ⟨1, _⟩ =>
      show c.val = if C2 = 1 then 0 else c.val
      have := c.isLt
      split <;> omega

theorem mask_apply (is : IVec (Sh2 1 C2) 32) (n : BitVec 32) (c : Fin C2) :
    mask h is n (ix2 r c) = IntOp.cmpi .eq (is (ix2 0 c)) n := by
  unfold mask
  rw [table_apply h, shapeCast_apply _ h.t1 (ix2 0 c) (ix2 0 c) rfl]
  rfl

theorem spread_apply (x : FVec Ideal (Sh2 R 1) .f32) (c : Fin C2) : spread h x (ix2 r c) = x (ix2 r 0) := by
  unfold spread
  rw [broadcastTo_apply _ h.cb (ix2 r c) (ix2 r 0) (fun a => by
    match a with
    | ⟨0, _⟩ =>
      show r.val = if R = 1 then 0 else r.val
      have := r.isLt
      split <;> omega
    | ⟨1, _⟩ => rfl), shapeCast_apply _ h.c1 (ix2 r 0) (ix2 r 0) rfl]

/-- The coordinate that the axis table names. -/
theorem pick_apply (is : IVec (Sh2 1 C2) 32) (x : FVec Ideal (Sh2 R 3) .f32) (c : Fin C2) (i : Fin 3)
    (hi : is (ix2 0 c) = BitVec.ofNat 32 i.val) : pick h is x (ix2 r c) = x (ix2 r i) := by
  unfold pick
  rw [select_apply, select_apply, mask_apply, mask_apply, spread_apply, spread_apply, spread_apply, col0_apply, col1_apply,
    col2_apply, hi]
  fin_cases i <;> rfl

/-- The position code, for tables that hold the axis, the quarter turn's count and the frequency of each column. -/
theorem pos_apply (hfd : 0 < fd) (hC2 : C2 = 6 * fd) (is : IVec (Sh2 1 C2) 32) (so de : FVec Ideal (Sh2 1 C2) .f32) (q : Ideal .f32)
    (hq : q = (((1 / 2) * Real.pi : ℝ) : EReal)) (fr : Fin fd → EReal)
    (his : ∀ c : Fin C2, is (ix2 0 c) = BitVec.ofNat 32 (c.val / (2 * fd)))
    (hso : ∀ c : Fin C2, so (ix2 0 c) = if c.val % 2 = 0 then 0 else 1)
    (hde : ∀ (c : Fin C2) (i : Fin fd), i.val = c.val % (2 * fd) / 2 → de (ix2 0 c) = fr i)
    (x : FVec Ideal (Sh2 R 3) .f32) (c : Fin C2) :
    pos h is so de q x (ix2 r c) = pcol hfd fr (fun i => x (ix2 r i)) (c.cast hC2) := by
  show Ideal.sin (Ideal.div (Ideal.ofBits .f32 0x42C80000#32 * pick h is x (ix2 r c)) (broadcastTo (Sh2 R C2) de h.tb (ix2 r c))
    + broadcastTo (Sh2 R C2) (mulf so (broadcast (Sh2 1 C2) q)) h.tb (ix2 r c)) = _
  have hlt : c.val / (2 * fd) < 3 := by
    have := c.isLt
    rw [Nat.div_lt_iff_lt_mul (by omega)]; omega
  rw [table_apply h, table_apply h, pick_apply h is x c ⟨c.val / (2 * fd), hlt⟩ (his c),
    hde c ⟨c.val % (2 * fd) / 2, by have := Nat.mod_lt c.val (show 0 < 2 * fd by omega); omega⟩ rfl]
  show Ideal.sin (_ + so (ix2 0 c) * q) = _
  rw [hso, hq]
  unfold pcol
  by_cases hc : c.val % 2 = 0
  · rw [if_pos hc, sin_add_none]
    exact (if_pos hc).symm
  · rw [if_neg hc, sin_add_quarter]
    exact (if_neg hc).symm

theorem pooled_apply (x : FVec Ideal (Sh3 g 32 C2) .f32) (c : Fin C2) :
    pooled h x (ix3 0 p c) = pool fun k => x (ix3 p k c) := by
  unfold pooled
  rw [shapeCast_apply _ h.o3 (ix3 0 p c) (ix2 p c) (by
    rw [Shape.rowMajor_val_two, Shape.rowMajor_val_three]
    show p.val * C2 + c.val = (0 * g + p.val) * C2 + c.val
    rw [Nat.zero_mul, Nat.zero_add])]
  have hl : ∀ k : Fin 32, h.r.lift (ix2 p c) k = ix3 p k c := fun k => by
    funext a
    match a with
    | ⟨0, _⟩ => rfl
    | ⟨1, _⟩ => rfl
    | ⟨2, _⟩ => rfl
  have hf : x ∘ h.r.lift (ix2 p c) = fun k : Fin 32 => x (ix3 p k c) := funext fun k => congrArg x (hl k)
  refine congrArg₂ (· + ·) ((Ideal.multiReduction_maximumf_single x _ h.r (.inl rfl) rfl (ix2 p c)).trans
    (congrArg ((Finset.univ : Finset (Fin 32)).fold max (Ideal.ofBits .f32 0xFF800000#32)) hf)) (congrArg₂ (· * ·)
      ((Ideal.multiReduction_add_single x _ h.r (.inl rfl) rfl (ix2 p c)).trans
        (Finset.sum_congr rfl fun k _ => congrArg x (hl k))) word_thirtysecond)

/-- THE BLOCK, read at group `p` and column `c`. -/
theorem block_apply (hR : R = g * 32) (hC : C = 2 * H) (hC2 : C2 = 2 * C) (hfd : 0 < fd) (hC6 : C2 = 6 * fd)
    (v : FVec Ideal (Sh4 1 g 32 C) .f32) (vz : FVec Ideal (Sh4 1 g 32 3) .f32) (l : FVec Ideal (Sh3 1 g 3) .f32)
    (dx dz : FVec Ideal (Sh2 1 1) .f32) (bm : FVec Ideal (Sh2 7 H) .f32) (is : IVec (Sh2 1 C2) 32)
    (so de : FVec Ideal (Sh2 1 C2) .f32) (q : Ideal .f32)
    (hq : q = (((1 / 2) * Real.pi : ℝ) : EReal)) (fr : Fin fd → EReal)
    (his : ∀ c : Fin C2, is (ix2 0 c) = BitVec.ofNat 32 (c.val / (2 * fd)))
    (hso : ∀ c : Fin C2, so (ix2 0 c) = if c.val % 2 = 0 then 0 else 1)
    (hde : ∀ (c : Fin C2) (i : Fin fd), i.val = c.val % (2 * fd) / 2 → de (ix2 0 c) = fr i) (c : Fin C2) :
    block h v vz l dx dz bm is so de q (ix3 0 p c)
      = feature hfd fr (fun j c => bm (ix2 j c)) (fun k c => scaled (v (ix4 0 p k c)) (dx (ix2 0 0)))
          (fun k i => scaled (vz (ix4 0 p k i)) (dz (ix2 0 0))) (fun i => l (ix3 0 p i)) (c.cast hC6) := by
  unfold block feature
  rw [pooled_apply]
  refine congrArg pool (funext fun k => ?_)
  have hlt : p.val * 32 + k.val < R := by have := p.isLt; have := k.isLt; omega
  unfold fins
  rw [shapeCast_apply _ h.f3 (ix3 p k c) (ix2 ⟨p.val * 32 + k.val, hlt⟩ c) (by
    rw [Shape.rowMajor_val_two, Shape.rowMajor_val_three]; rfl)]
  rw [mulf_apply, addf_apply, weight_apply h hC hC2, addf_apply, pos_apply h hfd hC6 is so de q hq fr his hso hde,
    pos_apply h hfd hC6 is so de q hq fr his hso hde]
  simp only [kx_apply h (r := ⟨p.val * 32 + k.val, hlt⟩) (p := p) (k := k) rfl,
    kz_apply h (r := ⟨p.val * 32 + k.val, hlt⟩) (p := p) (k := k) rfl, lc_apply h (r := ⟨p.val * 32 + k.val, hlt⟩) (p := p) (k := k) rfl]
  rfl

end Cert.Block

end
-- ==== Proof.Reference.lean ====
/- What the reference computes, for any number of groups `G`, channels `C = 2 H` and columns `C2 = 2 C = 3 F2`, `F2 = 2 fd`:
   its host operations as one function of its five arguments and its two tables, and that function read at an index. -/
module

public import proofs.«01_k».proof.Proof.Block
public import Idealize.ShloMosaic.Lib.IdealHost
public import Idealize.ShloMosaic.Lib.ValueIdxRank6

@[expose] public section

noncomputable section

open scoped BigOperators

namespace Cert.Reference

open Idealize.ShloMosaic Idealize.ShloMosaic.ValueIdx Cert.Spec Cert.Block

abbrev Sh0 : Shape := ⟨0, ![]⟩
abbrev Sh1 (a : ℕ) : Shape := ⟨1, ![a]⟩
abbrev Sh5 (a b c d e : ℕ) : Shape := ⟨5, ![a, b, c, d, e]⟩
abbrev Sh6 (a b c d e f : ℕ) : Shape := ⟨6, ![a, b, c, d, e, f]⟩

/-- The shapes of the reference's operations fit. -/
structure RFits (G C C2 H fd F2 : ℕ) : Prop where
  s : (Sh2 1 1).ShapeCasts Sh0
  bx : Sh0.BroadcastsInDim (Sh4 4 G 32 C) ![]
  bz : Sh0.BroadcastsInDim (Sh4 4 G 32 3) ![]
  l1 : (Sh3 4 G 3).BroadcastsInDim (Sh4 4 G 1 3) ![0, 1, 3]
  l2 : (Sh4 4 G 1 3).BroadcastsInDim (Sh4 4 G 32 3) ![0, 1, 2, 3]
  tz : (Sh4 4 G 32 3).Transposes [0, 3, 1, 2] (Sh4 4 3 G 32)
  tx : (Sh4 4 G 32 C).Transposes [0, 3, 1, 2] (Sh4 4 C G 32)
  s0 : (Sh4 4 3 G 32).Slices ![0, 0, 0, 0] (Sh4 4 1 G 32)
  s1 : (Sh4 4 3 G 32).Slices ![0, 1, 0, 0] (Sh4 4 1 G 32)
  s2 : (Sh4 4 3 G 32).Slices ![0, 2, 0, 0] (Sh4 4 1 G 32)
  sc : (Sh4 4 1 G 32).ShapeCasts (Sh3 4 G 32)
  b1 : (Sh3 4 G 32).BroadcastsInDim (Sh4 4 1 G 32) ![0, 2, 3]
  k3 : Shape.Concatenates [Sh4 4 1 G 32, Sh4 4 1 G 32, Sh4 4 1 G 32] (Sh4 4 3 G 32) 1
  d3 : (Sh4 4 3 G 32).ReducesTo [1] (Sh3 4 G 32)
  r3 : (Sh4 4 3 G 32).Reduces [1] (Sh3 4 G 32)
  u : 0 < Sh0.numel
  k7 : Shape.Concatenates [Sh4 4 3 G 32, Sh4 4 3 G 32, Sh4 4 1 G 32] (Sh4 4 7 G 32) 1
  t7 : (Sh4 4 7 G 32).Transposes [0, 2, 3, 1] (Sh4 4 G 32 7)
  wf : DotDims.WF (Sh4 4 G 32 7) (Sh2 7 H) (Sh4 4 G 32 H) [3] [0] [0, 1, 2] [1] [] []
  bt : Sh0.BroadcastsInDim (Sh4 4 G 32 H) ![]
  kH : Shape.Concatenates [Sh4 4 G 32 H, Sh4 4 G 32 H] (Sh4 4 G 32 C) 3
  kC : Shape.Concatenates [Sh4 4 C G 32, Sh4 4 C G 32] (Sh4 4 C2 G 32) 1
  p1 : (Sh4 4 3 G 32).BroadcastsInDim (Sh5 4 3 G 32 1) ![0, 1, 2, 3]
  p2 : Sh0.BroadcastsInDim (Sh5 4 3 G 32 1) ![]
  p3 : (Sh5 4 3 G 32 1).BroadcastsInDim (Sh5 4 3 G 32 fd) ![0, 1, 2, 3, 4]
  p4 : (Sh1 fd).BroadcastsInDim (Sh5 1 1 1 1 fd) ![4]
  p5 : (Sh5 1 1 1 1 fd).BroadcastsInDim (Sh5 4 3 G 32 fd) ![0, 1, 2, 3, 4]
  p6 : (Sh5 4 3 G 32 fd).BroadcastsInDim (Sh6 4 3 G 32 fd 1) ![0, 1, 2, 3, 4]
  p7 : Shape.Concatenates [Sh6 4 3 G 32 fd 1, Sh6 4 3 G 32 fd 1] (Sh6 4 3 G 32 fd 2) 5
  p8 : (Sh6 4 3 G 32 fd 2).ShapeCasts (Sh5 4 3 G 32 F2)
  p9 : (Sh5 4 3 G 32 F2).Transposes [0, 1, 4, 2, 3] (Sh5 4 3 F2 G 32)
  p10 : (Sh5 4 3 F2 G 32).ShapeCasts (Sh4 4 C2 G 32)
  dp : (Sh4 4 C2 G 32).ReducesTo [3] (Sh3 4 C2 G)
  rp : (Sh4 4 C2 G 32).Reduces [3] (Sh3 4 C2 G)
  bm : Sh0.BroadcastsInDim (Sh3 4 C2 G) ![]
  tr : (Sh3 4 C2 G).Transposes [0, 2, 1] (Sh3 4 G C2)

variable {G C C2 H fd F2 : ℕ} (h : RFits G C C2 H fd F2)

/-! ## The reference's operations -/

def off (d : FVec Ideal (Sh2 1 1) .f32) : FVec Ideal Sh0 .f32 :=
  addf (shapeCast Sh0 d h.s) (constant Sh0 .f32 0x3727C5AC#32)

def kx (v : FVec Ideal (Sh4 4 G 32 C) .f32) (d : FVec Ideal (Sh2 1 1) .f32) : FVec Ideal (Sh4 4 C G 32) .f32 :=
  transpose (Sh4 4 C G 32) [0, 3, 1, 2] (Host.divf v (broadcastInDim (Sh4 4 G 32 C) ![] h.bx (off h d))) h.tx

def kz (v : FVec Ideal (Sh4 4 G 32 3) .f32) (d : FVec Ideal (Sh2 1 1) .f32) : FVec Ideal (Sh4 4 3 G 32) .f32 :=
  transpose (Sh4 4 3 G 32) [0, 3, 1, 2] (Host.divf v (broadcastInDim (Sh4 4 G 32 3) ![] h.bz (off h d))) h.tz

def lc (l : FVec Ideal (Sh3 4 G 3) .f32) : FVec Ideal (Sh4 4 3 G 32) .f32 :=
  transpose (Sh4 4 3 G 32) [0, 3, 1, 2]
    (broadcastInDim (Sh4 4 G 32 3) ![0, 1, 2, 3] h.l2 (broadcastInDim (Sh4 4 G 1 3) ![0, 1, 3] h.l1 l)) h.tz

def row0 (x : FVec Ideal (Sh4 4 3 G 32) .f32) : FVec Ideal (Sh3 4 G 32) .f32 :=
  shapeCast (Sh3 4 G 32) (extractStridedSlice (Sh4 4 1 G 32) ![0, 0, 0, 0] x h.s0) h.sc
def row1 (x : FVec Ideal (Sh4 4 3 G 32) .f32) : FVec Ideal (Sh3 4 G 32) .f32 :=
  shapeCast (Sh3 4 G 32) (extractStridedSlice (Sh4 4 1 G 32) ![0, 1, 0, 0] x h.s1) h.sc
def row2 (x : FVec Ideal (Sh4 4 3 G 32) .f32) : FVec Ideal (Sh3 4 G 32) .f32 :=
  shapeCast (Sh3 4 G 32) (extractStridedSlice (Sh4 4 1 G 32) ![0, 2, 0, 0] x h.s2) h.sc

def lift (x : FVec Ideal (Sh3 4 G 32) .f32) : FVec Ideal (Sh4 4 1 G 32) .f32 :=
  broadcastInDim (Sh4 4 1 G 32) ![0, 2, 3] h.b1 x

def cross (z l : FVec Ideal (Sh4 4 3 G 32) .f32) : FVec Ideal (Sh4 4 3 G 32) .f32 :=
  concatenate (Sh4 4 3 G 32) 1
    [⟨Sh4 4 1 G 32, lift h (subf (mulf (row1 h z) (row2 h l)) (mulf (row2 h z) (row1 h l)))⟩,
     ⟨Sh4 4 1 G 32, lift h (subf (mulf (row2 h z) (row0 h l)) (mulf (row0 h z) (row2 h l)))⟩,
     ⟨Sh4 4 1 G 32, lift h (subf (mulf (row0 h z) (row1 h l)) (mulf (row1 h z) (row0 h l)))⟩] h.k3

def inner (z l : FVec Ideal (Sh4 4 3 G 32) .f32) : FVec Ideal (Sh4 4 1 G 32) .f32 :=
  lift h (Host.reduceAdd (mulf z l) (constant Sh0 .f32 0x00000000#32) h.d3 h.u)

abbrev parts (z l : FVec Ideal (Sh4 4 3 G 32) .f32) : List ((s : Shape) × (s.Idx → Ideal .f32)) :=
  [⟨Sh4 4 3 G 32, z⟩, ⟨Sh4 4 3 G 32, cross h z l⟩, ⟨Sh4 4 1 G 32, inner h z l⟩]

def seven (z l : FVec Ideal (Sh4 4 3 G 32) .f32) : FVec Ideal (Sh4 4 G 32 7) .f32 :=
  transpose (Sh4 4 G 32 7) [0, 2, 3, 1] (concatenate (Sh4 4 7 G 32) 1 (parts h z l) h.k7) h.t7

def dims : DotDims (Sh4 4 G 32 7) (Sh2 7 H) (Sh4 4 G 32 H) where
  lhsContracting := [3]
  rhsContracting := [0]
  lhsNonContracting := [0, 1, 2]
  rhsNonContracting := [1]
  lhsBatch := []
  rhsBatch := []
  wf := h.wf

def turns (z l : FVec Ideal (Sh4 4 3 G 32) .f32) (bm : FVec Ideal (Sh2 7 H) .f32) : FVec Ideal (Sh4 4 G 32 H) .f32 :=
  mulf (broadcastInDim (Sh4 4 G 32 H) ![] h.bt (constant Sh0 .f32 0x40C90FDB#32))
    (Host.dotGeneral (dims h) none (seven h z l) bm)

def waves (z l : FVec Ideal (Sh4 4 3 G 32) .f32) (bm : FVec Ideal (Sh2 7 H) .f32) : FVec Ideal (Sh4 4 G 32 C) .f32 :=
  concatenate (Sh4 4 G 32 C) 3 [⟨Sh4 4 G 32 H, Host.sin (turns h z l bm)⟩, ⟨Sh4 4 G 32 H, Host.cos (turns h z l bm)⟩] h.kH

def ff5 (z l : FVec Ideal (Sh4 4 3 G 32) .f32) (bm : FVec Ideal (Sh2 7 H) .f32) : FVec Ideal (Sh4 4 C G 32) .f32 :=
  transpose (Sh4 4 C G 32) [0, 3, 1, 2] (mulf (Host.sign (waves h z l bm)) (mulf (Host.absf (waves h z l bm))
    (mulf (mulf (Host.absf (waves h z l bm)) (Host.absf (waves h z l bm)))
      (mulf (Host.absf (waves h z l bm)) (Host.absf (waves h z l bm)))))) h.tx

def angles (t : FVec Ideal (Sh4 4 3 G 32) .f32) (de : FVec Ideal (Sh1 fd) .f32) : FVec Ideal (Sh5 4 3 G 32 fd) .f32 :=
  Host.divf (broadcastInDim (Sh5 4 3 G 32 fd) ![0, 1, 2, 3, 4] h.p3
      (mulf (broadcastInDim (Sh5 4 3 G 32 1) ![] h.p2 (constant Sh0 .f32 0x42C80000#32))
        (broadcastInDim (Sh5 4 3 G 32 1) ![0, 1, 2, 3] h.p1 t)))
    (broadcastInDim (Sh5 4 3 G 32 fd) ![0, 1, 2, 3, 4] h.p5 (broadcastInDim (Sh5 1 1 1 1 fd) ![4] h.p4 de))

def pos (t : FVec Ideal (Sh4 4 3 G 32) .f32) (de : FVec Ideal (Sh1 fd) .f32) : FVec Ideal (Sh4 4 C2 G 32) .f32 :=
  shapeCast (Sh4 4 C2 G 32) (transpose (Sh5 4 3 F2 G 32) [0, 1, 4, 2, 3] (shapeCast (Sh5 4 3 G 32 F2)
    (concatenate (Sh6 4 3 G 32 fd 2) 5
      [⟨Sh6 4 3 G 32 fd 1, broadcastInDim (Sh6 4 3 G 32 fd 1) ![0, 1, 2, 3, 4] h.p6 (Host.sin (angles h t de))⟩,
       ⟨Sh6 4 3 G 32 fd 1, broadcastInDim (Sh6 4 3 G 32 fd 1) ![0, 1, 2, 3, 4] h.p6 (Host.cos (angles h t de))⟩] h.p7) h.p8) h.p9) h.p10

def fins (x f : FVec Ideal (Sh4 4 C G 32) .f32) (p : FVec Ideal (Sh4 4 C2 G 32) .f32) : FVec Ideal (Sh4 4 C2 G 32) .f32 :=
  mulf (addf (concatenate (Sh4 4 C2 G 32) 1 [⟨Sh4 4 C G 32, x⟩, ⟨Sh4 4 C G 32, f⟩] h.kC) p) p

def pooled (x : FVec Ideal (Sh4 4 C2 G 32) .f32) : FVec Ideal (Sh3 4 G C2) .f32 :=
  transpose (Sh3 4 G C2) [0, 2, 1] (addf (Host.reduce FloatOps.maximumf x (constant Sh0 .f32 0xFF800000#32) h.dp h.u)
    (Host.divf (Host.reduceAdd x (constant Sh0 .f32 0x00000000#32) h.dp h.u)
      (broadcastInDim (Sh3 4 C2 G) ![] h.bm (constant Sh0 .f32 0x42000000#32)))) h.tr

/-- The reference: its result as a function of its arguments, its matrix and its two copies of the frequencies. -/
def reference (v : FVec Ideal (Sh4 4 G 32 C) .f32) (vz : FVec Ideal (Sh4 4 G 32 3) .f32) (l : FVec Ideal (Sh3 4 G 3) .f32)
    (dx dz : FVec Ideal (Sh2 1 1) .f32) (bm : FVec Ideal (Sh2 7 H) .f32) (de de' : FVec Ideal (Sh1 fd) .f32) :
    FVec Ideal (Sh3 4 G C2) .f32 :=
  pooled h (fins h (kx h v dx) (ff5 h (kz h vz dz) (lc h l) bm) (addf (pos h (kz h vz dz) de) (pos h (lc h l) de')))

/-! ## The operations read at an index -/

/-- A coordinate kept by a broadcast. -/
theorem kept {n : ℕ} (x : Fin n) : x.val = if n = 1 then 0 else x.val := by
  have := x.isLt
  split <;> omega

theorem off_apply (d : FVec Ideal (Sh2 1 1) .f32) : off h d ix0 = d (ix2 0 0) + Ideal.ofBits .f32 0x3727C5AC#32 := by
  show shapeCast Sh0 d h.s ix0 + _ = _
  rw [shapeCast_apply _ h.s ix0 (ix2 0 0) (by rw [Shape.rowMajor_val_two]; exact (Nat.lt_one_iff.1 (Shape.rowMajor _ _).isLt).symm)]
  rfl

variable (b : Fin 4) (g : Fin G) (k : Fin 32)

theorem kx_apply (v : FVec Ideal (Sh4 4 G 32 C) .f32) (d : FVec Ideal (Sh2 1 1) .f32) (c : Fin C) :
    kx h v d (ix4 b c g k) = scaled (v (ix4 b g k c)) (d (ix2 0 0)) := by
  unfold kx
  rw [transpose_apply _ _ h.tx (ix4 b c g k) (ix4 b g k c) (fun a => by
    match a with | ⟨0, _⟩ => rfl | ⟨1, _⟩ => rfl | ⟨2, _⟩ => rfl | ⟨3, _⟩ => rfl)]
  show Ideal.div _ (broadcastInDim (Sh4 4 G 32 C) ![] h.bx (off h d) (ix4 b g k c)) = _
  rw [broadcastInDim_scalar_apply, off_apply]
  rfl

theorem kz_apply (v : FVec Ideal (Sh4 4 G 32 3) .f32) (d : FVec Ideal (Sh2 1 1) .f32) (i : Fin 3) :
    kz h v d (ix4 b i g k) = scaled (v (ix4 b g k i)) (d (ix2 0 0)) := by
  unfold kz
  rw [transpose_apply _ _ h.tz (ix4 b i g k) (ix4 b g k i) (fun a => by
    match a with | ⟨0, _⟩ => rfl | ⟨1, _⟩ => rfl | ⟨2, _⟩ => rfl | ⟨3, _⟩ => rfl)]
  show Ideal.div _ (broadcastInDim (Sh4 4 G 32 3) ![] h.bz (off h d) (ix4 b g k i)) = _
  rw [broadcastInDim_scalar_apply, off_apply]
  rfl

theorem lc_apply (l : FVec Ideal (Sh3 4 G 3) .f32) (i : Fin 3) : lc h l (ix4 b i g k) = l (ix3 b g i) := by
  unfold lc
  rw [transpose_apply _ _ h.tz (ix4 b i g k) (ix4 b g k i) (fun a => by
      match a with | ⟨0, _⟩ => rfl | ⟨1, _⟩ => rfl | ⟨2, _⟩ => rfl | ⟨3, _⟩ => rfl),
    broadcastInDim_apply _ h.l2 _ (ix4 b g k i) (ix4 b g 0 i) (fun a => by
      match a with | ⟨0, _⟩ => exact kept b | ⟨1, _⟩ => exact kept g | ⟨2, _⟩ => rfl | ⟨3, _⟩ => exact kept i),
    broadcastInDim_apply _ h.l1 _ (ix4 b g 0 i) (ix3 b g i) (fun a => by
      match a with | ⟨0, _⟩ => exact kept b | ⟨1, _⟩ => exact kept g | ⟨2, _⟩ => exact kept i)]

theorem cast_row (x : FVec Ideal (Sh4 4 1 G 32) .f32) : shapeCast (Sh3 4 G 32) x h.sc (ix3 b g k) = x (ix4 b 0 g k) :=
  shapeCast_apply _ h.sc _ _ (by
    rw [Shape.rowMajor_val_three, Shape.rowMajor_val_four]
    show ((b.val * 1 + 0) * G + g.val) * 32 + k.val = (b.val * G + g.val) * 32 + k.val
    rw [Nat.mul_one, Nat.add_zero])

theorem row0_apply (x : FVec Ideal (Sh4 4 3 G 32) .f32) : row0 h x (ix3 b g k) = x (ix4 b 0 g k) :=
  (cast_row h b g k _).trans (extractStridedSlice_apply _ x h.s0 _ _ fun a => by
    match a with | ⟨0, _⟩ => exact (Nat.zero_add _).symm | ⟨1, _⟩ => rfl | ⟨2, _⟩ => exact (Nat.zero_add _).symm | ⟨3, _⟩ => exact (Nat.zero_add _).symm)

theorem row1_apply (x : FVec Ideal (Sh4 4 3 G 32) .f32) : row1 h x (ix3 b g k) = x (ix4 b 1 g k) :=
  (cast_row h b g k _).trans (extractStridedSlice_apply _ x h.s1 _ _ fun a => by
    match a with | ⟨0, _⟩ => exact (Nat.zero_add _).symm | ⟨1, _⟩ => rfl | ⟨2, _⟩ => exact (Nat.zero_add _).symm | ⟨3, _⟩ => exact (Nat.zero_add _).symm)

theorem row2_apply (x : FVec Ideal (Sh4 4 3 G 32) .f32) : row2 h x (ix3 b g k) = x (ix4 b 2 g k) :=
  (cast_row h b g k _).trans (extractStridedSlice_apply _ x h.s2 _ _ fun a => by
    match a with | ⟨0, _⟩ => exact (Nat.zero_add _).symm | ⟨1, _⟩ => rfl | ⟨2, _⟩ => exact (Nat.zero_add _).symm | ⟨3, _⟩ => exact (Nat.zero_add _).symm)

theorem lift_apply (x : FVec Ideal (Sh3 4 G 32) .f32) : lift h x (ix4 b 0 g k) = x (ix3 b g k) :=
  broadcastInDim_apply _ h.b1 _ _ _ fun a => by
    match a with | ⟨0, _⟩ => exact kept b | ⟨1, _⟩ => exact kept g | ⟨2, _⟩ => exact kept k

theorem cross_apply (z l : FVec Ideal (Sh4 4 3 G 32) .f32) (i : Fin 3) :
    cross h z l (ix4 b i g k) = emb (fun i => z (ix4 b i g k)) (fun i => l (ix4 b i g k)) ⟨3 + i.val, by omega⟩ := by
  refine (concatenate_ofFn_unit_apply (t := Sh4 4 3 G 32) (s₁ := Sh4 4 1 G 32) 1
    ![lift h (subf (mulf (row1 h z) (row2 h l)) (mulf (row2 h z) (row1 h l))),
      lift h (subf (mulf (row2 h z) (row0 h l)) (mulf (row0 h z) (row2 h l))),
      lift h (subf (mulf (row0 h z) (row1 h l)) (mulf (row1 h z) (row0 h l)))]
    h.k3 rfl rfl (ix4 b i g k) i rfl (ix4 b 0 g k) (fun a ha => by
      match a with
      | ⟨0, _⟩ => rfl
      | ⟨1, _⟩ => exact absurd rfl ha
      | ⟨2, _⟩ => rfl
      | ⟨3, _⟩ => rfl)).trans ?_
  fin_cases i <;>
  simp [emb, subf_apply, mulf_apply, lift_apply, row0_apply, row1_apply, row2_apply]

theorem inner_apply (z l : FVec Ideal (Sh4 4 3 G 32) .f32) :
    inner h z l (ix4 b 0 g k) = emb (fun i => z (ix4 b i g k)) (fun i => l (ix4 b i g k)) 6 := by
  unfold inner
  rw [lift_apply]
  show Ideal.hostReduceAdd h.d3 (mulf z l) (Ideal.ofBits .f32 0x00000000#32) (ix3 b g k) = _
  rw [Ideal.hostReduceAdd_single h.d3 h.r3, Ideal.ofBits_zero_f32, zero_add]
  have hl : ∀ i : Fin 3, h.r3.lift (ix3 b g k) i = ix4 b i g k := fun i => by
    funext a
    match a with
    | ⟨0, _⟩ => rfl
    | ⟨1, _⟩ => rfl
    | ⟨2, _⟩ => rfl
    | ⟨3, _⟩ => rfl
  refine (Finset.sum_congr rfl fun (i : Fin 3) _ => congrArg (mulf z l) (hl i)).trans ?_
  exact Fin.sum_univ_three _

theorem seven_apply (z l : FVec Ideal (Sh4 4 3 G 32) .f32) (j : Fin 7) :
    seven h z l (ix4 b g k j) = emb (fun i => z (ix4 b i g k)) (fun i => l (ix4 b i g k)) j := by
  unfold seven
  rw [transpose_apply _ _ h.t7 (ix4 b g k j) (ix4 b j g k) (fun a => by
    match a with | ⟨0, _⟩ => rfl | ⟨1, _⟩ => rfl | ⟨2, _⟩ => rfl | ⟨3, _⟩ => rfl)]
  have hj := j.isLt
  rcases lt_or_ge j.val 3 with h3 | h3
  · rw [concatenate_apply_piece (t := Sh4 4 7 G 32) 1 (parts h z l) h.k7 (ix4 b j g k) 0 (by simp) (Sh4 4 3 G 32) z rfl rfl 0 rfl
      (ix4 b ⟨j.val, h3⟩ g k) (fun a ha => by
        match a with | ⟨0, _⟩ => rfl | ⟨1, _⟩ => exact absurd rfl ha | ⟨2, _⟩ => rfl | ⟨3, _⟩ => rfl) (Nat.zero_add _)]
    obtain ⟨j, _⟩ := j
    interval_cases j <;> rfl
  rcases lt_or_ge j.val 6 with h6 | h6
  · rw [concatenate_apply_piece (t := Sh4 4 7 G 32) 1 (parts h z l) h.k7 (ix4 b j g k) 1 (by simp) (Sh4 4 3 G 32) (cross h z l) rfl rfl 3 rfl
      (ix4 b ⟨j.val - 3, by omega⟩ g k) (fun a ha => by
        match a with | ⟨0, _⟩ => rfl | ⟨1, _⟩ => exact absurd rfl ha | ⟨2, _⟩ => rfl | ⟨3, _⟩ => rfl)
        (by show 3 + (j.val - 3) = j.val; omega), cross_apply]
    refine congrArg _ (Fin.ext ?_)
    show 3 + (j.val - 3) = j.val
    omega
  · rw [concatenate_apply_piece (t := Sh4 4 7 G 32) 1 (parts h z l) h.k7 (ix4 b j g k) 2 (by simp) (Sh4 4 1 G 32) (inner h z l) rfl rfl 6 rfl
      (ix4 b 0 g k) (fun a ha => by
        match a with | ⟨0, _⟩ => rfl | ⟨1, _⟩ => exact absurd rfl ha | ⟨2, _⟩ => rfl | ⟨3, _⟩ => rfl)
        (by show 6 + 0 = j.val; omega), inner_apply]
    refine congrArg _ (Fin.ext ?_)
    show 6 = j.val
    omega

theorem dims_rank : (dims h).contr.rank = 1 := rfl
theorem dims_size : (dims h).contr.size ⟨0, by rw [dims_rank h]; exact Nat.zero_lt_one⟩ = 7 := rfl

theorem turns_apply (z l : FVec Ideal (Sh4 4 3 G 32) .f32) (bm : FVec Ideal (Sh2 7 H) .f32) (c : Fin H) :
    turns h z l bm (ix4 b g k c) = phase (fun i => z (ix4 b i g k)) (fun i => l (ix4 b i g k)) fun j => bm (ix2 j c) := by
  show broadcastInDim (Sh4 4 G 32 H) ![] h.bt (constant Sh0 .f32 0x40C90FDB#32) (ix4 b g k c)
    * Host.dotGeneral (dims h) none (seven h z l) bm (ix4 b g k c) = _
  rw [broadcastInDim_scalar_apply]
  refine congrArg (Ideal.ofBits .f32 0x40C90FDB#32 * ·) ?_
  simp only [Host.dotGeneral]
  rw [Ideal.dotGeneral_apply, ← Equiv.sum_comp (contrEquiv1 (dims h) 7 (dims_rank h) (dims_size h)).symm]
  refine Finset.sum_congr rfl fun j _ => ?_
  have hk := contrEquiv1_symm_val (dims h) 7 (dims_rank h) (dims_size h) j
  have el : (dims h).lhsIdx (ix4 b g k c) ((contrEquiv1 (dims h) 7 (dims_rank h) (dims_size h)).symm j) = ix4 b g k j := by
    funext a; apply Fin.ext
    match a with
    | ⟨0, _⟩ => rfl
    | ⟨1, _⟩ => rfl
    | ⟨2, _⟩ => rfl
    | ⟨3, _⟩ => exact hk
  have er : (dims h).rhsIdx (ix4 b g k c) ((contrEquiv1 (dims h) 7 (dims_rank h) (dims_size h)).symm j) = ix2 j c := by
    funext a; apply Fin.ext
    match a with
    | ⟨0, _⟩ => exact hk
    | ⟨1, _⟩ => rfl
  rw [el, er, seven_apply]

/-- The weight's column: a channel, or the fifth power of a wave. -/
theorem weight_apply (hC : C = 2 * H) (hC2 : C2 = 2 * C) (x : FVec Ideal (Sh4 4 C G 32) .f32) (z l : FVec Ideal (Sh4 4 3 G 32) .f32)
    (bm : FVec Ideal (Sh2 7 H) .f32) (c : Fin C2) :
    concatenate (Sh4 4 C2 G 32) 1 [⟨Sh4 4 C G 32, x⟩, ⟨Sh4 4 C G 32, ff5 h z l bm⟩] h.kC (ix4 b c g k)
      = wcol (fun c => x (ix4 b c g k)) (fun j c => bm (ix2 j c)) (fun i => z (ix4 b i g k)) (fun i => l (ix4 b i g k)) c.val := by
  unfold wcol
  have hc := c.isLt
  split
  · next h1 =>
    exact concatenate_pair_apply_left (t := Sh4 4 C2 G 32) (s₁ := Sh4 4 C G 32) (s₂ := Sh4 4 C G 32) 1 x _ h.kC (ix4 b c g k) rfl
      (ix4 b ⟨c.val, h1⟩ g k) fun a => by
        match a with | ⟨0, _⟩ => rfl | ⟨1, _⟩ => rfl | ⟨2, _⟩ => rfl | ⟨3, _⟩ => rfl
  · next h1 =>
    have h2 : c.val - C < C := by omega
    rw [concatenate_pair_apply_right (t := Sh4 4 C2 G 32) (s₁ := Sh4 4 C G 32) (s₂ := Sh4 4 C G 32) 1 x (ff5 h z l bm) h.kC (ix4 b c g k)
      rfl rfl (ix4 b ⟨c.val - C, h2⟩ g k) (fun a ha => by
        match a with | ⟨0, _⟩ => rfl | ⟨1, _⟩ => exact absurd rfl ha | ⟨2, _⟩ => rfl | ⟨3, _⟩ => rfl)
      (by show c.val - C + C = c.val; omega)]
    unfold ff5
    rw [transpose_apply _ _ h.tx (ix4 b ⟨c.val - C, h2⟩ g k) (ix4 b g k ⟨c.val - C, h2⟩) (fun a => by
      match a with | ⟨0, _⟩ => rfl | ⟨1, _⟩ => rfl | ⟨2, _⟩ => rfl | ⟨3, _⟩ => rfl)]
    have hw : ∀ w : EReal, w ≠ ⊤ → waves h z l bm (ix4 b g k ⟨c.val - C, h2⟩) = w →
        mulf (Host.sign (waves h z l bm)) (mulf (Host.absf (waves h z l bm))
          (mulf (mulf (Host.absf (waves h z l bm)) (Host.absf (waves h z l bm)))
            (mulf (Host.absf (waves h z l bm)) (Host.absf (waves h z l bm))))) (ix4 b g k ⟨c.val - C, h2⟩) = pow5 w :=
      fun w hw e => by subst e; exact sign_mul_abs _ hw
    split
    · next h3 =>
      refine hw _ (sin_ne_top _) ?_
      unfold waves
      rw [concatenate_pair_apply_left (t := Sh4 4 G 32 C) (s₁ := Sh4 4 G 32 H) (s₂ := Sh4 4 G 32 H) 3 _ _ h.kH _ rfl
        (ix4 b g k ⟨c.val - C, h3⟩) fun a => by
          match a with | ⟨0, _⟩ => rfl | ⟨1, _⟩ => rfl | ⟨2, _⟩ => rfl | ⟨3, _⟩ => rfl]
      show Ideal.sin (turns h z l bm _) = _
      rw [turns_apply]
    · next h3 =>
      have h4 : c.val - C - H < H := by omega
      rw [dif_pos h4]
      refine hw _ (cos_ne_top _) ?_
      unfold waves
      rw [concatenate_pair_apply_right (t := Sh4 4 G 32 C) (s₁ := Sh4 4 G 32 H) (s₂ := Sh4 4 G 32 H) 3 _ _ h.kH _ rfl rfl
        (ix4 b g k ⟨c.val - C - H, h4⟩) (fun a ha => by
          match a with | ⟨0, _⟩ => rfl | ⟨1, _⟩ => rfl | ⟨2, _⟩ => rfl | ⟨3, _⟩ => exact absurd rfl ha)
        (by show c.val - C - H + H = c.val - C; omega)]
      show Ideal.cos (turns h z l bm _) = _
      rw [turns_apply]

theorem angles_apply (t : FVec Ideal (Sh4 4 3 G 32) .f32) (de : FVec Ideal (Sh1 fd) .f32) (a : Fin 3) (i : Fin fd) :
    angles h t de (ix5 b a g k i) = angle (t (ix4 b a g k)) (de (ix1 i)) := by
  show Ideal.div (broadcastInDim (s := Sh5 4 3 G 32 1) (Sh5 4 3 G 32 fd) ![0, 1, 2, 3, 4] h.p3 _ (ix5 b a g k i))
    (broadcastInDim (s := Sh5 1 1 1 1 fd) (Sh5 4 3 G 32 fd) ![0, 1, 2, 3, 4] h.p5 _ (ix5 b a g k i)) = _
  rw [broadcastInDim_apply _ h.p3 _ (ix5 b a g k i) (ix5 b a g k 0) (fun e => by
      match e with
      | ⟨0, _⟩ => exact kept b | ⟨1, _⟩ => exact kept a | ⟨2, _⟩ => exact kept g | ⟨3, _⟩ => exact kept k | ⟨4, _⟩ => rfl),
    broadcastInDim_apply _ h.p5 _ (ix5 b a g k i) (ix5 0 0 0 0 i) (fun e => by
      match e with | ⟨0, _⟩ => rfl | ⟨1, _⟩ => rfl | ⟨2, _⟩ => rfl | ⟨3, _⟩ => rfl | ⟨4, _⟩ => exact kept i),
    broadcastInDim_apply _ h.p4 _ (ix5 0 0 0 0 i) (ix1 i) (fun e => by match e with | ⟨0, _⟩ => exact kept i),
    mulf_apply, broadcastInDim_scalar_apply,
    broadcastInDim_apply _ h.p1 _ (ix5 b a g k 0) (ix4 b a g k) (fun e => by
      match e with | ⟨0, _⟩ => exact kept b | ⟨1, _⟩ => exact kept a | ⟨2, _⟩ => exact kept g | ⟨3, _⟩ => exact kept k)]
  rfl

/-- The position code: the sines and the cosines interleaved. -/
theorem pos_apply (hfd : 0 < fd) (hF2 : F2 = 2 * fd) (hC6 : C2 = 6 * fd) (t : FVec Ideal (Sh4 4 3 G 32) .f32)
    (de : FVec Ideal (Sh1 fd) .f32) (c : Fin C2) :
    pos h t de (ix4 b c g k) = pcol hfd (fun i => de (ix1 i)) (fun i => t (ix4 b i g k)) (c.cast hC6) := by
  have hc := c.isLt
  have ha : c.val / (2 * fd) < 3 := by rw [Nat.div_lt_iff_lt_mul (by omega)]; omega
  have hm : c.val % (2 * fd) < 2 * fd := Nat.mod_lt _ (by omega)
  have hi : c.val % (2 * fd) / 2 < fd := by omega
  have hdm : c.val / (2 * fd) * (2 * fd) + c.val % (2 * fd) = c.val := Nat.div_add_mod' _ _
  have he : c.val % (2 * fd) % 2 = c.val % 2 := Nat.mod_mod_of_dvd _ ⟨fd, rfl⟩
  unfold pos
  rw [shapeCast_apply _ h.p10 (ix4 b c g k) (ix5 b ⟨c.val / (2 * fd), ha⟩ ⟨c.val % (2 * fd), by omega⟩ g k) (by
      rw [Shape.rowMajor_val_four, Shape.rowMajor_val_five]
      show (((b.val * 3 + c.val / (2 * fd)) * F2 + c.val % (2 * fd)) * G + g.val) * 32 + k.val
        = ((b.val * C2 + c.val) * G + g.val) * 32 + k.val
      have e : (b.val * 3 + c.val / (2 * fd)) * F2 + c.val % (2 * fd) = b.val * C2 + c.val := by
        have hb : b.val * C2 = b.val * 3 * (2 * fd) := by rw [hC6]; ring
        rw [hb, hF2, Nat.add_mul, Nat.add_assoc, hdm]
      rw [e]),
    transpose_apply _ _ h.p9 _ (ix5 b ⟨c.val / (2 * fd), ha⟩ g k ⟨c.val % (2 * fd), by omega⟩) (fun e => by
      match e with | ⟨0, _⟩ => rfl | ⟨1, _⟩ => rfl | ⟨2, _⟩ => rfl | ⟨3, _⟩ => rfl | ⟨4, _⟩ => rfl),
    shapeCast_apply _ h.p8 _ (ix6 b ⟨c.val / (2 * fd), ha⟩ g k ⟨c.val % (2 * fd) / 2, hi⟩ ⟨c.val % 2, by omega⟩) (by
      rw [Shape.rowMajor_val_five, Shape.rowMajor_val_six]
      show ((((b.val * 3 + c.val / (2 * fd)) * G + g.val) * 32 + k.val) * fd + c.val % (2 * fd) / 2) * 2 + c.val % 2
        = (((b.val * 3 + c.val / (2 * fd)) * G + g.val) * 32 + k.val) * F2 + c.val % (2 * fd)
      have e : c.val % (2 * fd) / 2 * 2 + c.val % 2 = c.val % (2 * fd) := by omega
      rw [hF2, Nat.add_mul, Nat.add_assoc, e]; ring)]
  unfold pcol
  have hd : ∀ y : FVec Ideal (Sh5 4 3 G 32 fd) .f32,
      broadcastInDim (Sh6 4 3 G 32 fd 1) ![0, 1, 2, 3, 4] h.p6 y (ix6 b ⟨c.val / (2 * fd), ha⟩ g k ⟨c.val % (2 * fd) / 2, hi⟩ 0)
        = y (ix5 b ⟨c.val / (2 * fd), ha⟩ g k ⟨c.val % (2 * fd) / 2, hi⟩) := fun y =>
    broadcastInDim_apply _ h.p6 y _ _ fun e => by
      match e with
      | ⟨0, _⟩ => exact kept b
      | ⟨1, _⟩ => exact kept (⟨c.val / (2 * fd), ha⟩ : Fin 3)
      | ⟨2, _⟩ => exact kept g
      | ⟨3, _⟩ => exact kept k
      | ⟨4, _⟩ => exact kept (⟨c.val % (2 * fd) / 2, hi⟩ : Fin fd)
  by_cases h0 : c.val % 2 = 0
  · rw [concatenate_pair_apply_left (t := Sh6 4 3 G 32 fd 2) (s₁ := Sh6 4 3 G 32 fd 1) (s₂ := Sh6 4 3 G 32 fd 1) 5 _ _ h.p7 _ rfl
      (ix6 b ⟨c.val / (2 * fd), ha⟩ g k ⟨c.val % (2 * fd) / 2, hi⟩ 0) (fun e => by
        match e with
        | ⟨0, _⟩ => rfl | ⟨1, _⟩ => rfl | ⟨2, _⟩ => rfl | ⟨3, _⟩ => rfl | ⟨4, _⟩ => rfl
        | ⟨5, _⟩ => exact h0.symm), hd]
    show Ideal.sin (angles h t de _) = _
    rw [angles_apply]
    exact (if_pos h0).symm
  · rw [concatenate_pair_apply_right (t := Sh6 4 3 G 32 fd 2) (s₁ := Sh6 4 3 G 32 fd 1) (s₂ := Sh6 4 3 G 32 fd 1) 5 _ _ h.p7 _ rfl rfl
      (ix6 b ⟨c.val / (2 * fd), ha⟩ g k ⟨c.val % (2 * fd) / 2, hi⟩ 0) (fun e he => by
        match e with
        | ⟨0, _⟩ => rfl | ⟨1, _⟩ => rfl | ⟨2, _⟩ => rfl | ⟨3, _⟩ => rfl | ⟨4, _⟩ => rfl
        | ⟨5, _⟩ => exact absurd rfl he) (by show 0 + 1 = c.val % 2; omega), hd]
    show Ideal.cos (angles h t de _) = _
    rw [angles_apply]
    exact (if_neg h0).symm

theorem pooled_apply (x : FVec Ideal (Sh4 4 C2 G 32) .f32) (c : Fin C2) :
    pooled h x (ix3 b g c) = pool fun k => x (ix4 b c g k) := by
  unfold pooled
  rw [transpose_apply _ _ h.tr (ix3 b g c) (ix3 b c g) (fun a => by
    match a with | ⟨0, _⟩ => rfl | ⟨1, _⟩ => rfl | ⟨2, _⟩ => rfl)]
  have hl : ∀ k : Fin 32, h.rp.lift (ix3 b c g) k = ix4 b c g k := fun k => by
    funext a
    match a with
    | ⟨0, _⟩ => rfl
    | ⟨1, _⟩ => rfl
    | ⟨2, _⟩ => rfl
    | ⟨3, _⟩ => rfl
  have hf : x ∘ h.rp.lift (ix3 b c g) = fun k : Fin 32 => x (ix4 b c g k) := funext fun k => congrArg x (hl k)
  refine congrArg₂ (· + ·) ((Host.reduce_eq_fold_single (FloatOps.maximumf (F := Ideal) (φ := .f32)) x _ h.dp h.rp h.u (ix3 b c g)).trans
    (congrArg ((Finset.univ : Finset (Fin 32)).fold max (Ideal.ofBits .f32 0xFF800000#32)) hf)) ?_
  show Ideal.div (Ideal.hostReduceAdd h.dp x (Ideal.ofBits .f32 0x00000000#32) (ix3 b c g))
    (broadcastInDim (Sh3 4 C2 G) ![] h.bm (constant (F := Ideal) Sh0 .f32 0x42000000#32) (ix3 b c g)) = _
  rw [broadcastInDim_scalar_apply, Ideal.hostReduceAdd_single h.dp h.rp, Ideal.ofBits_zero_f32, zero_add]
  refine (div_thirtytwo _).trans (congrArg (· * _) ?_)
  exact Finset.sum_congr rfl fun k _ => congrArg x (hl k)

/-- THE REFERENCE, read at batch `b`, group `g` and column `c`. -/
theorem reference_apply (hC : C = 2 * H) (hC2 : C2 = 2 * C) (hfd : 0 < fd) (hF2 : F2 = 2 * fd) (hC6 : C2 = 6 * fd)
    (v : FVec Ideal (Sh4 4 G 32 C) .f32) (vz : FVec Ideal (Sh4 4 G 32 3) .f32) (l : FVec Ideal (Sh3 4 G 3) .f32)
    (dx dz : FVec Ideal (Sh2 1 1) .f32) (bm : FVec Ideal (Sh2 7 H) .f32) (de : FVec Ideal (Sh1 fd) .f32) (c : Fin C2) :
    reference h v vz l dx dz bm de de (ix3 b g c)
      = feature hfd (fun i => de (ix1 i)) (fun j c => bm (ix2 j c)) (fun k c => scaled (v (ix4 b g k c)) (dx (ix2 0 0)))
          (fun k i => scaled (vz (ix4 b g k i)) (dz (ix2 0 0))) (fun i => l (ix3 b g i)) (c.cast hC6) := by
  unfold reference feature
  rw [pooled_apply]
  refine congrArg pool (funext fun k => ?_)
  unfold fins
  rw [mulf_apply, addf_apply, weight_apply h b g k hC hC2, addf_apply, pos_apply h b g k hfd hF2 hC6, pos_apply h b g k hfd hF2 hC6]
  simp only [kx_apply, kz_apply, lc_apply]
  rfl

end Cert.Reference

end
-- ==== Proof.Stage.lean ====
/- The equation, for any stage: a block's element is the reference's element at the batch and the group the block holds,
   when the block's tables hold the axis, the quarter turn's count and the frequency of each column. -/
module

public import Idealize.ShloMosaic.Lib.Pipeline.ValueKit
public import proofs.«01_k».proof.Proof.Reference

@[expose] public section

noncomputable section

namespace Cert.Stage

open Idealize.ShloMosaic hiding ix1 ix2 ix3 ix4
open Idealize.ShloMosaic.ValueIdx Cert.Spec Cert.Block Cert.Reference

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The row-major place of a vector's index. -/
theorem place {n : ℕ} (c : Fin n) : ((Sh1 n).rowMajor (ix1 c)).val = c.val := Shape.rowMajor_val_one _

/-- A table laid out as one row. -/
theorem row_apply {n : ℕ} {α : Type} (h : (Sh1 n).BroadcastsInDim (Sh2 1 n) ![1]) (x : (Sh1 n).Idx → α) (c : Fin n) :
    broadcastInDim (Sh2 1 n) ![1] h x (ix2 0 c) = x (ix1 c) :=
  broadcastInDim_apply _ h x _ _ fun a => by match a with | ⟨0, _⟩ => exact kept c

/-- A word of the table of quarter turns, as a number. -/
theorem turn {w : BitVec 32} {k n : ℕ} (h : w = if k % 2 = 0 then 0x00000000#32 else 0x3F800000#32) (hk : k = n) :
    Ideal.ofBits .f32 w = if n % 2 = 0 then (0 : EReal) else 1 := by
  subst hk
  rw [h]
  split
  · exact Ideal.ofBits_zero_f32
  · exact word_one

variable {g G R C C2 H fd F2 : ℕ}

theorem agree (h : Fits g R C C2 H) (r : RFits G C C2 H fd F2) (hR : R = g * 32) (hC : C = 2 * H) (hC2 : C2 = 2 * C)
    (hfd : 0 < fd) (hF2 : F2 = 2 * fd) (hC6 : C2 = 6 * fd)
    {x0 : FVec Ideal (Sh4 1 g 32 C) .f32} {x1 : FVec Ideal (Sh4 1 g 32 3) .f32} {x2 : FVec Ideal (Sh3 1 g 3) .f32}
    {A0 : FVec Ideal (Sh4 4 G 32 C) .f32} {A1 : FVec Ideal (Sh4 4 G 32 3) .f32} {A2 : FVec Ideal (Sh3 4 G 3) .f32}
    {b : Fin 4} {p : Fin g} {y : Fin G}
    (e0 : ∀ k c, x0 (ix4 0 p k c) = A0 (ix4 b y k c)) (e1 : ∀ k i, x1 (ix4 0 p k i) = A1 (ix4 b y k i))
    (e2 : ∀ i, x2 (ix3 0 p i) = A2 (ix3 b y i))
    (dx dz : FVec Ideal (Sh2 1 1) .f32) (bm : FVec Ideal (Sh2 7 H) .f32) {is : IVec (Sh2 1 C2) 32}
    {so de : FVec Ideal (Sh2 1 C2) .f32} {q : Ideal .f32} (hq : q = (((1 / 2) * Real.pi : ℝ) : EReal)) (fr : FVec Ideal (Sh1 fd) .f32)
    (his : ∀ c : Fin C2, is (ix2 0 c) = BitVec.ofNat 32 (c.val / (2 * fd)))
    (hso : ∀ c : Fin C2, so (ix2 0 c) = if c.val % 2 = 0 then 0 else 1)
    (hde : ∀ (c : Fin C2) (i : Fin fd), i.val = c.val % (2 * fd) / 2 → de (ix2 0 c) = fr (ix1 i)) (c : Fin C2) :
    block h x0 x1 x2 dx dz bm is so de q (ix3 0 p c) = reference r A0 A1 A2 dx dz bm fr fr (ix3 b y c) := by
  rw [block_apply h hR hC hC2 hfd hC6 x0 x1 x2 dx dz bm is so de q hq (fun i => fr (ix1 i)) his hso hde,
    reference_apply r b y hC hC2 hfd hF2 hC6]
  simp only [e0, e1, e2]

theorem reference_congr (r : RFits G C C2 H fd F2) {A0 B0 : FVec Ideal (Sh4 4 G 32 C) .f32} {A1 B1 : FVec Ideal (Sh4 4 G 32 3) .f32}
    {A2 B2 : FVec Ideal (Sh3 4 G 3) .f32} {A3 B3 A4 B4 : FVec Ideal (Sh2 1 1) .f32} (h0 : A0 = B0) (h1 : A1 = B1) (h2 : A2 = B2)
    (h3 : A3 = B3) (h4 : A4 = B4) (bm : FVec Ideal (Sh2 7 H) .f32) (f f' : FVec Ideal (Sh1 fd) .f32) :
    reference r A0 A1 A2 A3 A4 bm f f' = reference r B0 B1 B2 B3 B4 bm f f' := by
  rw [h0, h1, h2, h3, h4]

end Cert.Stage

end
-- ==== Proof.Stage0.lean ====
/- The first stage's call: its result array is the reference's result. -/
module

public import proofs.«01_k».proof.Proof.Stage
public import proofs.«01_k».proof.Proof.Gen.Feat0Ideal.Value
public import proofs.«01_k».proof.Proof.Gen.Ref0Ideal.Run

@[expose] public section

set_option maxRecDepth 8192

noncomputable section

namespace Cert.Stage0

open Idealize.ShloMosaic hiding ix1 ix2 ix3 ix4
open Idealize.ShloMosaic.TcCoe Idealize.ShloMosaic.ValueIdx Idealize.SL.Sem
open Cert.Feat0Ideal Cert.Feat0Ideal.Gen Cert.Spec Cert.Block Cert.Reference Cert.Stage

theorem fits : Fits 64 2048 96 192 48 := by constructor <;> decide
theorem rfits : RFits 512 96 192 48 32 64 := by constructor <;> decide

/-- The quarter turn, as the kernel names it. -/
abbrev quarter : Ideal .f32 := Named.named κ "half_pi" (φ := .f32) 0x3FC90FDB#32

theorem quarter_eq : quarter = (((1 / 2) * Real.pi : ℝ) : EReal) := IdealRules.named_const.ideal_named_scalar _ _ _ _ rfl

/-- What the body leaves in the result's block is the block function of the input blocks. -/
theorem out_eq (x0 : Vec Ideal S1x64x32x96 .f32) (x1 : Vec Ideal S1x64x32x3 .f32) (x2 : Vec Ideal S1x64x3 .f32) (x3 x4 : Vec Ideal S1x1 .f32)
    (x5 : Vec Ideal S7x48 .f32) (x6 : Vec Ideal S1x192 .i32) (x7 x8 : Vec Ideal S1x192 .f32) :
    out0_9 x0 x1 x2 x3 x4 x5 x6 x7 x8 = block fits x0 x1 x2 x3 x4 x5 x6 x7 x8 quarter := by
  unfold_out out0_9
  rw [View.canon_unit_zero zeros3, View.ld_unit_zero zeros4, View.ld_unit_zero zeros2, View.ld_unit_zero zeros4,
    View.ld_unit_zero zeros2, View.ld_unit_zero zeros3, View.ld_unit_zero zeros2, View.ld_unit_zero zeros2,
    View.ld_unit_zero zeros2, View.ld_unit_zero zeros2]
  rfl

/-! ## The tables -/

theorem lit0_eq : ∀ i : Fin 336, lit0 i = Ref0Ideal.lit0 i := by decide +kernel
theorem lit1_eq : ∀ i : Fin 192, lit1 i = BitVec.ofNat 32 (i.val / (2 * 32)) := by decide +kernel
theorem lit2_eq : ∀ i : Fin 192, lit2 i = if i.val % 2 = 0 then 0x00000000#32 else 0x3F800000#32 := by decide +kernel
theorem lit3_eq : ∀ i : Fin 192, ∀ j : Fin 32, j.val = i.val % (2 * 32) / 2 → lit3 i = Ref0Ideal.lit1 j := by decide +kernel
theorem lit4_eq : ∀ j : Fin 32, Ref0Ideal.lit2 j = Ref0Ideal.lit1 j := by decide +kernel

/-- The matrix and the frequencies. -/
def matrix : FVec Ideal (Sh2 7 48) .f32 := fun i => Ideal.ofBits .f32 (Ref0Ideal.lit0 (S7x48.rowMajor i))
def freq : FVec Ideal (Sh1 32) .f32 := fun i => Ideal.ofBits .f32 (Ref0Ideal.lit1 ((Sh1 32).rowMajor i))

/-- The second of the reference's two tables of frequencies is the first. -/
theorem freq_again : (fun i => Ideal.ofBits .f32 (Ref0Ideal.lit2 ((Sh1 32).rowMajor i))) = freq :=
  funext fun i => congrArg (Ideal.ofBits .f32) (lit4_eq _)

variable (m : (ℓ : Loc nD τ sig) → Buf (Elt Ideal) ℓ) (c : Dev nD)

theorem V_bm : V m c main_cst = matrix := by
  unfold V hostOps0
  after_results
  exact funext fun i => congrArg (Ideal.ofBits .f32) (lit0_eq _)

theorem is_apply (n : Fin 192) : V m c main_v0 (ix2 0 n) = BitVec.ofNat 32 (n.val / (2 * 32)) := by
  unfold V hostOps0
  after_results
  exact (row_apply _ (fun i => lit1 (S192.rowMajor i)) n).trans ((lit1_eq _).trans (by rw [place]))

theorem so_apply (n : Fin 192) : V m c main_v1 (ix2 0 n) = if n.val % 2 = 0 then (0 : EReal) else 1 := by
  unfold V hostOps0
  after_results
  exact (row_apply _ (fun i => Ideal.ofBits .f32 (lit2 (S192.rowMajor i))) n).trans (turn (lit2_eq _) (place n))

theorem de_apply (n : Fin 192) (i : Fin 32) (hi : i.val = n.val % (2 * 32) / 2) : V m c main_v2 (ix2 0 n) = freq (ix1 i) := by
  unfold V hostOps0
  after_results
  exact (row_apply _ (fun i => Ideal.ofBits .f32 (lit3 (S192.rowMajor i))) n).trans
    (congrArg (Ideal.ofBits .f32) (lit3_eq _ _ (by rw [place, place, hi])))

/-! ## The blocks -/

/-- The blocks' places, by the grid's point: a batch and a run of its groups, or the whole of an array. -/
theorem places : ∀ t : Fin cfg0.N, win0_0.index t = ![t.val / 8, t.val % 8, 0, 0] ∧ win0_1.index t = ![t.val / 8, t.val % 8, 0, 0]
    ∧ win0_2.index t = ![t.val / 8, t.val % 8, 0] ∧ win0_9.index t = ![t.val / 8, t.val % 8, 0] :=
  (by decide +kernel : ∀ t : Fin grid0.N, _)
theorem fixed : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

abbrev bat (t : Fin cfg0.N) : Fin 4 := ⟨t.val / 8, by have : t.val < 32 := t.isLt; omega⟩
abbrev grp (t : Fin cfg0.N) (p : Fin 64) : Fin 512 := ⟨t.val % 8 * 64 + p.val, by omega⟩

theorem blk0_apply (t : Fin cfg0.N) (p : Fin 64) (k : Fin 32) (n : Fin 96) :
    iblk m c 0 t (ix4 0 p k n) = m ((c : Thread nD τ).loc main_arg0) (ix4 (bat t) (grp t p) k n) := by
  blk_ext [iblk, V_main_arg0, (places t).1]

theorem blk1_apply (t : Fin cfg0.N) (p : Fin 64) (k : Fin 32) (i : Fin 3) :
    iblk m c 1 t (ix4 0 p k i) = m ((c : Thread nD τ).loc main_arg1) (ix4 (bat t) (grp t p) k i) := by
  blk_ext [iblk, V_main_arg1, (places t).2.1]

theorem blk2_apply (t : Fin cfg0.N) (p : Fin 64) (i : Fin 3) :
    iblk m c 2 t (ix3 0 p i) = m ((c : Thread nD τ).loc main_arg2) (ix3 (bat t) (grp t p) i) := by
  blk_ext [iblk, V_main_arg2, (places t).2.2.1]

theorem whole3 (t : Fin cfg0.N) : iblk m c 3 t = m ((c : Thread nD τ).loc main_arg3) := funext fun x => by blk_ext [iblk, V_main_arg3, fixed t]
theorem whole4 (t : Fin cfg0.N) : iblk m c 4 t = m ((c : Thread nD τ).loc main_arg4) := funext fun x => by blk_ext [iblk, V_main_arg4, fixed t]
theorem whole5 (t : Fin cfg0.N) : iblk m c 5 t = V m c main_cst := funext fun x => by blk_ext [iblk, fixed t]
theorem whole6 (t : Fin cfg0.N) : iblk m c 6 t = V m c main_v0 := funext fun x => by blk_ext [iblk, fixed t]
theorem whole7 (t : Fin cfg0.N) : iblk m c 7 t = V m c main_v1 := funext fun x => by blk_ext [iblk, fixed t]
theorem whole8 (t : Fin cfg0.N) : iblk m c 8 t = V m c main_v2 := funext fun x => by blk_ext [iblk, fixed t]

theorem out_at (t : Fin cfg0.N) (p : Fin 64) (n : Fin 192) :
    ((cfg0.win 9).blk t).view.emb (ix3 0 p n : S1x64x192.Idx) = ix3 (bat t) (grp t p) n := by
  blk_ext [places t]

/-! ## The whole array -/

/-- The reference's result at the launch's arguments. -/
def result : FVec Ideal (Sh3 4 512 192) .f32 :=
  reference rfits (m ((c : Thread nD τ).loc main_arg0)) (m ((c : Thread nD τ).loc main_arg1)) (m ((c : Thread nD τ).loc main_arg2))
    (m ((c : Thread nD τ).loc main_arg3)) (m ((c : Thread nD τ).loc main_arg4)) matrix freq freq

/-- What a point leaves is its block of the reference's result. -/
theorem point (t : Fin cfg0.N) (p : Fin 64) (n : Fin 192) :
    (dats m 0 c).after 9 t (ix3 0 p n : S1x64x192.Idx) = result m c (ix3 (bat t) (grp t p) n) := by
  rw [after0_9, out_eq, whole3, whole4, whole5, whole6, whole7, whole8, V_bm]
  exact agree fits rfits rfl rfl rfl (by decide) rfl rfl (blk0_apply m c t p) (blk1_apply m c t p) (blk2_apply m c t p) _ _ matrix
    quarter_eq freq (is_apply m c) (so_apply m c) (de_apply m c) n

theorem final : (dats m 0 c).arrAt 9 cfg0.N = result m c := by
  refine (dats m 0 c).arrAt_eq_of_covers 9 (result m c) (by decide +kernel) fun t _ (y : S1x64x192.Idx) => ?_
  show (dats m 0 c).after 9 t y = result m c (((cfg0.win 9).blk t).view.emb y)
  rw [ValueIdx.eq_ix3 y, Subsingleton.elim (α := Fin 1) (y 0) 0]
  exact (point m c t (y 1) (y 2)).trans (congrArg (result m c) (out_at t (y 1) (y 2)).symm)

end Cert.Stage0

end
-- ==== Proof.Claim0.lean ====
/- The first stage: its five claims. -/
module

public import proofs.«01_k».proof.Defs
public import proofs.«01_k».proof.Proof.Gen.Feat0.Frame
public import proofs.«01_k».proof.Proof.Gen.Feat0Ideal.Frame
public import proofs.«01_k».proof.Proof.Stage0

@[expose] public section

set_option maxRecDepth 8192

noncomputable section

namespace Cert.Stage0

open Idealize.ShloMosaic Idealize.SL.Sem
open Cert.Spec Cert.Reference Cert.Stage

theorem quiescent : @quiescent_Feat0 Feat0.Gen.facts := fun m g _ => Feat0.Gen.frame m g

theorem quiescentIdeal : @quiescent_Feat0Ideal Feat0Ideal.Gen.facts := fun m g _ => Feat0Ideal.Gen.frame m g

theorem quiescentRef : @quiescent_Ref0Ideal Ref0Ideal.Gen.facts := fun m g _ =>
  (θ_run _ _ _).mono (fun r h => ⟨fun c => (h c).2, sem_eq_zero_of_no_sems (by decide) r.2⟩) (Ref0Ideal.Value.run m g)

theorem preserves : preserves_Feat0_Feat0Ideal :=
  IdealRules.named_const.statement Feat0Ideal.κ "half_pi" .f32 0x3FC90FDB#32 _ rfl

/-- From equal arguments the call and its reference leave equal results. -/
theorem algebraic : @algebraic_Feat0Ideal_Ref0Ideal Feat0Ideal.Gen.facts Ref0Ideal.Gen.facts := by
  intro m g m' g' _ hag
  refine ⟨fun c => result m c, ?_, ?_⟩
  · exact (θ_run _ _ _).mono (fun r h c => ⟨(h c).1.trans (final m c), (h c).2⟩) (Feat0Ideal.Value.run_blocks m g)
  · refine (θ_run _ _ _).mono (fun r h c => ⟨(h c).1.trans ?_, (h c).2⟩) (Ref0Ideal.Value.run m' g')
    refine Eq.trans (b := reference rfits _ _ _ _ _ matrix freq (fun i => Ideal.ofBits .f32 (Ref0Ideal.lit2 ((Sh1 32).rowMajor i)))) rfl ?_
    rw [freq_again]
    obtain ⟨h0, h1, h2, h3, h4⟩ := hag c
    exact reference_congr rfits h0 h1 h2 h3 h4 _ _ _

end Cert.Stage0

end
-- ==== Proof.Stage1.lean ====
/- The second stage's call: its result array is the reference's result. -/
module

public import proofs.«01_k».proof.Proof.Stage
public import proofs.«01_k».proof.Proof.Gen.Feat1Ideal.Value
public import proofs.«01_k».proof.Proof.Gen.Ref1Ideal.Run

@[expose] public section

set_option maxRecDepth 8192

noncomputable section

namespace Cert.Stage1

open Idealize.ShloMosaic hiding ix1 ix2 ix3 ix4
open Idealize.ShloMosaic.TcCoe Idealize.ShloMosaic.ValueIdx Idealize.SL.Sem
open Cert.Feat1Ideal Cert.Feat1Ideal.Gen Cert.Spec Cert.Block Cert.Reference Cert.Stage

theorem fits : Fits 32 1024 192 384 96 := by constructor <;> decide
theorem rfits : RFits 256 192 384 96 64 128 := by constructor <;> decide

/-- The quarter turn, as the kernel names it. -/
abbrev quarter : Ideal .f32 := Named.named κ "half_pi" (φ := .f32) 0x3FC90FDB#32

theorem quarter_eq : quarter = (((1 / 2) * Real.pi : ℝ) : EReal) := IdealRules.named_const.ideal_named_scalar _ _ _ _ rfl

/-- What the body leaves in the result's block is the block function of the input blocks. -/
theorem out_eq (x0 : Vec Ideal S1x32x32x192 .f32) (x1 : Vec Ideal S1x32x32x3 .f32) (x2 : Vec Ideal S1x32x3 .f32) (x3 x4 : Vec Ideal S1x1 .f32)
    (x5 : Vec Ideal S7x96 .f32) (x6 : Vec Ideal S1x384 .i32) (x7 x8 : Vec Ideal S1x384 .f32) :
    out0_9 x0 x1 x2 x3 x4 x5 x6 x7 x8 = block fits x0 x1 x2 x3 x4 x5 x6 x7 x8 quarter := by
  unfold_out out0_9
  rw [View.canon_unit_zero zeros3, View.ld_unit_zero zeros4, View.ld_unit_zero zeros2, View.ld_unit_zero zeros4,
    View.ld_unit_zero zeros2, View.ld_unit_zero zeros3, View.ld_unit_zero zeros2, View.ld_unit_zero zeros2,
    View.ld_unit_zero zeros2, View.ld_unit_zero zeros2]
  rfl

/-! ## The tables -/

theorem lit0_eq : ∀ i : Fin 672, lit0 i = Ref1Ideal.lit0 i := by decide +kernel
theorem lit1_eq : ∀ i : Fin 384, lit1 i = BitVec.ofNat 32 (i.val / (2 * 64)) := by decide +kernel
theorem lit2_eq : ∀ i : Fin 384, lit2 i = if i.val % 2 = 0 then 0x00000000#32 else 0x3F800000#32 := by decide +kernel
theorem lit3_eq : ∀ i : Fin 384, ∀ j : Fin 64, j.val = i.val % (2 * 64) / 2 → lit3 i = Ref1Ideal.lit1 j := by decide +kernel
theorem lit4_eq : ∀ j : Fin 64, Ref1Ideal.lit2 j = Ref1Ideal.lit1 j := by decide +kernel

/-- The matrix and the frequencies. -/
def matrix : FVec Ideal (Sh2 7 96) .f32 := fun i => Ideal.ofBits .f32 (Ref1Ideal.lit0 (S7x96.rowMajor i))
def freq : FVec Ideal (Sh1 64) .f32 := fun i => Ideal.ofBits .f32 (Ref1Ideal.lit1 ((Sh1 64).rowMajor i))

/-- The second of the reference's two tables of frequencies is the first. -/
theorem freq_again : (fun i => Ideal.ofBits .f32 (Ref1Ideal.lit2 ((Sh1 64).rowMajor i))) = freq :=
  funext fun i => congrArg (Ideal.ofBits .f32) (lit4_eq _)

variable (m : (ℓ : Loc nD τ sig) → Buf (Elt Ideal) ℓ) (c : Dev nD)

theorem V_bm : V m c main_cst = matrix := by
  unfold V hostOps0
  after_results
  exact funext fun i => congrArg (Ideal.ofBits .f32) (lit0_eq _)

theorem is_apply (n : Fin 384) : V m c main_v0 (ix2 0 n) = BitVec.ofNat 32 (n.val / (2 * 64)) := by
  unfold V hostOps0
  after_results
  exact (row_apply _ (fun i => lit1 (S384.rowMajor i)) n).trans ((lit1_eq _).trans (by rw [place]))

theorem so_apply (n : Fin 384) : V m c main_v1 (ix2 0 n) = if n.val % 2 = 0 then (0 : EReal) else 1 := by
  unfold V hostOps0
  after_results
  exact (row_apply _ (fun i => Ideal.ofBits .f32 (lit2 (S384.rowMajor i))) n).trans (turn (lit2_eq _) (place n))

theorem de_apply (n : Fin 384) (i : Fin 64) (hi : i.val = n.val % (2 * 64) / 2) : V m c main_v2 (ix2 0 n) = freq (ix1 i) := by
  unfold V hostOps0
  after_results
  exact (row_apply _ (fun i => Ideal.ofBits .f32 (lit3 (S384.rowMajor i))) n).trans
    (congrArg (Ideal.ofBits .f32) (lit3_eq _ _ (by rw [place, place, hi])))

/-! ## The blocks -/

/-- The blocks' places, by the grid's point: a batch and a run of its groups, or the whole of an array. -/
theorem places : ∀ t : Fin cfg0.N, win0_0.index t = ![t.val / 8, t.val % 8, 0, 0] ∧ win0_1.index t = ![t.val / 8, t.val % 8, 0, 0]
    ∧ win0_2.index t = ![t.val / 8, t.val % 8, 0] ∧ win0_9.index t = ![t.val / 8, t.val % 8, 0] :=
  (by decide +kernel : ∀ t : Fin grid0.N, _)
theorem fixed : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

abbrev bat (t : Fin cfg0.N) : Fin 4 := ⟨t.val / 8, by have : t.val < 32 := t.isLt; omega⟩
abbrev grp (t : Fin cfg0.N) (p : Fin 32) : Fin 256 := ⟨t.val % 8 * 32 + p.val, by omega⟩

theorem blk0_apply (t : Fin cfg0.N) (p : Fin 32) (k : Fin 32) (n : Fin 192) :
    iblk m c 0 t (ix4 0 p k n) = m ((c : Thread nD τ).loc main_arg0) (ix4 (bat t) (grp t p) k n) := by
  blk_ext [iblk, V_main_arg0, (places t).1]

theorem blk1_apply (t : Fin cfg0.N) (p : Fin 32) (k : Fin 32) (i : Fin 3) :
    iblk m c 1 t (ix4 0 p k i) = m ((c : Thread nD τ).loc main_arg1) (ix4 (bat t) (grp t p) k i) := by
  blk_ext [iblk, V_main_arg1, (places t).2.1]

theorem blk2_apply (t : Fin cfg0.N) (p : Fin 32) (i : Fin 3) :
    iblk m c 2 t (ix3 0 p i) = m ((c : Thread nD τ).loc main_arg2) (ix3 (bat t) (grp t p) i) := by
  blk_ext [iblk, V_main_arg2, (places t).2.2.1]

theorem whole3 (t : Fin cfg0.N) : iblk m c 3 t = m ((c : Thread nD τ).loc main_arg3) := funext fun x => by blk_ext [iblk, V_main_arg3, fixed t]
theorem whole4 (t : Fin cfg0.N) : iblk m c 4 t = m ((c : Thread nD τ).loc main_arg4) := funext fun x => by blk_ext [iblk, V_main_arg4, fixed t]
theorem whole5 (t : Fin cfg0.N) : iblk m c 5 t = V m c main_cst := funext fun x => by blk_ext [iblk, fixed t]
theorem whole6 (t : Fin cfg0.N) : iblk m c 6 t = V m c main_v0 := funext fun x => by blk_ext [iblk, fixed t]
theorem whole7 (t : Fin cfg0.N) : iblk m c 7 t = V m c main_v1 := funext fun x => by blk_ext [iblk, fixed t]
theorem whole8 (t : Fin cfg0.N) : iblk m c 8 t = V m c main_v2 := funext fun x => by blk_ext [iblk, fixed t]

theorem out_at (t : Fin cfg0.N) (p : Fin 32) (n : Fin 384) :
    ((cfg0.win 9).blk t).view.emb (ix3 0 p n : S1x32x384.Idx) = ix3 (bat t) (grp t p) n := by
  blk_ext [places t]

/-! ## The whole array -/

/-- The reference's result at the launch's arguments. -/
def result : FVec Ideal (Sh3 4 256 384) .f32 :=
  reference rfits (m ((c : Thread nD τ).loc main_arg0)) (m ((c : Thread nD τ).loc main_arg1)) (m ((c : Thread nD τ).loc main_arg2))
    (m ((c : Thread nD τ).loc main_arg3)) (m ((c : Thread nD τ).loc main_arg4)) matrix freq freq

/-- What a point leaves is its block of the reference's result. -/
theorem point (t : Fin cfg0.N) (p : Fin 32) (n : Fin 384) :
    (dats m 0 c).after 9 t (ix3 0 p n : S1x32x384.Idx) = result m c (ix3 (bat t) (grp t p) n) := by
  rw [after0_9, out_eq, whole3, whole4, whole5, whole6, whole7, whole8, V_bm]
  exact agree fits rfits rfl rfl rfl (by decide) rfl rfl (blk0_apply m c t p) (blk1_apply m c t p) (blk2_apply m c t p) _ _ matrix
    quarter_eq freq (is_apply m c) (so_apply m c) (de_apply m c) n

theorem final : (dats m 0 c).arrAt 9 cfg0.N = result m c := by
  refine (dats m 0 c).arrAt_eq_of_covers 9 (result m c) (by decide +kernel) fun t _ (y : S1x32x384.Idx) => ?_
  show (dats m 0 c).after 9 t y = result m c (((cfg0.win 9).blk t).view.emb y)
  rw [ValueIdx.eq_ix3 y, Subsingleton.elim (α := Fin 1) (y 0) 0]
  exact (point m c t (y 1) (y 2)).trans (congrArg (result m c) (out_at t (y 1) (y 2)).symm)

end Cert.Stage1

end
-- ==== Proof.Claim1.lean ====
/- The second stage: its five claims. -/
module

public import proofs.«01_k».proof.Defs
public import proofs.«01_k».proof.Proof.Gen.Feat1.Frame
public import proofs.«01_k».proof.Proof.Gen.Feat1Ideal.Frame
public import proofs.«01_k».proof.Proof.Stage1

@[expose] public section

set_option maxRecDepth 8192

noncomputable section

namespace Cert.Stage1

open Idealize.ShloMosaic Idealize.SL.Sem
open Cert.Spec Cert.Reference Cert.Stage

theorem quiescent : @quiescent_Feat1 Feat1.Gen.facts := fun m g _ => Feat1.Gen.frame m g

theorem quiescentIdeal : @quiescent_Feat1Ideal Feat1Ideal.Gen.facts := fun m g _ => Feat1Ideal.Gen.frame m g

theorem quiescentRef : @quiescent_Ref1Ideal Ref1Ideal.Gen.facts := fun m g _ =>
  (θ_run _ _ _).mono (fun r h => ⟨fun c => (h c).2, sem_eq_zero_of_no_sems (by decide) r.2⟩) (Ref1Ideal.Value.run m g)

theorem preserves : preserves_Feat1_Feat1Ideal :=
  IdealRules.named_const.statement Feat1Ideal.κ "half_pi" .f32 0x3FC90FDB#32 _ rfl

/-- From equal arguments the call and its reference leave equal results. -/
theorem algebraic : @algebraic_Feat1Ideal_Ref1Ideal Feat1Ideal.Gen.facts Ref1Ideal.Gen.facts := by
  intro m g m' g' _ hag
  refine ⟨fun c => result m c, ?_, ?_⟩
  · exact (θ_run _ _ _).mono (fun r h c => ⟨(h c).1.trans (final m c), (h c).2⟩) (Feat1Ideal.Value.run_blocks m g)
  · refine (θ_run _ _ _).mono (fun r h c => ⟨(h c).1.trans ?_, (h c).2⟩) (Ref1Ideal.Value.run m' g')
    refine Eq.trans (b := reference rfits _ _ _ _ _ matrix freq (fun i => Ideal.ofBits .f32 (Ref1Ideal.lit2 ((Sh1 64).rowMajor i)))) rfl ?_
    rw [freq_again]
    obtain ⟨h0, h1, h2, h3, h4⟩ := hag c
    exact reference_congr rfits h0 h1 h2 h3 h4 _ _ _

end Cert.Stage1

end
-- ==== Proof.Stage2.lean ====
/- The third stage's call: its result array is the reference's result, and the transpose after it reads that array. -/
module

public import proofs.«01_k».proof.Proof.Stage
public import proofs.«01_k».proof.Proof.Gen.Feat2Ideal.Frame
public import proofs.«01_k».proof.Proof.Gen.Ref2Ideal.Run

@[expose] public section

set_option maxRecDepth 8768

noncomputable section

namespace Cert.Stage2

open Idealize.ShloMosaic hiding ix1 ix2 ix3 ix4
open Idealize.ShloMosaic.TcCoe Idealize.ShloMosaic.ValueIdx Idealize.SL.Sem
open Cert.Feat2Ideal Cert.Feat2Ideal.Gen Cert.Spec Cert.Block Cert.Reference Cert.Stage

theorem fits : Fits 16 512 384 768 192 := by constructor <;> decide
theorem rfits : RFits 128 384 768 192 128 256 := by constructor <;> decide

/-- The quarter turn, as the kernel names it. -/
abbrev quarter : Ideal .f32 := Named.named κ "half_pi" (φ := .f32) 0x3FC90FDB#32

theorem quarter_eq : quarter = (((1 / 2) * Real.pi : ℝ) : EReal) := IdealRules.named_const.ideal_named_scalar _ _ _ _ rfl

/-- What the body leaves in the result's block is the block function of the input blocks. -/
theorem out_eq (x0 : Vec Ideal S1x16x32x384 .f32) (x1 : Vec Ideal S1x16x32x3 .f32) (x2 : Vec Ideal S1x16x3 .f32) (x3 x4 : Vec Ideal S1x1 .f32)
    (x5 : Vec Ideal S7x192 .f32) (x6 : Vec Ideal S1x768 .i32) (x7 x8 : Vec Ideal S1x768 .f32) :
    out0_9 x0 x1 x2 x3 x4 x5 x6 x7 x8 = block fits x0 x1 x2 x3 x4 x5 x6 x7 x8 quarter := by
  unfold_out out0_9
  rw [View.canon_unit_zero zeros3, View.ld_unit_zero zeros4, View.ld_unit_zero zeros2, View.ld_unit_zero zeros4,
    View.ld_unit_zero zeros2, View.ld_unit_zero zeros3, View.ld_unit_zero zeros2, View.ld_unit_zero zeros2,
    View.ld_unit_zero zeros2, View.ld_unit_zero zeros2]
  rfl

/-! ## The tables -/

theorem lit0_eq : ∀ i : Fin 1344, lit0 i = Ref2Ideal.lit0 i := by decide +kernel
theorem lit1_eq : ∀ i : Fin 768, lit1 i = BitVec.ofNat 32 (i.val / (2 * 128)) := by decide +kernel
theorem lit2_eq : ∀ i : Fin 768, lit2 i = if i.val % 2 = 0 then 0x00000000#32 else 0x3F800000#32 := by decide +kernel
theorem lit3_eq : ∀ i : Fin 768, ∀ j : Fin 128, j.val = i.val % (2 * 128) / 2 → lit3 i = Ref2Ideal.lit1 j := by decide +kernel
theorem lit4_eq : ∀ j : Fin 128, Ref2Ideal.lit2 j = Ref2Ideal.lit1 j := by decide +kernel

/-- The matrix and the frequencies. -/
def matrix : FVec Ideal (Sh2 7 192) .f32 := fun i => Ideal.ofBits .f32 (Ref2Ideal.lit0 (S7x192.rowMajor i))
def freq : FVec Ideal (Sh1 128) .f32 := fun i => Ideal.ofBits .f32 (Ref2Ideal.lit1 ((Sh1 128).rowMajor i))

/-- The second of the reference's two tables of frequencies is the first. -/
theorem freq_again : (fun i => Ideal.ofBits .f32 (Ref2Ideal.lit2 ((Sh1 128).rowMajor i))) = freq :=
  funext fun i => congrArg (Ideal.ofBits .f32) (lit4_eq _)

variable (m : (ℓ : Loc nD τ sig) → Buf (Elt Ideal) ℓ) (c : Dev nD)

theorem V_bm : V m c main_cst = matrix := by
  unfold V V0 hostOps0
  simp only [List.flatten_cons, List.flatten_nil, List.append_nil]
  after_results
  exact funext fun i => congrArg (Ideal.ofBits .f32) (lit0_eq _)

theorem is_apply (n : Fin 768) : V m c main_v0 (ix2 0 n) = BitVec.ofNat 32 (n.val / (2 * 128)) := by
  unfold V V0 hostOps0
  simp only [List.flatten_cons, List.flatten_nil, List.append_nil]
  after_results
  exact (row_apply _ (fun i => lit1 (S768.rowMajor i)) n).trans ((lit1_eq _).trans (by rw [place]))

theorem so_apply (n : Fin 768) : V m c main_v1 (ix2 0 n) = if n.val % 2 = 0 then (0 : EReal) else 1 := by
  unfold V V0 hostOps0
  simp only [List.flatten_cons, List.flatten_nil, List.append_nil]
  after_results
  exact (row_apply _ (fun i => Ideal.ofBits .f32 (lit2 (S768.rowMajor i))) n).trans (turn (lit2_eq _) (place n))

theorem de_apply (n : Fin 768) (i : Fin 128) (hi : i.val = n.val % (2 * 128) / 2) : V m c main_v2 (ix2 0 n) = freq (ix1 i) := by
  unfold V V0 hostOps0
  simp only [List.flatten_cons, List.flatten_nil, List.append_nil]
  after_results
  exact (row_apply _ (fun i => Ideal.ofBits .f32 (lit3 (S768.rowMajor i))) n).trans
    (congrArg (Ideal.ofBits .f32) (lit3_eq _ _ (by rw [place, place, hi])))

/-! ## The blocks -/

/-- The blocks' places, by the grid's point: a batch and a run of its groups, or the whole of an array. -/
theorem places : ∀ t : Fin cfg0.N, win0_0.index t = ![t.val / 8, t.val % 8, 0, 0] ∧ win0_1.index t = ![t.val / 8, t.val % 8, 0, 0]
    ∧ win0_2.index t = ![t.val / 8, t.val % 8, 0] ∧ win0_9.index t = ![t.val / 8, t.val % 8, 0] :=
  (by decide +kernel : ∀ t : Fin grid0.N, _)
theorem fixed : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

abbrev bat (t : Fin cfg0.N) : Fin 4 := ⟨t.val / 8, by have : t.val < 32 := t.isLt; omega⟩
abbrev grp (t : Fin cfg0.N) (p : Fin 16) : Fin 128 := ⟨t.val % 8 * 16 + p.val, by omega⟩

theorem blk0_apply (t : Fin cfg0.N) (p : Fin 16) (k : Fin 32) (n : Fin 384) :
    iblk m c 0 t (ix4 0 p k n) = m ((c : Thread nD τ).loc main_arg0) (ix4 (bat t) (grp t p) k n) := by
  blk_ext [iblk, V_main_arg0, (places t).1]

theorem blk1_apply (t : Fin cfg0.N) (p : Fin 16) (k : Fin 32) (i : Fin 3) :
    iblk m c 1 t (ix4 0 p k i) = m ((c : Thread nD τ).loc main_arg1) (ix4 (bat t) (grp t p) k i) := by
  blk_ext [iblk, V_main_arg1, (places t).2.1]

theorem blk2_apply (t : Fin cfg0.N) (p : Fin 16) (i : Fin 3) :
    iblk m c 2 t (ix3 0 p i) = m ((c : Thread nD τ).loc main_arg2) (ix3 (bat t) (grp t p) i) := by
  blk_ext [iblk, V_main_arg2, (places t).2.2.1]

theorem whole3 (t : Fin cfg0.N) : iblk m c 3 t = m ((c : Thread nD τ).loc main_arg3) := funext fun x => by blk_ext [iblk, V_main_arg3, fixed t]
theorem whole4 (t : Fin cfg0.N) : iblk m c 4 t = m ((c : Thread nD τ).loc main_arg4) := funext fun x => by blk_ext [iblk, V_main_arg4, fixed t]
theorem whole5 (t : Fin cfg0.N) : iblk m c 5 t = V m c main_cst := funext fun x => by blk_ext [iblk, fixed t]
theorem whole6 (t : Fin cfg0.N) : iblk m c 6 t = V m c main_v0 := funext fun x => by blk_ext [iblk, fixed t]
theorem whole7 (t : Fin cfg0.N) : iblk m c 7 t = V m c main_v1 := funext fun x => by blk_ext [iblk, fixed t]
theorem whole8 (t : Fin cfg0.N) : iblk m c 8 t = V m c main_v2 := funext fun x => by blk_ext [iblk, fixed t]

theorem out_at (t : Fin cfg0.N) (p : Fin 16) (n : Fin 768) :
    ((cfg0.win 9).blk t).view.emb (ix3 0 p n : S1x16x768.Idx) = ix3 (bat t) (grp t p) n := by
  blk_ext [places t]

/-! ## The whole array -/

/-- The reference's result at the launch's arguments. -/
def result : FVec Ideal (Sh3 4 128 768) .f32 :=
  reference rfits (m ((c : Thread nD τ).loc main_arg0)) (m ((c : Thread nD τ).loc main_arg1)) (m ((c : Thread nD τ).loc main_arg2))
    (m ((c : Thread nD τ).loc main_arg3)) (m ((c : Thread nD τ).loc main_arg4)) matrix freq freq

/-- What a point leaves is its block of the reference's result. -/
theorem point (t : Fin cfg0.N) (p : Fin 16) (n : Fin 768) :
    (dats m 0 c).after 9 t (ix3 0 p n : S1x16x768.Idx) = result m c (ix3 (bat t) (grp t p) n) := by
  rw [after0_9, out_eq, whole3, whole4, whole5, whole6, whole7, whole8, V_bm]
  exact agree fits rfits rfl rfl rfl (by decide) rfl rfl (blk0_apply m c t p) (blk1_apply m c t p) (blk2_apply m c t p) _ _ matrix
    quarter_eq freq (is_apply m c) (so_apply m c) (de_apply m c) n

theorem final : (dats m 0 c).arrAt 9 cfg0.N = result m c := by
  refine (dats m 0 c).arrAt_eq_of_covers 9 (result m c) (by decide +kernel) fun t _ (y : S1x16x768.Idx) => ?_
  show (dats m 0 c).after 9 t y = result m c (((cfg0.win 9).blk t).view.emb y)
  rw [ValueIdx.eq_ix3 y, Subsingleton.elim (α := Fin 1) (y 0) 0]
  exact (point m c t (y 1) (y 2)).trans (congrArg (result m c) (out_at t (y 1) (y 2)).symm)

/-- The transpose after the call reads the call's array. -/
theorem last : Pipeline.afterTail₀ cfgs (dats m) 0 (V0 m) [hostOps1] c main_v4
    = transpose S4x768x128 [0, 2, 1] (result m c) transposes_S4x128x768_S4x768x128_0_2_1 := by
  unfold Pipeline.afterTail₀
  show StableHlo.after hostOps1 _ (Proc.devRef .tc main_v4) = _
  after_results
  refine congrArg (fun X => transpose S4x768x128 [0, 2, 1] X transposes_S4x128x768_S4x768x128_0_2_1) ?_
  exact (Pipeline.withArrays_arr spec0 launch0.win.arr_inj c (V0 m c) (fun w => (dats m 0 c).arrAt w cfg0.N) 9).trans (final m c)

end Cert.Stage2

end
-- ==== Proof.Claim2.lean ====
/- The third stage: its five claims. -/
module

public import proofs.«01_k».proof.Defs
public import proofs.«01_k».proof.Proof.Gen.Feat2.Frame
public import proofs.«01_k».proof.Proof.Gen.Feat2Ideal.Frame
public import proofs.«01_k».proof.Proof.Stage2

@[expose] public section

set_option maxRecDepth 8768

noncomputable section

namespace Cert.Stage2

open Idealize.ShloMosaic Idealize.ShloMosaic.TcCoe Idealize.SL.Sem
open Cert.Feat2Ideal Cert.Feat2Ideal.Gen Cert.Spec Cert.Reference Cert.Stage

theorem quiescent : @quiescent_Feat2 Feat2.Gen.facts := fun m g _ => Feat2.Gen.frame m g

theorem quiescentIdeal : @quiescent_Feat2Ideal Feat2Ideal.Gen.facts := fun m g _ => Feat2Ideal.Gen.frame m g

theorem quiescentRef : @quiescent_Ref2Ideal Ref2Ideal.Gen.facts := fun m g _ =>
  (θ_run _ _ _).mono (fun r h => ⟨fun c => (h c).2, sem_eq_zero_of_no_sems (by decide) r.2⟩) (Ref2Ideal.Value.run m g)

theorem preserves : preserves_Feat2_Feat2Ideal :=
  IdealRules.named_const.statement Feat2Ideal.κ "half_pi" .f32 0x3FC90FDB#32 _ rfl

/-- The call's run, with the transpose after it: the result, and the arguments as launched. -/
theorem run (m : (ℓ : Loc Feat2Ideal.nD Feat2Ideal.τ Feat2Ideal.sig) → Buf (Elt Ideal) ℓ) (ρ : Dev Feat2Ideal.nD → PrngReg) :
    θ_run Feat2Ideal.defs (onTc (τ := Feat2Ideal.τ) (Feat2Ideal.main (F := Ideal))) ⟨m, fun _ => 0, ρ⟩ fun r => ∀ c : Dev Feat2Ideal.nD,
      r.2.mem ((c.tc : Thread Feat2Ideal.nD Feat2Ideal.τ).loc main_v4) = transpose S4x768x128 [0, 2, 1] (result m c) transposes_S4x128x768_S4x768x128_0_2_1
        ∧ r.2.mem ((c.tc : Thread Feat2Ideal.nD Feat2Ideal.τ).loc main_arg0) = m ((c.tc : Thread Feat2Ideal.nD Feat2Ideal.τ).loc main_arg0)
        ∧ r.2.mem ((c.tc : Thread Feat2Ideal.nD Feat2Ideal.τ).loc main_arg1) = m ((c.tc : Thread Feat2Ideal.nD Feat2Ideal.τ).loc main_arg1)
        ∧ r.2.mem ((c.tc : Thread Feat2Ideal.nD Feat2Ideal.τ).loc main_arg2) = m ((c.tc : Thread Feat2Ideal.nD Feat2Ideal.τ).loc main_arg2)
        ∧ r.2.mem ((c.tc : Thread Feat2Ideal.nD Feat2Ideal.τ).loc main_arg3) = m ((c.tc : Thread Feat2Ideal.nD Feat2Ideal.τ).loc main_arg3)
        ∧ r.2.mem ((c.tc : Thread Feat2Ideal.nD Feat2Ideal.τ).loc main_arg4) = m ((c.tc : Thread Feat2Ideal.nD Feat2Ideal.τ).loc main_arg4) := by
  refine (θ_run _ _ _).mono (fun r h c => ⟨((h c).2 main_v4 (by decide)).trans (last m c), ?_⟩) (run_main m ρ)
  have kept (w : Fin cfg0.W) (hw : (cfg0.win w).isOut = false) := ((h c).1 w).trans (((dats m 0 c).arrAt_in w hw _).trans (A_eq m c w))
  exact ⟨(kept 0 rfl).trans (V_main_arg0 m c), (kept 1 rfl).trans (V_main_arg1 m c), (kept 2 rfl).trans (V_main_arg2 m c),
    (kept 3 rfl).trans (V_main_arg3 m c), (kept 4 rfl).trans (V_main_arg4 m c)⟩

/-- From equal arguments the call, transposed, and its reference leave equal results. -/
theorem algebraic : @algebraic_Feat2Ideal_Ref2Ideal Feat2Ideal.Gen.facts Ref2Ideal.Gen.facts := by
  intro m g m' g' _ hag
  refine ⟨fun c => transpose S4x768x128 [0, 2, 1] (result m c) transposes_S4x128x768_S4x768x128_0_2_1, run m g, ?_⟩
  refine (θ_run _ _ _).mono (fun r h c => ⟨(h c).1.trans ?_, (h c).2⟩) (Ref2Ideal.Value.run m' g')
  refine congrArg (fun X => transpose S4x768x128 [0, 2, 1] X transposes_S4x128x768_S4x768x128_0_2_1) ?_
  refine Eq.trans (b := reference rfits _ _ _ _ _ matrix freq (fun i => Ideal.ofBits .f32 (Ref2Ideal.lit2 ((Sh1 128).rowMajor i)))) rfl ?_
  rw [freq_again]
  obtain ⟨h0, h1, h2, h3, h4⟩ := hag c
  exact reference_congr rfits h0 h1 h2 h3 h4 _ _ _

end Cert.Stage2

end
-- ==== Proof.Sample.lean ====
/- Farthest-point sampling: what is sampled, and the kernel's vector operations of one trip read at an index, for any
   number of points `N` and of samples `G`. -/
module

public import proofs.«01_k».proof.Proof.Reference

@[expose] public section

noncomputable section

open scoped BigOperators

namespace Cert.Sample

open Idealize.ShloMosaic Idealize.ShloMosaic.ValueIdx Cert.Block Cert.Reference

variable {N G : ℕ}

/-! ## What is sampled -/

/-- `n` is the first place of the greatest value. -/
def IsFirst (d : Fin N → EReal) (n : Fin N) : Prop := (∀ m, d m ≤ d n) ∧ ∀ m, m < n → d m < d n

theorem exists_first (hN : 0 < N) (d : Fin N → EReal) : ∃ n, IsFirst d n := by
  classical
  obtain ⟨a, -, ha⟩ := Finset.exists_max_image Finset.univ d ⟨⟨0, hN⟩, Finset.mem_univ _⟩
  have hS : (Finset.univ.filter fun n => ∀ m, d m ≤ d n).Nonempty :=
    ⟨a, Finset.mem_filter.2 ⟨Finset.mem_univ _, fun m => ha m (Finset.mem_univ m)⟩⟩
  have h := (Finset.mem_filter.1 (Finset.min'_mem _ hS)).2
  refine ⟨Finset.min' _ hS, h, fun m hm => lt_of_le_of_ne (h m) fun e => ?_⟩
  exact absurd (Finset.min'_le _ m (Finset.mem_filter.2 ⟨Finset.mem_univ _, fun q => (h q).trans e.ge⟩)) (not_le.2 hm)

def first (hN : 0 < N) (d : Fin N → EReal) : Fin N := Classical.choose (exists_first hN d)

theorem first_spec (hN : 0 < N) (d : Fin N → EReal) : IsFirst d (first hN d) := Classical.choose_spec (exists_first hN d)

/-- The squared distance between the points `n` and `p`. -/
def apart (P : Fin 3 → Fin N → EReal) (p n : Fin N) : EReal :=
  (P 0 n - P 0 p) * (P 0 n - P 0 p) + (P 1 n - P 1 p) * (P 1 n - P 1 p) + (P 2 n - P 2 p) * (P 2 n - P 2 p)

/-- The distances after the point `p` has been chosen. -/
def nearer (P : Fin 3 → Fin N → EReal) (d : Fin N → EReal) (p n : Fin N) : EReal := min (d n) (apart P p n)

/-- Before the `k`-th choice: each point's distance from the chosen ones, and the next choice. -/
def chain (hN : 0 < N) (P : Fin 3 → Fin N → EReal) : ℕ → (Fin N → EReal) × Fin N
  | 0 => (fun _ => Ideal.ofBits .f32 0x501502F9#32, ⟨0, hN⟩)
  | k + 1 => (nearer P (chain hN P k).1 (chain hN P k).2, first hN (nearer P (chain hN P k).1 (chain hN P k).2))

/-- One batch's points. -/
def points (x : FVec Ideal (Sh3 4 3 N) .f32) (b : Fin 4) (c : Fin 3) (n : Fin N) : EReal := x (ix3 b c n)

/-- The choice of step `k` in batch `b`. -/
def chosen (hN : 0 < N) (x : FVec Ideal (Sh3 4 3 N) .f32) (b : Fin 4) (k : ℕ) : Fin N := (chain hN (points x b) k).2

/-- The sampled points. -/
def sampled (hN : 0 < N) (x : FVec Ideal (Sh3 4 3 N) .f32) : FVec Ideal (Sh3 4 3 G) .f32 :=
  fun j => x (ix3 (j 0) (j 1) (chosen hN x (j 0) (j 2).val))

/-! ## Folds that end at one of their values -/

theorem fold_eq {ι α : Type} (op : α → α → α) [Std.Commutative op] [Std.Associative op] (S : Finset ι)
    (f : ι → α) (init a : α) (i : ι) (hi : i ∈ S) (ha : f i = a) (hS : ∀ j ∈ S, op a (f j) = a) (h0 : op a init = a) :
    S.fold op init f = a := by
  classical
  have key : ∀ T : Finset ι, T ⊆ S → op a (T.fold op init f) = a := fun T => by
    induction T using Finset.induction_on with
    | empty => intro _; rw [Finset.fold_empty]; exact h0
    | insert j T hj ih =>
      intro hT
      rw [Finset.fold_insert hj, ← Std.Associative.assoc (op := op), hS j (hT (Finset.mem_insert_self j T))]
      exact ih fun q hq => hT (Finset.mem_insert_of_mem hq)
  rw [← Finset.insert_erase hi, Finset.fold_insert (Finset.notMem_erase i S), ha]
  exact key _ (Finset.erase_subset i S)

theorem foldl_eq {ι α : Type} (op : α → α → α) (f : ι → α) (a : α) (Q : α → Prop) (right : ∀ r, Q r → op r a = a) (L : List ι)
    (left : ∀ i ∈ L, op a (f i) = a) (keep : ∀ r, ∀ i ∈ L, Q r → Q (op r (f i))) (i : ι) (hi : i ∈ L) (ha : f i = a) (r : α) (hr : Q r) :
    L.foldl (fun r i => op r (f i)) r = a := by
  have stay : ∀ M : List ι, (∀ i ∈ M, op a (f i) = a) → M.foldl (fun r i => op r (f i)) a = a := fun M => by
    induction M with
    | nil => intro _; rfl
    | cons j M ih =>
      intro hM
      rw [List.foldl_cons, hM j List.mem_cons_self]
      exact ih fun i hi => hM i (List.mem_cons_of_mem j hi)
  induction L generalizing r with
  | nil => exact absurd hi List.not_mem_nil
  | cons j L ih =>
    rw [List.foldl_cons]
    rcases List.mem_cons.1 hi with e | e
    · rw [← e, ha, right r hr]
      exact stay L fun i hi => left i (List.mem_cons_of_mem j hi)
    · exact ih (fun i hi => left i (List.mem_cons_of_mem j hi)) (fun r i hi => keep r i (List.mem_cons_of_mem j hi)) e _
        (keep r j List.mem_cons_self hr)

/-! ## Words -/

theorem ofNat_inj {a b : ℕ} (ha : a < 2 ^ 31) (hb : b < 2 ^ 31) : BitVec.ofNat 32 a = BitVec.ofNat 32 b ↔ a = b := by
  refine ⟨fun h => ?_, fun h => h ▸ rfl⟩
  have := congrArg BitVec.toNat h
  simp only [BitVec.toNat_ofNat] at this
  omega

theorem cmpi_eq {a b : ℕ} (ha : a < 2 ^ 31) (hb : b < 2 ^ 31) :
    IntOp.cmpi .eq (BitVec.ofNat 32 a) (BitVec.ofNat 32 b) = if a = b then 1#1 else 0#1 := by
  show BitVec.ofBool (BitVec.ofNat 32 a == BitVec.ofNat 32 b) = _
  by_cases h : a = b
  · rw [h, if_pos rfl, beq_self_eq_true]; rfl
  · rw [if_neg h, beq_false_of_ne fun e => h ((ofNat_inj ha hb).1 e)]; rfl

theorem slt_eq {a b : ℕ} (ha : a < 2 ^ 31) (hb : b < 2 ^ 31) :
    (BitVec.ofNat 32 a).slt (BitVec.ofNat 32 b) = decide (a < b) := by
  have h : ∀ n : ℕ, n < 2 ^ 31 → (BitVec.ofNat 32 n).toInt = n := fun n hn => by
    rw [BitVec.toInt_eq_msb_cond, BitVec.msb_eq_false_iff_two_mul_lt.mpr (by simp [BitVec.toNat_ofNat]; omega)]
    simp [BitVec.toNat_ofNat]; omega
  simp only [BitVec.slt, h a ha, h b hb, Nat.cast_lt]

theorem minsi_eq {a b : ℕ} (ha : a < 2 ^ 31) (hb : b < 2 ^ 31) (h : a ≤ b) :
    IntOp.minsi (BitVec.ofNat 32 a) (BitVec.ofNat 32 b) = BitVec.ofNat 32 a := by
  show (if _ then _ else _) = _
  rw [slt_eq ha hb]
  split
  · rfl
  · next hn => rw [decide_eq_true_eq] at hn; rw [show a = b by omega]

/-- A comparison's bit, as a number. -/
theorem hot_eq (p : Prop) [Decidable p] :
    FloatOps.sitofp (F := Ideal) .f32 ((if p then 1#1 else 0#1 : BitVec 1).setWidth 32) = if p then (1 : EReal) else 0 := by
  show ((((if p then 1#1 else 0#1 : BitVec 1).setWidth 32).toInt : ℝ) : EReal) = _
  split
  · rw [show ((1#1 : BitVec 1).setWidth 32).toInt = 1 by decide]; simp
  · rw [show ((0#1 : BitVec 1).setWidth 32).toInt = 0 by decide]; simp

theorem word_bottom : Ideal.ofBits .f32 0xFF800000#32 = ⊥ := by simp [Ideal.ofBits, Ideal.ieee]

/-! ## The kernel's trip -/

/-- The shapes of the kernel's operations fit. -/
structure KFits (N G : ℕ) : Prop where
  iN : (Sh2 4 N).Iotas .tc 32 [1]
  iG : (Sh3 4 3 G).Iotas .tc 32 [2]
  bf : (Sh2 4 1).Broadcasts (Sh2 4 N)
  ch : (Sh2 4 N).ShapeCasts (Sh3 4 1 N)
  bh : (Sh3 4 1 N).Broadcasts (Sh3 4 3 N)
  rs : (Sh3 4 3 N).Reduces [2] (Sh2 4 3)
  cs : (Sh2 4 3).ShapeCasts (Sh3 4 3 1)
  co : (Sh3 4 3 G).ShapeCasts (Sh3 4 3 G)
  bG : (Sh3 4 3 1).Broadcasts (Sh3 4 3 G)
  bN : (Sh3 4 3 1).Broadcasts (Sh3 4 3 N)
  s0 : (Sh3 4 3 N).Slices ![0, 0, 0] (Sh3 4 1 N)
  s1 : (Sh3 4 3 N).Slices ![0, 1, 0] (Sh3 4 1 N)
  s2 : (Sh3 4 3 N).Slices ![0, 2, 0] (Sh3 4 1 N)
  cd : (Sh3 4 1 N).ShapeCasts (Sh2 4 N)
  rm : (Sh2 4 N).Reduces [1] (Sh1 4)
  cm : (Sh1 4).ShapeCasts (Sh2 4 1)

section Kernel

variable (h : KFits N G)

def centre (v : FVec Ideal (Sh3 4 3 N) .f32) (f : IVec (Sh2 4 1) 32) : FVec Ideal (Sh3 4 3 1) .f32 :=
  shapeCast (Sh3 4 3 1) (multiReduction .add [2] (Sh2 4 3)
    (mulf v (broadcastTo (Sh3 4 3 N) (shapeCast (Sh3 4 1 N)
      (sitofp .f32 (extui 32 (cmpi .eq (iota .tc (Sh2 4 N) 32 [1] h.iN) (broadcastTo (Sh2 4 N) f h.bf)) (by decide)) : FVec Ideal (Sh2 4 N) .f32) h.ch) h.bh))
    0x00000000#32 h.rs (.inl rfl) rfl) h.cs

def stored (v : FVec Ideal (Sh3 4 3 N) .f32) (i : BitVec 32) (f : IVec (Sh2 4 1) 32) (o : FVec Ideal (Sh3 4 3 G) .f32) :
    FVec Ideal (Sh3 4 3 G) .f32 :=
  addf (shapeCast (Sh3 4 3 G) o h.co) (mulf (sitofp .f32 (extui 32 (cmpi .eq (iota .tc (Sh3 4 3 G) 32 [2] h.iG) (broadcast (Sh3 4 3 G) i)) (by decide)))
    (broadcastTo (Sh3 4 3 G) (centre h v f) h.bG))

def squares (v : FVec Ideal (Sh3 4 3 N) .f32) (f : IVec (Sh2 4 1) 32) : FVec Ideal (Sh3 4 3 N) .f32 :=
  mulf (subf v (broadcastTo (Sh3 4 3 N) (centre h v f) h.bN)) (subf v (broadcastTo (Sh3 4 3 N) (centre h v f) h.bN))

def dists (v : FVec Ideal (Sh3 4 3 N) .f32) (d : FVec Ideal (Sh2 4 N) .f32) (f : IVec (Sh2 4 1) 32) : FVec Ideal (Sh2 4 N) .f32 :=
  minimumf d (addf (addf (shapeCast (Sh2 4 N) (extractStridedSlice (Sh3 4 1 N) ![0, 0, 0] (squares h v f) h.s0) h.cd)
      (shapeCast (Sh2 4 N) (extractStridedSlice (Sh3 4 1 N) ![0, 1, 0] (squares h v f) h.s1) h.cd))
    (shapeCast (Sh2 4 N) (extractStridedSlice (Sh3 4 1 N) ![0, 2, 0] (squares h v f) h.s2) h.cd))

def farthest (w : BitVec 32) (d : FVec Ideal (Sh2 4 N) .f32) : IVec (Sh2 4 1) 32 :=
  shapeCast (Sh2 4 1) (multiReductionI .minsi [1] (Sh1 4) (addi (iota .tc (Sh2 4 N) 32 [1] h.iN)
    (muli (extui 32 (cmpf .one d (broadcastTo (Sh2 4 N) (shapeCast (Sh2 4 1)
      (multiReduction .maximumf [1] (Sh1 4) d 0xFF800000#32 h.rm (.inl rfl) rfl) h.cm) h.bf)) (by decide)) (broadcast (Sh2 4 N) w)))
    2147483647#32 h.rm rfl) h.cm

variable (b : Fin 4)

theorem column_apply {α : Type} (f : (Sh2 4 1).Idx → α) (n : Fin N) : broadcastTo (Sh2 4 N) f h.bf (ix2 b n) = f (ix2 b 0) :=
  broadcastTo_apply f h.bf _ _ fun a => by match a with | ⟨0, _⟩ => rfl | ⟨1, _⟩ => rfl

theorem centre_apply (hN : N < 2 ^ 30) (v : FVec Ideal (Sh3 4 3 N) .f32) (f : IVec (Sh2 4 1) 32) (p : Fin N) (hf : f (ix2 b 0) = BitVec.ofNat 32 p.val) (c : Fin 3) :
    centre h v f (ix3 b c 0) = v (ix3 b c p) := by
  unfold centre
  rw [shapeCast_apply _ h.cs (ix3 b c 0) (ix2 b c) (by
    rw [Shape.rowMajor_val_two, Shape.rowMajor_val_three]
    show b.val * 3 + c.val = (b.val * 3 + c.val) * 1 + 0
    omega)]
  refine (Ideal.multiReduction_add_single _ _ h.rs (.inl rfl) rfl (ix2 b c)).trans ?_
  have hl : ∀ n : Fin N, h.rs.lift (ix2 b c) n = ix3 b c n := fun n => by
    funext a
    match a with | ⟨0, _⟩ => rfl | ⟨1, _⟩ => rfl | ⟨2, _⟩ => rfl
  have hv : ∀ n : Fin N, mulf v (broadcastTo (Sh3 4 3 N) (shapeCast (Sh3 4 1 N)
      (sitofp .f32 (extui 32 (cmpi .eq (iota .tc (Sh2 4 N) 32 [1] h.iN) (broadcastTo (Sh2 4 N) f h.bf)) (by decide)) : FVec Ideal (Sh2 4 N) .f32) h.ch) h.bh)
      (h.rs.lift (ix2 b c) n) = if n = p then v (ix3 b c p) else 0 := fun n => by
    rw [hl n, mulf_apply, broadcastTo_apply _ h.bh (ix3 b c n) (ix3 b 0 n) (fun a => by
        match a with
        | ⟨0, _⟩ => rfl
        | ⟨1, _⟩ => rfl
        | ⟨2, _⟩ => show n.val = if N = 1 then 0 else n.val; have := n.isLt; split <;> omega),
      shapeCast_apply _ h.ch (ix3 b 0 n) (ix2 b n) (by
        rw [Shape.rowMajor_val_two, Shape.rowMajor_val_three]
        show b.val * N + n.val = (b.val * 1 + 0) * N + n.val
        rw [Nat.mul_one, Nat.add_zero])]
    show v (ix3 b c n) * FloatOps.sitofp (F := Ideal) .f32
      ((IntOp.cmpi .eq (BitVec.ofNat 32 (0 * N + n.val)) (broadcastTo (Sh2 4 N) f h.bf (ix2 b n))).setWidth 32) = _
    rw [column_apply h, hf, Nat.zero_mul, Nat.zero_add, cmpi_eq (by omega) (by omega), hot_eq]
    by_cases hn : n = p
    · rw [if_pos (congrArg Fin.val hn), if_pos hn, hn, mul_one]
    · rw [if_neg fun e => hn (Fin.ext e), if_neg hn, mul_zero]
  have hs : (∑ n : Fin N, if n = p then v (ix3 b c p) else 0) = v (ix3 b c p) := by
    rw [Finset.sum_ite_eq']; exact if_pos (Finset.mem_univ p)
  exact (Finset.sum_congr rfl fun n _ => hv n).trans hs

theorem stored_apply (hN : N < 2 ^ 30) (hG : G < 2 ^ 30) (v : FVec Ideal (Sh3 4 3 N) .f32) (k : ℕ) (hk : k < 2 ^ 31) (f : IVec (Sh2 4 1) 32) (o : FVec Ideal (Sh3 4 3 G) .f32)
    (p : Fin N) (hf : f (ix2 b 0) = BitVec.ofNat 32 p.val) (c : Fin 3) (g : Fin G) :
    stored h v (BitVec.ofNat 32 k) f o (ix3 b c g) = o (ix3 b c g) + if g.val = k then v (ix3 b c p) else 0 := by
  unfold stored
  rw [addf_apply, shapeCast_apply _ h.co (ix3 b c g) (ix3 b c g) rfl, mulf_apply,
    broadcastTo_apply _ h.bG (ix3 b c g) (ix3 b c 0) (fun a => by
      match a with | ⟨0, _⟩ => rfl | ⟨1, _⟩ => rfl | ⟨2, _⟩ => rfl), centre_apply h b hN v f p hf]
  show _ + FloatOps.sitofp (F := Ideal) .f32
      ((IntOp.cmpi .eq (BitVec.ofNat 32 (0 * G + g.val)) (BitVec.ofNat 32 k)).setWidth 32) * _ = _
  rw [Nat.zero_mul, Nat.zero_add, cmpi_eq (by omega) hk, hot_eq]
  split
  · rw [one_mul]
  · rw [zero_mul]

theorem squares_apply (hN : N < 2 ^ 30) (v : FVec Ideal (Sh3 4 3 N) .f32) (f : IVec (Sh2 4 1) 32) (p : Fin N) (hf : f (ix2 b 0) = BitVec.ofNat 32 p.val)
    (c : Fin 3) (n : Fin N) :
    squares h v f (ix3 b c n) = (v (ix3 b c n) - v (ix3 b c p)) * (v (ix3 b c n) - v (ix3 b c p)) := by
  unfold squares
  rw [mulf_apply, subf_apply, broadcastTo_apply _ h.bN (ix3 b c n) (ix3 b c 0) (fun a => by
      match a with | ⟨0, _⟩ => rfl | ⟨1, _⟩ => rfl | ⟨2, _⟩ => rfl), centre_apply h b hN v f p hf]

theorem plane_apply (x : FVec Ideal (Sh3 4 3 N) .f32) (c : Fin 3) (off : Fin 3 → ℕ) (ho : off = ![0, c.val, 0])
    (hs : (Sh3 4 3 N).Slices off (Sh3 4 1 N)) (n : Fin N) :
    shapeCast (Sh2 4 N) (extractStridedSlice (Sh3 4 1 N) off x hs) h.cd (ix2 b n) = x (ix3 b c n) := by
  subst ho
  rw [shapeCast_apply _ h.cd (ix2 b n) (ix3 b 0 n) (by
    rw [Shape.rowMajor_val_two, Shape.rowMajor_val_three]
    show (b.val * 1 + 0) * N + n.val = b.val * N + n.val
    rw [Nat.mul_one, Nat.add_zero])]
  exact extractStridedSlice_apply _ x hs _ _ fun a => by
    match a with
    | ⟨0, _⟩ => exact (Nat.zero_add _).symm
    | ⟨1, _⟩ => rfl
    | ⟨2, _⟩ => exact (Nat.zero_add _).symm

theorem dists_apply (hN : N < 2 ^ 30) (v : FVec Ideal (Sh3 4 3 N) .f32) (d : FVec Ideal (Sh2 4 N) .f32) (f : IVec (Sh2 4 1) 32) (p : Fin N)
    (hf : f (ix2 b 0) = BitVec.ofNat 32 p.val) (n : Fin N) :
    dists h v d f (ix2 b n) = nearer (points v b) (fun n => d (ix2 b n)) p n := by
  show min (d (ix2 b n)) ((_ : EReal) + _ + _) = _
  rw [plane_apply h b _ 0 ![0, 0, 0] rfl, plane_apply h b _ 1 ![0, 1, 0] rfl, plane_apply h b _ 2 ![0, 2, 0] rfl, squares_apply h b hN v f p hf,
    squares_apply h b hN v f p hf, squares_apply h b hN v f p hf]
  rfl

theorem farthest_apply (hN : N < 2 ^ 30) (d : FVec Ideal (Sh2 4 N) .f32) (p : Fin N) (hp : IsFirst (fun n => d (ix2 b n)) p) :
    farthest h (BitVec.ofNat 32 N) d (ix2 b 0) = BitVec.ofNat 32 p.val := by
  have hl : ∀ n : Fin N, h.rm.lift (ix1 b) n = ix2 b n := fun n => by
    funext a
    match a with | ⟨0, _⟩ => rfl | ⟨1, _⟩ => rfl
  have hcm : ∀ {α : Type} (x : (Sh1 4).Idx → α), shapeCast (Sh2 4 1) x h.cm (ix2 b 0) = x (ix1 b) := fun x =>
    shapeCast_apply _ h.cm (ix2 b 0) (ix1 b) (by
      rw [Shape.rowMajor_val_one, Shape.rowMajor_val_two]
      show b.val = b.val * 1 + 0
      omega)
  have hmax : multiReduction .maximumf [1] (Sh1 4) d 0xFF800000#32 h.rm (.inl rfl) rfl (ix1 b) = d (ix2 b p) := by
    refine (Ideal.multiReduction_maximumf_single d _ h.rm (.inl rfl) rfl (ix1 b)).trans ?_
    refine fold_eq max _ _ _ _ p (Finset.mem_univ _) (congrArg d (hl p)) (fun n _ => ?_) ?_
    · exact max_eq_left ((congrArg d (hl n)).trans_le (hp.1 n))
    · exact max_eq_left (by show Ideal.ofBits .f32 0xFF800000#32 ≤ _; rw [word_bottom]; exact bot_le)
  unfold farthest
  rw [hcm]
  refine (multiReductionI_eq_fold ..).trans ((h.rm.fold_filter_drop_single ..).trans ?_)
  have hw : ∀ n : Fin N, (addi (iota .tc (Sh2 4 N) 32 [1] h.iN)
      (muli (extui 32 (cmpf .one d (broadcastTo (Sh2 4 N) (shapeCast (Sh2 4 1)
        (multiReduction .maximumf [1] (Sh1 4) d 0xFF800000#32 h.rm (.inl rfl) rfl) h.cm) h.bf)) (by decide)) (broadcast (Sh2 4 N) (BitVec.ofNat 32 N))))
      (h.rm.lift (ix1 b) n) = BitVec.ofNat 32 (if d (ix2 b n) = d (ix2 b p) then n.val else n.val + N) := fun n => by
    rw [hl n]
    show BitVec.ofNat 32 (0 * N + n.val) + (Ideal.cmp .one (d (ix2 b n)) (broadcastTo (Sh2 4 N) _ h.bf (ix2 b n))).setWidth 32 * BitVec.ofNat 32 N = _
    rw [column_apply h, hcm, hmax, Nat.zero_mul, Nat.zero_add]
    by_cases e : d (ix2 b n) = d (ix2 b p)
    · rw [if_pos e, e]
      simp [Ideal.cmp]
    · rw [if_neg e]
      simp only [Ideal.cmp, e, ne_eq, not_false_eq_true, decide_true, BitVec.ofBool_true]
      rw [BitVec.ofNat_add]
      congr 1
      exact BitVec.one_mul _
  refine fold_eq IntOp.minsi _ _ _ _ p (Finset.mem_univ _) ((hw p).trans (by rw [if_pos rfl])) (fun n _ => ?_) ?_
  · refine (congrArg (IntOp.minsi _) (hw n)).trans (minsi_eq (by omega) (by split <;> omega) ?_)
    split
    · next e =>
      by_contra hlt
      exact absurd e (hp.2 n (not_le.1 hlt)).ne
    · have := p.isLt; omega
  · exact minsi_eq (a := p.val) (b := 2 ^ 31 - 1) (by omega) (by norm_num) (by omega)

/-- From zeros, `G` trips of the kernel leave what is sampled. -/
theorem trips_eq (hN : 0 < N) (hN' : N < 2 ^ 30) (hG : G < 2 ^ 30) (v : FVec Ideal (Sh3 4 3 N) .f32) (d : ℕ → FVec Ideal (Sh2 4 N) .f32)
    (f : ℕ → IVec (Sh2 4 1) 32) (o : ℕ → FVec Ideal (Sh3 4 3 G) .f32) (d0 : ∀ j, d 0 j = Ideal.ofBits .f32 0x501502F9#32) (f0 : ∀ j, f 0 j = 0#32)
    (o0 : ∀ j, o 0 j = 0) (hd : ∀ k, k < G → d (k + 1) = dists h v (d k) (f k))
    (hf : ∀ k, k < G → f (k + 1) = farthest h (BitVec.ofNat 32 N) (dists h v (d k) (f k)))
    (ho : ∀ k, k < G → o (k + 1) = stored h v (BitVec.ofNat 32 k) (f k) (o k)) : o G = sampled hN v := by
  have state : ∀ (b : Fin 4) (k : ℕ), k ≤ G → (∀ n : Fin N, d k (ix2 b n) = (chain hN (points v b) k).1 n)
      ∧ f k (ix2 b 0) = BitVec.ofNat 32 (chosen hN v b k).val
      ∧ ∀ (e : Fin 3) (g : Fin G), o k (ix3 b e g) = if g.val < k then v (ix3 b e (chosen hN v b g.val)) else 0 := fun b k => by
    induction k with
    | zero => exact fun _ => ⟨fun n => d0 _, f0 _, fun e g => (o0 _).trans (if_neg (Nat.not_lt_zero _)).symm⟩
    | succ k ih =>
      intro hk
      obtain ⟨id, if', io⟩ := ih (by omega)
      have hd' : ∀ n : Fin N, dists h v (d k) (f k) (ix2 b n) = (chain hN (points v b) (k + 1)).1 n := fun n => by
        rw [dists_apply h b hN' v _ _ _ if', funext id]
        rfl
      refine ⟨fun n => by rw [hd k hk]; exact hd' n, ?_, fun e g => ?_⟩
      · rw [hf k hk]
        refine farthest_apply h b hN' _ _ ?_
        rw [funext hd']
        exact first_spec hN _
      · rw [ho k hk, stored_apply h b hN' hG v k (by omega) _ _ _ if', io e g]
        rcases lt_trichotomy g.val k with hg | hg | hg
        · rw [if_pos hg, if_neg (by omega), if_pos (by omega), add_zero]
        · rw [if_neg (by omega), if_pos hg, if_pos (by omega), zero_add, hg]
        · rw [if_neg (by omega), if_neg (by omega), if_neg (by omega), add_zero]
  funext j
  obtain ⟨b, e, g, rfl⟩ : ∃ (b : Fin 4) (e : Fin 3) (g : Fin G), j = ix3 b e g := ⟨j 0, j 1, j 2, ValueIdx.eq_ix3 j⟩
  exact ((state b G (le_refl _)).2.2 e g).trans (if_pos g.isLt)

end Kernel

end Cert.Sample

end
-- ==== Proof.SampleHost.lean ====
/- The reference's operations of one trip and after the loop, read at an index, for any number of points `N` and of
   samples `G`. -/
module

public import proofs.«01_k».proof.Proof.Sample
public import Idealize.ShloMosaic.Lib.Routing.OpsOne

@[expose] public section

noncomputable section

open scoped BigOperators

namespace Cert.Sample

open Idealize.ShloMosaic Idealize.ShloMosaic.ValueIdx Cert.Block Cert.Reference

variable {N G : ℕ}

/-- The shapes of the reference's operations fit. -/
structure HFits (N G : ℕ) : Prop where
  t : (Sh3 4 3 N).Transposes [0, 2, 1] (Sh3 4 N 3)
  z1 : Sh0.BroadcastsInDim (Sh1 1) ![]
  zf : Sh0.BroadcastsInDim (Sh2 4 1) ![]
  zG : Sh0.BroadcastsInDim (Sh2 4 G) ![]
  zN : Sh0.BroadcastsInDim (Sh2 4 N) ![]
  z4 : Sh0.BroadcastsInDim (Sh1 4) ![]
  f1 : (Sh1 4).BroadcastsInDim (Sh2 4 1) ![0]
  f2 : (Sh2 4 1).BroadcastsInDim (Sh3 4 1 1) ![0, 1]
  cc : (Sh3 4 1 3).ShapeCasts (Sh2 4 3)
  c1 : (Sh2 4 3).BroadcastsInDim (Sh3 4 1 3) ![0, 2]
  c2 : (Sh3 4 1 3).BroadcastsInDim (Sh3 4 N 3) ![0, 1, 2]
  rd : (Sh3 4 N 3).ReducesTo [2] (Sh2 4 N)
  rr : (Sh3 4 N 3).Reduces [2] (Sh2 4 N)
  u : 0 < Sh0.numel
  ra : (Sh2 4 N).ReducesTo [1] (Sh1 4)
  rm : (Sh2 4 N).Reduces [1] (Sh1 4)
  gG : (Sh2 4 G).BroadcastsInDim (Sh3 4 G 1) ![0, 1]
  tG : (Sh3 4 G 3).Transposes [0, 2, 1] (Sh3 4 3 G)
  w1 : GatherDims.WF (Sh3 4 N 3) (Sh3 4 1 1) (Sh3 4 1 3) [2] [1] [0] [1] [0] 2 ![1, 1, 3]
  wG : GatherDims.WF (Sh3 4 N 3) (Sh3 4 G 1) (Sh3 4 G 3) [2] [1] [0] [1] [0] 2 ![1, 1, 3]
  ws : ScatterDims.WF (Sh2 4 G) (Sh1 1) (Sh1 4) [0] [1] [1] 0

/-- The lookup of `M` points of each batch by their indices. -/
def pickDims (N M : ℕ) (wf : GatherDims.WF (Sh3 4 N 3) (Sh3 4 M 1) (Sh3 4 M 3) [2] [1] [0] [1] [0] 2 ![1, 1, 3]) :
    GatherDims (Sh3 4 N 3) (Sh3 4 M 1) (Sh3 4 M 3) where
  offsetDims := [2]
  collapsedSliceDims := [1]
  operandBatchingDims := [0]
  startIndicesBatchingDims := [0]
  startIndexMap := [1]
  indexVectorDim := 2
  sliceSizes := ![1, 1, 3]
  wf := wf

theorem pick_apply {M : ℕ} (wf : GatherDims.WF (Sh3 4 N 3) (Sh3 4 M 1) (Sh3 4 M 3) [2] [1] [0] [1] [0] 2 ![1, 1, 3])
    (x : (Sh3 4 N 3).Idx → EReal) (idx : IVec (Sh3 4 M 1) 32) (b : Fin 4) (m : Fin M) (c : Fin 3) (p : Fin N) (hN : N < 2 ^ 30)
    (hi : idx (ix3 b m 0) = BitVec.ofNat 32 p.val) : Host.gather (pickDims N M wf) x idx (ix3 b m c) = x (ix3 b p c) := by
  unfold Host.gather
  congr 1
  funext a
  refine Fin.ext ?_
  show (pickDims N M wf).start (ix3 b m c) idx a + (pickDims N M wf).batchCoord (ix3 b m c) a
      + (pickDims N M wf).offCoord (ix3 b m c) a = _
  have at_axis : ∀ q : Fin 3, (pickDims N M wf).start (ix3 b m c) idx q + (pickDims N M wf).batchCoord (ix3 b m c) q
      + (pickDims N M wf).offCoord (ix3 b m c) q = (ix3 b p c q : Fin ((Sh3 4 N 3).size q)).val := fun q => by
    rcases (by omega : q.val = 0 ∨ q.val = 1 ∨ q.val = 2) with e | e | e
    · obtain rfl : q = 0 := Fin.ext e
      rw [GatherDims.start_batching _ _ _ _ (List.mem_singleton.mpr rfl),
        GatherDims.offCoord_eq_zero _ _ _ (fun h => ((GatherDims.mem_sKept _ _).mp h).2 (List.mem_singleton.mpr rfl)), Nat.zero_add, Nat.add_zero]
      rfl
    · obtain rfl : q = 1 := Fin.ext e
      rw [GatherDims.batchCoord_eq_zero _ _ _ (fun h => absurd (List.mem_singleton.1 h) (show ¬(1 : Fin 3) = 0 by decide)),
        GatherDims.offCoord_eq_zero _ _ _ (fun h => ((GatherDims.mem_sKept _ _).mp h).1 (List.mem_singleton.mpr rfl)), Nat.add_zero]
      unfold GatherDims.start
      rw [dif_pos (show (1 : Fin 3) ∈ (pickDims N M wf).startIndexMap from List.mem_singleton.mpr rfl)]
      have hsi : (pickDims N M wf).siIdx (ix3 b m c) ⟨List.idxOf (1 : Fin 3) (pickDims N M wf).startIndexMap,
          List.idxOf_lt_length_iff.2 (List.mem_singleton.mpr rfl)⟩ = ix3 b m 0 := by
        funext e; refine Fin.ext ?_
        match e with
        | ⟨0, _⟩ => rfl
        | ⟨1, _⟩ => rfl
        | ⟨2, _⟩ => rfl
      have hp := p.isLt
      rw [hsi, hi, StableHlo.Predicate.toInt_ofNat_small _ (by omega)]
      show min p.val (N - 1) = p.val
      omega
    · obtain rfl : q = 2 := Fin.ext e
      rw [GatherDims.batchCoord_eq_zero _ _ _ (fun h => absurd (List.mem_singleton.1 h) (show ¬(2 : Fin 3) = 0 by decide))]
      unfold GatherDims.start
      rw [dif_neg (show (2 : Fin 3) ∉ (pickDims N M wf).startIndexMap from fun h => absurd (List.mem_singleton.1 h) (show ¬(2 : Fin 3) = 1 by decide)), Nat.add_zero, Nat.zero_add]
      rfl
  exact at_axis a

/-- An index that is not negative is read as it is. -/
theorem wrap_apply {s : Shape} (n z f : IVec s 32) (j : s.Idx) (k : ℕ) (hk : k < 2 ^ 31) (hz : z j = 0#32) (hf : f j = BitVec.ofNat 32 k) :
    select (cmpi .slt f z) (addi f n) f j = BitVec.ofNat 32 k := by
  show (if IntOp.cmpi .slt (f j) (z j) = 1#1 then _ else f j) = _
  rw [hz, hf, show IntOp.cmpi .slt (BitVec.ofNat 32 k) 0#32 = 0#1 from congrArg BitVec.ofBool (slt_eq (a := k) (b := 0) hk (by norm_num)),
    if_neg (by decide)]

/-! ## The greatest value's place -/

/-- Of two pairs of a value and its place, the one that counts. -/
def better (a b : Ideal .f32 × BitVec 32) : Ideal .f32 × BitVec 32 :=
  let v2 := FloatOps.cmpf (F := Ideal) .ogt a.1 b.1
  let v3 := FloatOps.cmpf (F := Ideal) .une a.1 a.1
  let v4 := IntOp.ori v2 v3
  let v5 := FloatOps.cmpf (F := Ideal) .oeq a.1 b.1
  let v6 := IntOp.cmpi .slt a.2 b.2
  let v7 := IntOp.andi v5 v6
  let v8 := IntOp.ori v4 v7
  let v9 := Scalar.select v4 a.1 b.1
  let v10 := Scalar.select v8 a.2 b.2
  (v9, v10)

theorem better_eq (x y : EReal) (m n : ℕ) (hm : m < 2 ^ 31) (hn : n < 2 ^ 31) :
    better (x, BitVec.ofNat 32 m) (y, BitVec.ofNat 32 n)
      = (if y < x then x else y, if y < x ∨ x = y ∧ m < n then BitVec.ofNat 32 m else BitVec.ofNat 32 n) := by
  have hs : IntOp.cmpi .slt (BitVec.ofNat 32 m) (BitVec.ofNat 32 n) = BitVec.ofBool (decide (m < n)) := congrArg BitVec.ofBool (slt_eq hm hn)
  show (if (BitVec.ofBool (decide (y < x)) ||| BitVec.ofBool (decide (x ≠ x))) = 1#1 then x else y,
    if (BitVec.ofBool (decide (y < x)) ||| BitVec.ofBool (decide (x ≠ x)) |||
        (BitVec.ofBool (decide (x = y)) &&& IntOp.cmpi .slt (BitVec.ofNat 32 m) (BitVec.ofNat 32 n))) = 1#1 then BitVec.ofNat 32 m
      else BitVec.ofNat 32 n) = _
  rw [hs]
  by_cases h1 : y < x <;> by_cases h2 : x = y <;> by_cases h3 : m < n <;> simp [h1, h2, h3]

theorem better_left (x y : EReal) (m n : ℕ) (hm : m < 2 ^ 31) (hn : n < 2 ^ 31) (h : y < x ∨ x = y ∧ m < n) :
    better (x, BitVec.ofNat 32 m) (y, BitVec.ofNat 32 n) = (x, BitVec.ofNat 32 m) := by
  rw [better_eq x y m n hm hn, if_pos h]
  rcases h with h | ⟨rfl, h⟩
  · rw [if_pos h]
  · rw [ite_self]

theorem better_right (x y : EReal) (m n : ℕ) (hm : m < 2 ^ 31) (hn : n < 2 ^ 31) (h : x < y ∨ x = y ∧ n ≤ m) :
    better (x, BitVec.ofNat 32 m) (y, BitVec.ofNat 32 n) = (y, BitVec.ofNat 32 n) := by
  have hle : x ≤ y := h.elim le_of_lt fun e => le_of_eq e.1
  rw [better_eq x y m n hm hn, if_neg (not_lt.2 hle), if_neg]
  rintro (h' | ⟨e, h'⟩)
  · exact absurd h' (not_lt.2 hle)
  · exact h.elim (fun h => h.ne e) fun h => absurd h' (not_lt.2 h.2)

section Host

variable (h : HFits N G)

def hcentre (X : FVec Ideal (Sh3 4 N 3) .f32) (f : IVec (Sh1 4) 32) : FVec Ideal (Sh3 4 1 3) .f32 :=
  Host.gather (pickDims N 1 h.w1) X (broadcastInDim (Sh3 4 1 1) ![0, 1] h.f2
    (select (cmpi .slt (broadcastInDim (Sh2 4 1) ![0] h.f1 f) (broadcastInDim (Sh2 4 1) ![] h.zf (constantI Sh0 32 0#32)))
      (addi (broadcastInDim (Sh2 4 1) ![0] h.f1 f) (broadcastInDim (Sh2 4 1) ![] h.zf (constantI Sh0 32 (BitVec.ofNat 32 N))))
      (broadcastInDim (Sh2 4 1) ![0] h.f1 f)))

def hoffset (X : FVec Ideal (Sh3 4 N 3) .f32) (f : IVec (Sh1 4) 32) : FVec Ideal (Sh3 4 N 3) .f32 :=
  subf X (broadcastInDim (Sh3 4 N 3) ![0, 1, 2] h.c2 (broadcastInDim (Sh3 4 1 3) ![0, 2] h.c1 (shapeCast (Sh2 4 3) (hcentre h X f) h.cc)))

def hdists (X : FVec Ideal (Sh3 4 N 3) .f32) (D : FVec Ideal (Sh2 4 N) .f32) (f : IVec (Sh1 4) 32) : FVec Ideal (Sh2 4 N) .f32 :=
  minimumf D (Host.reduceAdd (mulf (hoffset h X f) (hoffset h X f)) (constant Sh0 .f32 0x00000000#32) h.rd h.u)

def hfarthest (D : FVec Ideal (Sh2 4 N) .f32) : IVec (Sh1 4) 32 := fun j =>
  (Host.argReduce better D (iotaInDim (Sh2 4 N) 32 1) (constant Sh0 .f32 0xFF800000#32) (constantI Sh0 32 0#32) h.ra h.u j).2

def htable (I : IVec (Sh2 4 G) 32) (i : IVec Sh0 32) (f : IVec (Sh1 4) 32) : IVec (Sh2 4 G) 32 :=
  Host.scatter (Routing.colDims 4 G h.ws) (fun _ b => b) I
    (broadcastInDim (Sh1 1) ![] h.z1 (select (cmpi .slt i (constantI Sh0 32 0#32)) (addi i (constantI Sh0 32 (BitVec.ofNat 32 G))) i)) f

def hresult (x : FVec Ideal (Sh3 4 3 N) .f32) (I : IVec (Sh2 4 G) 32) : FVec Ideal (Sh3 4 3 G) .f32 :=
  transpose (Sh3 4 3 G) [0, 2, 1] (Host.gather (pickDims N G h.wG) (transpose (Sh3 4 N 3) [0, 2, 1] x h.t)
    (broadcastInDim (Sh3 4 G 1) ![0, 1] h.gG (select (cmpi .slt I (broadcastInDim (Sh2 4 G) ![] h.zG (constantI Sh0 32 0#32)))
      (addi I (broadcastInDim (Sh2 4 G) ![] h.zG (constantI Sh0 32 (BitVec.ofNat 32 N)))) I))) h.tG

variable (b : Fin 4)

theorem turned_apply (x : FVec Ideal (Sh3 4 3 N) .f32) (n : Fin N) (c : Fin 3) :
    transpose (Sh3 4 N 3) [0, 2, 1] x h.t (ix3 b n c) = x (ix3 b c n) :=
  transpose_apply _ _ h.t _ _ fun a => by match a with | ⟨0, _⟩ => rfl | ⟨1, _⟩ => rfl | ⟨2, _⟩ => rfl

theorem hcentre_apply (hN : N < 2 ^ 30) (X : FVec Ideal (Sh3 4 N 3) .f32) (f : IVec (Sh1 4) 32) (p : Fin N)
    (hf : f (ix1 b) = BitVec.ofNat 32 p.val) (c : Fin 3) : hcentre h X f (ix3 b 0 c) = X (ix3 b p c) := by
  refine pick_apply h.w1 X _ b 0 c p hN ?_
  rw [broadcastInDim_apply _ h.f2 _ (ix3 b 0 0) (ix2 b 0) fun a => by match a with | ⟨0, _⟩ => rfl | ⟨1, _⟩ => rfl]
  refine wrap_apply _ _ _ _ p.val (by omega) (broadcastInDim_scalar_apply h.zf _ _) ?_
  rw [broadcastInDim_apply _ h.f1 _ (ix2 b 0) (ix1 b) fun a => by match a with | ⟨0, _⟩ => rfl]
  exact hf

theorem hoffset_apply (hN : N < 2 ^ 30) (X : FVec Ideal (Sh3 4 N 3) .f32) (f : IVec (Sh1 4) 32) (p : Fin N)
    (hf : f (ix1 b) = BitVec.ofNat 32 p.val) (n : Fin N) (c : Fin 3) : hoffset h X f (ix3 b n c) = X (ix3 b n c) - X (ix3 b p c) := by
  unfold hoffset
  rw [subf_apply, broadcastInDim_apply _ h.c2 _ (ix3 b n c) (ix3 b 0 c) (fun a => by
      match a with | ⟨0, _⟩ => rfl | ⟨1, _⟩ => rfl | ⟨2, _⟩ => rfl),
    broadcastInDim_apply _ h.c1 _ (ix3 b 0 c) (ix2 b c) (fun a => by match a with | ⟨0, _⟩ => rfl | ⟨1, _⟩ => rfl),
    shapeCast_apply _ h.cc (ix2 b c) (ix3 b 0 c) (by
      rw [Shape.rowMajor_val_two, Shape.rowMajor_val_three]
      show (b.val * 1 + 0) * 3 + c.val = b.val * 3 + c.val
      omega), hcentre_apply h b hN X f p hf]

theorem hdists_apply (hN : N < 2 ^ 30) (X : FVec Ideal (Sh3 4 N 3) .f32) (D : FVec Ideal (Sh2 4 N) .f32) (f : IVec (Sh1 4) 32) (p : Fin N)
    (hf : f (ix1 b) = BitVec.ofNat 32 p.val) (n : Fin N) :
    hdists h X D f (ix2 b n) = nearer (fun c n => X (ix3 b n c)) (fun n => D (ix2 b n)) p n := by
  show min (D (ix2 b n)) (Ideal.hostReduceAdd h.rd (mulf (hoffset h X f) (hoffset h X f)) (Ideal.ofBits .f32 0x00000000#32) (ix2 b n)) = _
  have hl : ∀ c : Fin 3, h.rr.lift (ix2 b n) c = ix3 b n c := fun c => by
    funext a
    match a with | ⟨0, _⟩ => rfl | ⟨1, _⟩ => rfl | ⟨2, _⟩ => rfl
  have hc : ∀ c : Fin 3, mulf (hoffset h X f) (hoffset h X f) (h.rr.lift (ix2 b n) c)
      = (X (ix3 b n c) - X (ix3 b p c)) * (X (ix3 b n c) - X (ix3 b p c)) := fun c => by
    rw [hl c, mulf_apply, hoffset_apply h b hN X f p hf]
  rw [Ideal.hostReduceAdd_single h.rd h.rr, Ideal.ofBits_zero_f32, zero_add]
  exact congrArg (min _) ((Finset.sum_congr rfl fun c _ => hc c).trans (Fin.sum_univ_three _))

theorem hfarthest_apply (hN : N < 2 ^ 30) (D : FVec Ideal (Sh2 4 N) .f32) (p : Fin N) (hp : IsFirst (fun n => D (ix2 b n)) p) :
    hfarthest h D (ix1 b) = BitVec.ofNat 32 p.val := by
  have hl : ∀ n : Fin N, h.rm.lift (ix1 b) n = ix2 b n := fun n => by
    funext a
    match a with | ⟨0, _⟩ => rfl | ⟨1, _⟩ => rfl
  have hw : ∀ n : Fin N, n.val < 2 ^ 31 := fun n => by omega
  unfold hfarthest
  rw [Ideal.argReduce_eq_reduce2]
  refine congrArg Prod.snd (?_ : Host.reduce2 _ _ _ _ _ h.ra h.u (ix1 b) = (D (ix2 b p), BitVec.ofNat 32 p.val))
  unfold Host.reduce2
  rw [Shape.ReducesTo.drop_eq_drop h.ra h.rm]
  have hmem : ∀ i ∈ (List.finRange (Sh2 4 N).numel).filter (fun n => h.rm.drop ((Sh2 4 N).rowMajor.symm n) = ix1 b),
      ∃ m : Fin N, (Sh2 4 N).rowMajor.symm i = ix2 b m := fun i hi => by
    have e := of_decide_eq_true (List.mem_filter.1 hi).2
    refine ⟨((Sh2 4 N).rowMajor.symm i) 1, ?_⟩
    have h1 := (h.rm.lift_drop ((Sh2 4 N).rowMajor.symm i)).symm
    rw [e] at h1
    exact h1.trans (hl _)
  refine foldl_eq better (fun i => (D ((Sh2 4 N).rowMajor.symm i), iotaInDim (Sh2 4 N) 32 1 ((Sh2 4 N).rowMajor.symm i))) _
    (fun r => ∃ y m, r = (y, BitVec.ofNat 32 m) ∧ m < 2 ^ 31 ∧ (y < D (ix2 b p) ∨ y = D (ix2 b p) ∧ p.val ≤ m)) ?_ _ ?_ ?_
    ((Sh2 4 N).rowMajor (ix2 b p)) ?_ ?_ _ ?_
  · rintro r ⟨y, m, rfl, hm, hy⟩
    exact better_right _ _ _ _ hm (hw p) hy
  · intro i hi
    obtain ⟨m, e⟩ := hmem i hi
    rw [e]
    show better _ (D (ix2 b m), BitVec.ofNat 32 m.val) = _
    rcases lt_or_eq_of_le (hp.1 m) with hlt | heq
    · exact better_left _ _ _ _ (hw p) (hw m) (.inl hlt)
    · have hpm : p ≤ m := not_lt.1 fun hlt => absurd heq (hp.2 m hlt).ne
      rcases lt_or_eq_of_le hpm with hlt | rfl
      · exact better_left _ _ _ _ (hw p) (hw m) (.inr ⟨heq.symm, hlt⟩)
      · exact better_right _ _ _ _ (hw p) (hw p) (.inr ⟨rfl, le_refl _⟩)
  · rintro r i hi ⟨y, m, rfl, hm, hy⟩
    obtain ⟨n, e⟩ := hmem i hi
    have hn : D (ix2 b n) < D (ix2 b p) ∨ D (ix2 b n) = D (ix2 b p) ∧ p.val ≤ n.val := by
      rcases lt_or_eq_of_le (hp.1 n) with hlt | heq
      · exact .inl hlt
      · exact .inr ⟨heq, not_lt.1 fun hlt => absurd heq (hp.2 n hlt).ne⟩
    rw [e]
    show ∃ y' m', better (y, BitVec.ofNat 32 m) (D (ix2 b n), BitVec.ofNat 32 n.val) = _ ∧ _
    by_cases hc : D (ix2 b n) < y ∨ y = D (ix2 b n) ∧ m < n.val
    · exact ⟨y, m, better_left _ _ _ _ hm (hw n) hc, hm, hy⟩
    · refine ⟨D (ix2 b n), n.val, better_right _ _ _ _ hm (hw n) ?_, hw n, hn⟩
      rw [not_or, not_lt, not_and, not_lt] at hc
      rcases lt_or_eq_of_le hc.1 with hlt | heq
      · exact .inl hlt
      · exact .inr ⟨heq, hc.2 heq⟩
  · refine List.mem_filter.2 ⟨List.mem_finRange _, decide_eq_true ?_⟩
    rw [Equiv.symm_apply_apply, ← hl]
    exact h.rm.drop_lift _ _
  · rw [Equiv.symm_apply_apply]
    rfl
  · refine ⟨⊥, 0, Prod.ext word_bottom rfl, by norm_num, ?_⟩
    rcases lt_or_eq_of_le (bot_le (a := D (ix2 b p))) with hlt | heq
    · exact .inl hlt
    · refine .inr ⟨heq, Nat.le_of_not_lt fun hlt => ?_⟩
      have : D (ix2 b ⟨0, p.pos⟩) < D (ix2 b p) := hp.2 ⟨0, p.pos⟩ hlt
      rw [← heq] at this
      exact absurd this not_lt_bot

theorem htable_apply (hG : G < 2 ^ 30) (I : IVec (Sh2 4 G) 32) (i : IVec Sh0 32) (f : IVec (Sh1 4) 32) (k : Fin G)
    (hi : i ix0 = BitVec.ofNat 32 k.val) (g : Fin G) : htable h I i f (ix2 b g) = if g = k then f (ix1 b) else I (ix2 b g) := by
  have hk : k.val < 2 ^ 31 := by omega
  refine Routing.scatter_col_set h.ws I _ f k ?_ b g
  rw [broadcastInDim_scalar_apply h.z1, wrap_apply _ _ i ix0 k.val hk rfl hi, StableHlo.Predicate.toInt_ofNat_small _ hk]

theorem hresult_apply (hN : N < 2 ^ 30) (x : FVec Ideal (Sh3 4 3 N) .f32) (I : IVec (Sh2 4 G) 32) (g : Fin G) (p : Fin N)
    (hI : I (ix2 b g) = BitVec.ofNat 32 p.val) (c : Fin 3) : hresult h x I (ix3 b c g) = x (ix3 b c p) := by
  unfold hresult
  rw [transpose_apply _ _ h.tG (ix3 b c g) (ix3 b g c) (fun a => by
    match a with | ⟨0, _⟩ => rfl | ⟨1, _⟩ => rfl | ⟨2, _⟩ => rfl)]
  refine (pick_apply h.wG _ _ b g c p hN ?_).trans (turned_apply h b x p c)
  rw [broadcastInDim_apply _ h.gG _ (ix3 b g 0) (ix2 b g) fun a => by
    match a with | ⟨0, _⟩ => rfl | ⟨1, _⟩ => exact kept g]
  exact wrap_apply _ _ I _ p.val (by omega) (broadcastInDim_scalar_apply h.zG _ _) hI

/-- After `G` trips of the reference the table's points are what is sampled. -/
theorem host_trips_eq (hN : 0 < N) (hN' : N < 2 ^ 30) (hG : G < 2 ^ 30) (x : FVec Ideal (Sh3 4 3 N) .f32) (X : ℕ → FVec Ideal (Sh3 4 N 3) .f32)
    (D : ℕ → FVec Ideal (Sh2 4 N) .f32) (f : ℕ → IVec (Sh1 4) 32) (I : ℕ → IVec (Sh2 4 G) 32) (i : ℕ → IVec Sh0 32)
    (hX : ∀ k, X k = transpose (Sh3 4 N 3) [0, 2, 1] x h.t) (D0 : ∀ j, D 0 j = Ideal.ofBits .f32 0x501502F9#32) (f0 : ∀ j, f 0 j = 0#32)
    (hi : ∀ k, i k ix0 = BitVec.ofNat 32 k) (hD : ∀ k, k < G → D (k + 1) = hdists h (X k) (D k) (f k))
    (hf : ∀ k, k < G → f (k + 1) = hfarthest h (hdists h (X k) (D k) (f k))) (hI : ∀ k, k < G → I (k + 1) = htable h (I k) (i k) (f k)) :
    hresult h x (I G) = sampled hN x := by
  have state : ∀ (b : Fin 4) (k : ℕ), k ≤ G → (∀ n : Fin N, D k (ix2 b n) = (chain hN (points x b) k).1 n)
      ∧ f k (ix1 b) = BitVec.ofNat 32 (chosen hN x b k).val
      ∧ ∀ g : Fin G, g.val < k → I k (ix2 b g) = BitVec.ofNat 32 (chosen hN x b g.val).val := fun b k => by
    induction k with
    | zero => exact fun _ => ⟨fun n => D0 _, f0 _, fun g hg => absurd hg (Nat.not_lt_zero _)⟩
    | succ k ih =>
      intro hk
      obtain ⟨iD, if', iI⟩ := ih (by omega)
      have hP : (fun (e : Fin 3) (n : Fin N) => X k (ix3 b n e)) = points x b :=
        funext fun e => funext fun n => by rw [hX]; exact turned_apply h b x n e
      have hD' : ∀ n : Fin N, hdists h (X k) (D k) (f k) (ix2 b n) = (chain hN (points x b) (k + 1)).1 n := fun n => by
        rw [hdists_apply h b hN' _ _ _ _ if', hP, funext iD]
        rfl
      refine ⟨fun n => by rw [hD k hk]; exact hD' n, ?_, fun g hg => ?_⟩
      · rw [hf k hk]
        refine hfarthest_apply h b hN' _ _ ?_
        rw [funext hD']
        exact first_spec hN _
      · rw [hI k hk, htable_apply h b hG _ _ _ ⟨k, hk⟩ (hi k)]
        split
        · next e => rw [if', e]
        · next e => exact iI g (lt_of_le_of_ne (Nat.le_of_lt_succ hg) fun q => e (Fin.ext q))
  funext j
  obtain ⟨b, e, g, rfl⟩ : ∃ (b : Fin 4) (e : Fin 3) (g : Fin G), j = ix3 b e g := ⟨j 0, j 1, j 2, ValueIdx.eq_ix3 j⟩
  exact hresult_apply h b hN' x _ g _ ((state b G (le_refl _)).2.2 g g.isLt) e

end Host

end Cert.Sample

end
-- ==== Proof.SampleRun.lean ====
/-
  The sampling reference's program for any number of points `N` and of samples `G`: its buffers, its operations as four lists
  (before the loop, the loop's condition, one trip, after the loop), what each list does, and its run. A stage's printed program is
  this one at the stage's sizes.
-/
module

public import proofs.«01_k».proof.Proof.SampleHost
public import Idealize.ShloMosaic.Lib.Sig
public import Idealize.ShloMosaic.Lib.StableHlo.RunLoop
public import Idealize.ShloMosaic.Lib.Scf.ExitTest
public import Idealize.ShloMosaic.Lib.Scf.Counter

@[expose] public section

noncomputable section

namespace Cert.Sample.Run

open Idealize.ShloMosaic Idealize.ShloMosaic.TcCoe Idealize.ShloMosaic.StableHlo Idealize.ShloMosaic.Tactic
open Idealize.ShloMosaic.RefSig (ofTc tcTables tileCredit tileCredit_eq_zero tileCredit_pos)
open Idealize.SL Idealize.SL.RA Idealize.SL.BI Idealize.SL.Sem Idealize.SL.ProofMode
open scoped Idealize.SL.BI
open Idealize.ShloMosaic.ValueIdx Cert.Block Cert.Reference Cert.Sample
open Idealize.SL.BI.BIBase Idealize.SL.BI.Laws
open Idealize.ShloMosaic.Pipeline (ucRefs sub_ucRefs)

/-! ## The buffers -/

/-- How many buffers of each memory space. -/
abbrev nBuf : Space → Nat
  | .hbm => 63
  | .vmem => 0
  | .smem => 0
  | _ => 0

/-- Each buffer's type. -/
abbrev bufTy (N G : ℕ) : (tb : Table) → Fin (tcTables nBuf tb) → BufTy
  | .hbm, ⟨0, _⟩ => ⟨(Sh3 4 3 N), .f32⟩
  | .hbm, ⟨1, _⟩ => ⟨(Sh3 4 N 3), .f32⟩
  | .hbm, ⟨2, _⟩ => ⟨Sh0, .i32⟩
  | .hbm, ⟨3, _⟩ => ⟨(Sh2 4 G), .i32⟩
  | .hbm, ⟨4, _⟩ => ⟨Sh0, .f32⟩
  | .hbm, ⟨5, _⟩ => ⟨(Sh2 4 N), .f32⟩
  | .hbm, ⟨6, _⟩ => ⟨Sh0, .i32⟩
  | .hbm, ⟨7, _⟩ => ⟨(Sh1 4), .i32⟩
  | .hbm, ⟨8, _⟩ => ⟨Sh0, .i32⟩
  | .hbm, ⟨9, _⟩ => ⟨Sh0, .i32⟩
  | .hbm, ⟨10, _⟩ => ⟨(Sh3 4 N 3), .f32⟩
  | .hbm, ⟨11, _⟩ => ⟨Sh0, .i32⟩
  | .hbm, ⟨12, _⟩ => ⟨Sh0, .i32⟩
  | .hbm, ⟨13, _⟩ => ⟨(Sh2 4 G), .i32⟩
  | .hbm, ⟨14, _⟩ => ⟨(Sh2 4 N), .f32⟩
  | .hbm, ⟨15, _⟩ => ⟨(Sh1 4), .i32⟩
  | .hbm, ⟨16, _⟩ => ⟨Sh0, .i32⟩
  | .hbm, ⟨17, _⟩ => ⟨Sh0, .i1⟩
  | .hbm, ⟨18, _⟩ => ⟨Sh0, .i32⟩
  | .hbm, ⟨19, _⟩ => ⟨Sh0, .i32⟩
  | .hbm, ⟨20, _⟩ => ⟨Sh0, .i32⟩
  | .hbm, ⟨21, _⟩ => ⟨Sh0, .i1⟩
  | .hbm, ⟨22, _⟩ => ⟨Sh0, .i32⟩
  | .hbm, ⟨23, _⟩ => ⟨Sh0, .i32⟩
  | .hbm, ⟨24, _⟩ => ⟨Sh0, .i32⟩
  | .hbm, ⟨25, _⟩ => ⟨Sh0, .i32⟩
  | .hbm, ⟨26, _⟩ => ⟨(Sh1 1), .i32⟩
  | .hbm, ⟨27, _⟩ => ⟨(Sh2 4 G), .i32⟩
  | .hbm, ⟨28, _⟩ => ⟨(Sh2 4 1), .i32⟩
  | .hbm, ⟨29, _⟩ => ⟨Sh0, .i32⟩
  | .hbm, ⟨30, _⟩ => ⟨(Sh2 4 1), .i32⟩
  | .hbm, ⟨31, _⟩ => ⟨(Sh2 4 1), .i1⟩
  | .hbm, ⟨32, _⟩ => ⟨Sh0, .i32⟩
  | .hbm, ⟨33, _⟩ => ⟨(Sh2 4 1), .i32⟩
  | .hbm, ⟨34, _⟩ => ⟨(Sh2 4 1), .i32⟩
  | .hbm, ⟨35, _⟩ => ⟨(Sh2 4 1), .i32⟩
  | .hbm, ⟨36, _⟩ => ⟨(Sh3 4 1 1), .i32⟩
  | .hbm, ⟨37, _⟩ => ⟨(Sh3 4 1 3), .f32⟩
  | .hbm, ⟨38, _⟩ => ⟨(Sh2 4 3), .f32⟩
  | .hbm, ⟨39, _⟩ => ⟨(Sh3 4 1 3), .f32⟩
  | .hbm, ⟨40, _⟩ => ⟨(Sh3 4 N 3), .f32⟩
  | .hbm, ⟨41, _⟩ => ⟨(Sh3 4 N 3), .f32⟩
  | .hbm, ⟨42, _⟩ => ⟨(Sh3 4 N 3), .f32⟩
  | .hbm, ⟨43, _⟩ => ⟨Sh0, .f32⟩
  | .hbm, ⟨44, _⟩ => ⟨(Sh2 4 N), .f32⟩
  | .hbm, ⟨45, _⟩ => ⟨(Sh2 4 N), .f32⟩
  | .hbm, ⟨46, _⟩ => ⟨(Sh2 4 N), .i32⟩
  | .hbm, ⟨47, _⟩ => ⟨Sh0, .f32⟩
  | .hbm, ⟨48, _⟩ => ⟨Sh0, .i32⟩
  | .hbm, ⟨49, _⟩ => ⟨(Sh1 4), .f32⟩
  | .hbm, ⟨50, _⟩ => ⟨(Sh1 4), .i32⟩
  | .hbm, ⟨51, _⟩ => ⟨Sh0, .i32⟩
  | .hbm, ⟨52, _⟩ => ⟨Sh0, .i32⟩
  | .hbm, ⟨53, _⟩ => ⟨Sh0, .i32⟩
  | .hbm, ⟨54, _⟩ => ⟨(Sh2 4 G), .i32⟩
  | .hbm, ⟨55, _⟩ => ⟨(Sh2 4 G), .i1⟩
  | .hbm, ⟨56, _⟩ => ⟨Sh0, .i32⟩
  | .hbm, ⟨57, _⟩ => ⟨(Sh2 4 G), .i32⟩
  | .hbm, ⟨58, _⟩ => ⟨(Sh2 4 G), .i32⟩
  | .hbm, ⟨59, _⟩ => ⟨(Sh2 4 G), .i32⟩
  | .hbm, ⟨60, _⟩ => ⟨(Sh3 4 G 1), .i32⟩
  | .hbm, ⟨61, _⟩ => ⟨(Sh3 4 G 3), .f32⟩
  | .hbm, ⟨62, _⟩ => ⟨(Sh3 4 3 G), .f32⟩
  | _, _ => ⟨(Sh3 4 3 N), .f32⟩

abbrev bufScoped : (cs : CoreSpace) → Fin (nBuf (.core cs)) → Bool
  | _, _ => false

abbrev semScoped : Fin 0 → Bool
  | ⟨_, h⟩ => absurd h (Nat.not_lt_zero _)

abbrev sig (N G : ℕ) : RefSig :=
  ofTc nBuf (bufTy N G) 0 0 bufScoped semScoped semScoped tileCredit tileCredit_eq_zero tileCredit_pos

variable {N G : ℕ}

abbrev nD : Nat := 1
abbrev τ : Topo := Topo.v7x

/-- The buffer of a number. -/
abbrev buf (i : Fin 63) : Ref (sig N G) .tc := ⟨.hbm, i, rfl⟩

theorem outside : Space.hbm ≠ Space.host := by decide

theorem near (i : Fin 63) : (buf i : Ref (sig N G) .tc).space ≠ .host ∧ (Proc.devRef .tc (buf i : Ref (sig N G) .tc) : DevRef τ (sig N G)).isScoped = false :=
  ⟨outside, rfl⟩

theorem apart {i j : Fin 63} (e : i ≠ j) : (buf i : Ref (sig N G) .tc) ≠ buf j := fun q => e (Ref.mk.inj q).2.eq

abbrev arg0 : Ref (sig N G) .tc := buf 0
abbrev v0 : Ref (sig N G) .tc := buf 1
abbrev c : Ref (sig N G) .tc := buf 2
abbrev v1 : Ref (sig N G) .tc := buf 3
abbrev cst : Ref (sig N G) .tc := buf 4
abbrev v2 : Ref (sig N G) .tc := buf 5
abbrev c_0 : Ref (sig N G) .tc := buf 6
abbrev v3 : Ref (sig N G) .tc := buf 7
abbrev c_1 : Ref (sig N G) .tc := buf 8
abbrev c_2 : Ref (sig N G) .tc := buf 9
abbrev v4_0 : Ref (sig N G) .tc := buf 10
abbrev v4_1 : Ref (sig N G) .tc := buf 11
abbrev v4_2 : Ref (sig N G) .tc := buf 12
abbrev v4_3 : Ref (sig N G) .tc := buf 13
abbrev v4_4 : Ref (sig N G) .tc := buf 14
abbrev v4_5 : Ref (sig N G) .tc := buf 15
abbrev while0c_c_10 : Ref (sig N G) .tc := buf 16
abbrev while0c_v13 : Ref (sig N G) .tc := buf 17
abbrev while0b_c_10 : Ref (sig N G) .tc := buf 18
abbrev while0b_v13 : Ref (sig N G) .tc := buf 19
abbrev while0b_c_11 : Ref (sig N G) .tc := buf 20
abbrev while0b_v14 : Ref (sig N G) .tc := buf 21
abbrev while0b_c_12 : Ref (sig N G) .tc := buf 22
abbrev while0b_v15 : Ref (sig N G) .tc := buf 23
abbrev while0b_v16 : Ref (sig N G) .tc := buf 24
abbrev while0b_v17 : Ref (sig N G) .tc := buf 25
abbrev while0b_v18 : Ref (sig N G) .tc := buf 26
abbrev while0b_v19 : Ref (sig N G) .tc := buf 27
abbrev while0b_v20 : Ref (sig N G) .tc := buf 28
abbrev while0b_c_13 : Ref (sig N G) .tc := buf 29
abbrev while0b_v21 : Ref (sig N G) .tc := buf 30
abbrev while0b_v22 : Ref (sig N G) .tc := buf 31
abbrev while0b_c_14 : Ref (sig N G) .tc := buf 32
abbrev while0b_v23 : Ref (sig N G) .tc := buf 33
abbrev while0b_v24 : Ref (sig N G) .tc := buf 34
abbrev while0b_v25 : Ref (sig N G) .tc := buf 35
abbrev while0b_v26 : Ref (sig N G) .tc := buf 36
abbrev while0b_v27 : Ref (sig N G) .tc := buf 37
abbrev while0b_v28 : Ref (sig N G) .tc := buf 38
abbrev while0b_v29 : Ref (sig N G) .tc := buf 39
abbrev while0b_v30 : Ref (sig N G) .tc := buf 40
abbrev while0b_v31 : Ref (sig N G) .tc := buf 41
abbrev while0b_v32 : Ref (sig N G) .tc := buf 42
abbrev while0b_cst_15 : Ref (sig N G) .tc := buf 43
abbrev while0b_v33 : Ref (sig N G) .tc := buf 44
abbrev while0b_v34 : Ref (sig N G) .tc := buf 45
abbrev while0b_call0_v0 : Ref (sig N G) .tc := buf 46
abbrev while0b_call0_cst : Ref (sig N G) .tc := buf 47
abbrev while0b_call0_c : Ref (sig N G) .tc := buf 48
abbrev while0b_call0_v1_0 : Ref (sig N G) .tc := buf 49
abbrev while0b_v35 : Ref (sig N G) .tc := buf 50
abbrev while0b_c_16 : Ref (sig N G) .tc := buf 51
abbrev while0b_v36 : Ref (sig N G) .tc := buf 52
abbrev c_3 : Ref (sig N G) .tc := buf 53
abbrev v5 : Ref (sig N G) .tc := buf 54
abbrev v6 : Ref (sig N G) .tc := buf 55
abbrev c_4 : Ref (sig N G) .tc := buf 56
abbrev v7 : Ref (sig N G) .tc := buf 57
abbrev v8 : Ref (sig N G) .tc := buf 58
abbrev v9 : Ref (sig N G) .tc := buf 59
abbrev v10 : Ref (sig N G) .tc := buf 60
abbrev v11 : Ref (sig N G) .tc := buf 61
abbrev v12 : Ref (sig N G) .tc := buf 62

section Program

variable (h : HFits N G)

/-! ## The operations -/

/-- The operations before the loop, in order. -/
abbrev preOps : List (HloOp τ (sig N G) (Elt Ideal)) :=
  [ unary arg0 v0 ((transpose (Sh3 4 N 3) [0, 2, 1] · h.t) : (⟨(Sh3 4 3 N), .f32⟩ : BufTy).Contents (Elt Ideal) → (⟨(Sh3 4 N 3), .f32⟩ : BufTy).Contents (Elt Ideal)) (near _) (near _),
    nullary c (constantI Sh0 32 0#32) (near _),
    unary c v1 (broadcastInDim (Sh2 4 G) ![] h.zG : (⟨Sh0, .i32⟩ : BufTy).Contents (Elt Ideal) → (⟨(Sh2 4 G), .i32⟩ : BufTy).Contents (Elt Ideal)) (near _) (near _),
    nullary cst (constant (F := Ideal) Sh0 .f32 0x501502F9#32) (near _),
    unary cst v2 (broadcastInDim (Sh2 4 N) ![] h.zN : (⟨Sh0, .f32⟩ : BufTy).Contents (Elt Ideal) → (⟨(Sh2 4 N), .f32⟩ : BufTy).Contents (Elt Ideal)) (near _) (near _),
    nullary c_0 (constantI Sh0 32 0#32) (near _),
    unary c_0 v3 (broadcastInDim (Sh1 4) ![] h.z4 : (⟨Sh0, .i32⟩ : BufTy).Contents (Elt Ideal) → (⟨(Sh1 4), .i32⟩ : BufTy).Contents (Elt Ideal)) (near _) (near _),
    nullary c_1 (constantI Sh0 32 0#32) (near _),
    nullary c_2 (constantI Sh0 32 0#32) (near _),
    unary v0 v4_0 id (near _) (near _),
    unary c_2 v4_1 id (near _) (near _),
    unary c_1 v4_2 id (near _) (near _),
    unary v1 v4_3 id (near _) (near _),
    unary v2 v4_4 id (near _) (near _),
    unary v3 v4_5 id (near _) (near _) ]

/-- The two operations of the loop's condition. -/
abbrev condOps : List (HloOp τ (sig N G) (Elt Ideal)) :=
  [ nullary while0c_c_10 (constantI Sh0 32 (BitVec.ofNat 32 G)) (near _),
    binary v4_1 while0c_c_10 while0c_v13 (cmpi .slt : (⟨Sh0, .i32⟩ : BufTy).Contents (Elt Ideal) → (⟨Sh0, .i32⟩ : BufTy).Contents (Elt Ideal) → (⟨Sh0, .i1⟩ : BufTy).Contents (Elt Ideal)) (near _) (near _) (near _) ]

/-- The operations of one trip, the copies into the carried buffers last. -/
abbrev bodyOps : List (HloOp τ (sig N G) (Elt Ideal)) :=
  [ nullary while0b_c_10 (constantI Sh0 32 1#32) (near _),
    binary v4_2 while0b_c_10 while0b_v13 (addi : (⟨Sh0, .i32⟩ : BufTy).Contents (Elt Ideal) → (⟨Sh0, .i32⟩ : BufTy).Contents (Elt Ideal) → (⟨Sh0, .i32⟩ : BufTy).Contents (Elt Ideal)) (near _) (near _) (near _),
    nullary while0b_c_11 (constantI Sh0 32 0#32) (near _),
    binary v4_2 while0b_c_11 while0b_v14 (cmpi .slt : (⟨Sh0, .i32⟩ : BufTy).Contents (Elt Ideal) → (⟨Sh0, .i32⟩ : BufTy).Contents (Elt Ideal) → (⟨Sh0, .i1⟩ : BufTy).Contents (Elt Ideal)) (near _) (near _) (near _),
    nullary while0b_c_12 (constantI Sh0 32 (BitVec.ofNat 32 G)) (near _),
    binary v4_2 while0b_c_12 while0b_v15 (addi : (⟨Sh0, .i32⟩ : BufTy).Contents (Elt Ideal) → (⟨Sh0, .i32⟩ : BufTy).Contents (Elt Ideal) → (⟨Sh0, .i32⟩ : BufTy).Contents (Elt Ideal)) (near _) (near _) (near _),
    ternary while0b_v14 while0b_v15 v4_2 while0b_v16 (select : (⟨Sh0, .i1⟩ : BufTy).Contents (Elt Ideal) → (⟨Sh0, .i32⟩ : BufTy).Contents (Elt Ideal) → (⟨Sh0, .i32⟩ : BufTy).Contents (Elt Ideal) → (⟨Sh0, .i32⟩ : BufTy).Contents (Elt Ideal)) (near _) (near _) (near _) (near _),
    unary while0b_v16 while0b_v17 (id : (⟨Sh0, .i32⟩ : BufTy).Contents (Elt Ideal) → (⟨Sh0, .i32⟩ : BufTy).Contents (Elt Ideal)) (near _) (near _),
    unary while0b_v17 while0b_v18 (broadcastInDim (Sh1 1) ![] h.z1 : (⟨Sh0, .i32⟩ : BufTy).Contents (Elt Ideal) → (⟨(Sh1 1), .i32⟩ : BufTy).Contents (Elt Ideal)) (near _) (near _),
    ternary v4_3 while0b_v18 v4_5 while0b_v19 ((fun x i u => Host.scatter (Routing.colDims 4 G h.ws) (fun _ b => b) x i u) : (⟨(Sh2 4 G), .i32⟩ : BufTy).Contents (Elt Ideal) → (⟨(Sh1 1), .i32⟩ : BufTy).Contents (Elt Ideal) → (⟨(Sh1 4), .i32⟩ : BufTy).Contents (Elt Ideal) → (⟨(Sh2 4 G), .i32⟩ : BufTy).Contents (Elt Ideal)) (near _) (near _) (near _) (near _),
    unary v4_5 while0b_v20 (broadcastInDim (Sh2 4 1) ![0] h.f1 : (⟨(Sh1 4), .i32⟩ : BufTy).Contents (Elt Ideal) → (⟨(Sh2 4 1), .i32⟩ : BufTy).Contents (Elt Ideal)) (near _) (near _),
    nullary while0b_c_13 (constantI Sh0 32 0#32) (near _),
    unary while0b_c_13 while0b_v21 (broadcastInDim (Sh2 4 1) ![] h.zf : (⟨Sh0, .i32⟩ : BufTy).Contents (Elt Ideal) → (⟨(Sh2 4 1), .i32⟩ : BufTy).Contents (Elt Ideal)) (near _) (near _),
    binary while0b_v20 while0b_v21 while0b_v22 (cmpi .slt : (⟨(Sh2 4 1), .i32⟩ : BufTy).Contents (Elt Ideal) → (⟨(Sh2 4 1), .i32⟩ : BufTy).Contents (Elt Ideal) → (⟨(Sh2 4 1), .i1⟩ : BufTy).Contents (Elt Ideal)) (near _) (near _) (near _),
    nullary while0b_c_14 (constantI Sh0 32 (BitVec.ofNat 32 N)) (near _),
    unary while0b_c_14 while0b_v23 (broadcastInDim (Sh2 4 1) ![] h.zf : (⟨Sh0, .i32⟩ : BufTy).Contents (Elt Ideal) → (⟨(Sh2 4 1), .i32⟩ : BufTy).Contents (Elt Ideal)) (near _) (near _),
    binary while0b_v20 while0b_v23 while0b_v24 (addi : (⟨(Sh2 4 1), .i32⟩ : BufTy).Contents (Elt Ideal) → (⟨(Sh2 4 1), .i32⟩ : BufTy).Contents (Elt Ideal) → (⟨(Sh2 4 1), .i32⟩ : BufTy).Contents (Elt Ideal)) (near _) (near _) (near _),
    ternary while0b_v22 while0b_v24 while0b_v20 while0b_v25 (select : (⟨(Sh2 4 1), .i1⟩ : BufTy).Contents (Elt Ideal) → (⟨(Sh2 4 1), .i32⟩ : BufTy).Contents (Elt Ideal) → (⟨(Sh2 4 1), .i32⟩ : BufTy).Contents (Elt Ideal) → (⟨(Sh2 4 1), .i32⟩ : BufTy).Contents (Elt Ideal)) (near _) (near _) (near _) (near _),
    unary while0b_v25 while0b_v26 (broadcastInDim (Sh3 4 1 1) ![0, 1] h.f2 : (⟨(Sh2 4 1), .i32⟩ : BufTy).Contents (Elt Ideal) → (⟨(Sh3 4 1 1), .i32⟩ : BufTy).Contents (Elt Ideal)) (near _) (near _),
    binary v4_0 while0b_v26 while0b_v27 ((fun x i => Host.gather (pickDims N 1 h.w1) x i) : (⟨(Sh3 4 N 3), .f32⟩ : BufTy).Contents (Elt Ideal) → (⟨(Sh3 4 1 1), .i32⟩ : BufTy).Contents (Elt Ideal) → (⟨(Sh3 4 1 3), .f32⟩ : BufTy).Contents (Elt Ideal)) (near _) (near _) (near _),
    reshape while0b_v27 while0b_v28 (rfl : (.f32 : EltTy) = .f32) h.cc (near _) (near _),
    unary while0b_v28 while0b_v29 (broadcastInDim (Sh3 4 1 3) ![0, 2] h.c1 : (⟨(Sh2 4 3), .f32⟩ : BufTy).Contents (Elt Ideal) → (⟨(Sh3 4 1 3), .f32⟩ : BufTy).Contents (Elt Ideal)) (near _) (near _),
    unary while0b_v29 while0b_v30 (broadcastInDim (Sh3 4 N 3) ![0, 1, 2] h.c2 : (⟨(Sh3 4 1 3), .f32⟩ : BufTy).Contents (Elt Ideal) → (⟨(Sh3 4 N 3), .f32⟩ : BufTy).Contents (Elt Ideal)) (near _) (near _),
    binary v4_0 while0b_v30 while0b_v31 (subf (F := Ideal) (φ := .f32) : (⟨(Sh3 4 N 3), .f32⟩ : BufTy).Contents (Elt Ideal) → (⟨(Sh3 4 N 3), .f32⟩ : BufTy).Contents (Elt Ideal) → (⟨(Sh3 4 N 3), .f32⟩ : BufTy).Contents (Elt Ideal)) (near _) (near _) (near _),
    binary while0b_v31 while0b_v31 while0b_v32 (mulf (F := Ideal) (φ := .f32) : (⟨(Sh3 4 N 3), .f32⟩ : BufTy).Contents (Elt Ideal) → (⟨(Sh3 4 N 3), .f32⟩ : BufTy).Contents (Elt Ideal) → (⟨(Sh3 4 N 3), .f32⟩ : BufTy).Contents (Elt Ideal)) (near _) (near _) (near _),
    nullary while0b_cst_15 (constant (F := Ideal) Sh0 .f32 0x00000000#32) (near _),
    binary while0b_v32 while0b_cst_15 while0b_v33 ((fun x v => Host.reduceAdd (F := Ideal) (φ := .f32) x v h.rd h.u) : (⟨(Sh3 4 N 3), .f32⟩ : BufTy).Contents (Elt Ideal) → (⟨Sh0, .f32⟩ : BufTy).Contents (Elt Ideal) → (⟨(Sh2 4 N), .f32⟩ : BufTy).Contents (Elt Ideal)) (near _) (near _) (near _),
    binary v4_4 while0b_v33 while0b_v34 (minimumf (F := Ideal) (φ := .f32) : (⟨(Sh2 4 N), .f32⟩ : BufTy).Contents (Elt Ideal) → (⟨(Sh2 4 N), .f32⟩ : BufTy).Contents (Elt Ideal) → (⟨(Sh2 4 N), .f32⟩ : BufTy).Contents (Elt Ideal)) (near _) (near _) (near _),
    TRef.nullary (.of while0b_call0_v0 rfl outside rfl) (iotaInDim (Sh2 4 N) 32 1),
    TRef.nullary (.of while0b_call0_cst rfl outside rfl) (constant (F := Ideal) Sh0 .f32 0xFF800000#32),
    TRef.nullary (.of while0b_call0_c rfl outside rfl) (constantI Sh0 32 0#32),
    TRef.quaternary (.of while0b_v34 rfl outside rfl) (.of while0b_call0_v0 rfl outside rfl) (.of while0b_call0_cst rfl outside rfl) (.of while0b_call0_c rfl outside rfl) (.of while0b_call0_v1_0 rfl outside rfl) (fun x y u v j => (Host.argReduce better x y u v h.ra h.u j).1),
    TRef.quaternary (.of while0b_v34 rfl outside rfl) (.of while0b_call0_v0 rfl outside rfl) (.of while0b_call0_cst rfl outside rfl) (.of while0b_call0_c rfl outside rfl) (.of while0b_v35 rfl outside rfl) (fun x y u v j => (Host.argReduce better x y u v h.ra h.u j).2),
    nullary while0b_c_16 (constantI Sh0 32 1#32) (near _),
    binary v4_1 while0b_c_16 while0b_v36 (addi : (⟨Sh0, .i32⟩ : BufTy).Contents (Elt Ideal) → (⟨Sh0, .i32⟩ : BufTy).Contents (Elt Ideal) → (⟨Sh0, .i32⟩ : BufTy).Contents (Elt Ideal)) (near _) (near _) (near _),
    unary while0b_v36 v4_1 id (near _) (near _),
    unary while0b_v13 v4_2 id (near _) (near _),
    unary while0b_v19 v4_3 id (near _) (near _),
    unary while0b_v34 v4_4 id (near _) (near _),
    unary while0b_v35 v4_5 id (near _) (near _) ]

/-- The operations after the loop, in order. -/
abbrev postOps : List (HloOp τ (sig N G) (Elt Ideal)) :=
  [ nullary c_3 (constantI Sh0 32 0#32) (near _),
    unary c_3 v5 (broadcastInDim (Sh2 4 G) ![] h.zG : (⟨Sh0, .i32⟩ : BufTy).Contents (Elt Ideal) → (⟨(Sh2 4 G), .i32⟩ : BufTy).Contents (Elt Ideal)) (near _) (near _),
    binary v4_3 v5 v6 (cmpi .slt : (⟨(Sh2 4 G), .i32⟩ : BufTy).Contents (Elt Ideal) → (⟨(Sh2 4 G), .i32⟩ : BufTy).Contents (Elt Ideal) → (⟨(Sh2 4 G), .i1⟩ : BufTy).Contents (Elt Ideal)) (near _) (near _) (near _),
    nullary c_4 (constantI Sh0 32 (BitVec.ofNat 32 N)) (near _),
    unary c_4 v7 (broadcastInDim (Sh2 4 G) ![] h.zG : (⟨Sh0, .i32⟩ : BufTy).Contents (Elt Ideal) → (⟨(Sh2 4 G), .i32⟩ : BufTy).Contents (Elt Ideal)) (near _) (near _),
    binary v4_3 v7 v8 (addi : (⟨(Sh2 4 G), .i32⟩ : BufTy).Contents (Elt Ideal) → (⟨(Sh2 4 G), .i32⟩ : BufTy).Contents (Elt Ideal) → (⟨(Sh2 4 G), .i32⟩ : BufTy).Contents (Elt Ideal)) (near _) (near _) (near _),
    ternary v6 v8 v4_3 v9 (select : (⟨(Sh2 4 G), .i1⟩ : BufTy).Contents (Elt Ideal) → (⟨(Sh2 4 G), .i32⟩ : BufTy).Contents (Elt Ideal) → (⟨(Sh2 4 G), .i32⟩ : BufTy).Contents (Elt Ideal) → (⟨(Sh2 4 G), .i32⟩ : BufTy).Contents (Elt Ideal)) (near _) (near _) (near _) (near _),
    unary v9 v10 (broadcastInDim (Sh3 4 G 1) ![0, 1] h.gG : (⟨(Sh2 4 G), .i32⟩ : BufTy).Contents (Elt Ideal) → (⟨(Sh3 4 G 1), .i32⟩ : BufTy).Contents (Elt Ideal)) (near _) (near _),
    binary v0 v10 v11 ((fun x i => Host.gather (pickDims N G h.wG) x i) : (⟨(Sh3 4 N 3), .f32⟩ : BufTy).Contents (Elt Ideal) → (⟨(Sh3 4 G 1), .i32⟩ : BufTy).Contents (Elt Ideal) → (⟨(Sh3 4 G 3), .f32⟩ : BufTy).Contents (Elt Ideal)) (near _) (near _) (near _),
    unary v11 v12 ((transpose (Sh3 4 3 G) [0, 2, 1] · h.tG) : (⟨(Sh3 4 G 3), .f32⟩ : BufTy).Contents (Elt Ideal) → (⟨(Sh3 4 3 G), .f32⟩ : BufTy).Contents (Elt Ideal)) (near _) (near _) ]

theorem pre_sub : (preOps h : List (HloOp τ (sig N G) (Elt Ideal))).Forall fun op => op.bufs ⊆ tcRefs τ (sig N G) :=
  ⟨unary_bufs_sub .., nullary_bufs_sub .., unary_bufs_sub .., nullary_bufs_sub .., unary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩

theorem body_sub : (bodyOps h : List (HloOp τ (sig N G) (Elt Ideal))).Forall fun op => op.bufs ⊆ tcRefs τ (sig N G) :=
  ⟨nullary_bufs_sub .., binary_bufs_sub .., nullary_bufs_sub .., binary_bufs_sub .., nullary_bufs_sub .., binary_bufs_sub .., ternary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., nullary_bufs_sub .., binary_bufs_sub .., unary_bufs_sub .., unary_bufs_sub .., unary_bufs_sub .., unary_bufs_sub .., unary_bufs_sub ..⟩

theorem post_sub : (postOps h : List (HloOp τ (sig N G) (Elt Ideal))).Forall fun op => op.bufs ⊆ tcRefs τ (sig N G) :=
  ⟨nullary_bufs_sub .., unary_bufs_sub .., binary_bufs_sub .., nullary_bufs_sub .., unary_bufs_sub .., binary_bufs_sub .., ternary_bufs_sub .., unary_bufs_sub .., binary_bufs_sub .., unary_bufs_sub ..⟩

/-! ## What the lists do -/

section Lists

variable (V : Valuation τ (sig N G) (Elt Ideal))

/-- The condition writes nothing that is carried. -/
theorem cond_at : after condOps V (Proc.devRef .tc v0) = V (Proc.devRef .tc v0)
    ∧ after condOps V (Proc.devRef .tc v4_0) = V (Proc.devRef .tc v4_0)
    ∧ after condOps V (Proc.devRef .tc arg0) = V (Proc.devRef .tc arg0)
    ∧ after condOps V (Proc.devRef .tc v4_1) = V (Proc.devRef .tc v4_1)
    ∧ after condOps V (Proc.devRef .tc v4_2) = V (Proc.devRef .tc v4_2)
    ∧ after condOps V (Proc.devRef .tc v4_3) = V (Proc.devRef .tc v4_3)
    ∧ after condOps V (Proc.devRef .tc v4_4) = V (Proc.devRef .tc v4_4)
    ∧ after condOps V (Proc.devRef .tc v4_5) = V (Proc.devRef .tc v4_5) := by
  simp (disch := exact apart (by decide)) only [↓ readResult, after_cons, after_nil, nullary_result', unary_result', binary_result', ternary_result',
    quaternary_result', reshape_result', nullary_result_ne', unary_result_ne', binary_result_ne', ternary_result_ne', quaternary_result_ne',
    reshape_result_ne']
  and_intros <;> first | exact trivial | rfl

/-- What the operations before the loop leave. -/
theorem pre_at : after (preOps h) V (Proc.devRef .tc v0) = transpose (Sh3 4 N 3) [0, 2, 1] (V (Proc.devRef .tc arg0) : FVec Ideal (Sh3 4 3 N) .f32) h.t
    ∧ after (preOps h) V (Proc.devRef .tc v4_0) = transpose (Sh3 4 N 3) [0, 2, 1] (V (Proc.devRef .tc arg0) : FVec Ideal (Sh3 4 3 N) .f32) h.t
    ∧ after (preOps h) V (Proc.devRef .tc arg0) = V (Proc.devRef .tc arg0)
    ∧ after (preOps h) V (Proc.devRef .tc v4_1) = (constantI Sh0 32 0#32 : IVec Sh0 32)
    ∧ after (preOps h) V (Proc.devRef .tc v4_2) = (constantI Sh0 32 0#32 : IVec Sh0 32)
    ∧ after (preOps h) V (Proc.devRef .tc v4_4) = (broadcastInDim (Sh2 4 N) ![] h.zN (constant Sh0 .f32 0x501502F9#32) : FVec Ideal (Sh2 4 N) .f32)
    ∧ after (preOps h) V (Proc.devRef .tc v4_5) = (broadcastInDim (Sh1 4) ![] h.z4 (constantI Sh0 32 0#32) : IVec (Sh1 4) 32) := by
  simp (disch := exact apart (by decide)) only [↓ readResult, after_cons, after_nil, nullary_result', unary_result', binary_result', ternary_result',
    quaternary_result', reshape_result', nullary_result_ne', unary_result_ne', binary_result_ne', ternary_result_ne', quaternary_result_ne',
    reshape_result_ne']
  and_intros <;> first | exact trivial | rfl

set_option maxHeartbeats 4000000 in
/-- What one trip does to the carried arrays. -/
theorem trip_at : after (bodyOps h) V (Proc.devRef .tc v0) = V (Proc.devRef .tc v0)
    ∧ after (bodyOps h) V (Proc.devRef .tc v4_0) = V (Proc.devRef .tc v4_0)
    ∧ after (bodyOps h) V (Proc.devRef .tc arg0) = V (Proc.devRef .tc arg0)
    ∧ after (bodyOps h) V (Proc.devRef .tc v4_1) = addi (V (Proc.devRef .tc v4_1) : IVec Sh0 32) (constantI Sh0 32 1#32)
    ∧ after (bodyOps h) V (Proc.devRef .tc v4_2) = addi (V (Proc.devRef .tc v4_2) : IVec Sh0 32) (constantI Sh0 32 1#32)
    ∧ after (bodyOps h) V (Proc.devRef .tc v4_3) = htable h (V (Proc.devRef .tc v4_3)) (V (Proc.devRef .tc v4_2)) (V (Proc.devRef .tc v4_5))
    ∧ after (bodyOps h) V (Proc.devRef .tc v4_4) = hdists h (V (Proc.devRef .tc v4_0)) (V (Proc.devRef .tc v4_4)) (V (Proc.devRef .tc v4_5))
    ∧ after (bodyOps h) V (Proc.devRef .tc v4_5)
      = hfarthest h (hdists h (V (Proc.devRef .tc v4_0)) (V (Proc.devRef .tc v4_4)) (V (Proc.devRef .tc v4_5))) := by
  simp (disch := exact apart (by decide)) only [↓ readResult, after_cons, after_nil, nullary_result', unary_result', binary_result', ternary_result',
    quaternary_result', reshape_result', nullary_result_ne', unary_result_ne', binary_result_ne', ternary_result_ne', quaternary_result_ne',
    reshape_result_ne']
  simp only [TRef.ofBuf_toBuf]
  unfold htable hfarthest hdists hoffset hcentre
  simp only [id_eq]
  and_intros <;> first | exact trivial | rfl

/-- What the operations after the loop leave. -/
theorem post_at : after (postOps h) V (Proc.devRef .tc arg0) = V (Proc.devRef .tc arg0)
    ∧ after (postOps h) V (Proc.devRef .tc v12) = (transpose (Sh3 4 3 G) [0, 2, 1]
    (Host.gather (pickDims N G h.wG) (V (Proc.devRef .tc v0) : FVec Ideal (Sh3 4 N 3) .f32)
      (broadcastInDim (Sh3 4 G 1) ![0, 1] h.gG (select (cmpi .slt (V (Proc.devRef .tc v4_3) : IVec (Sh2 4 G) 32) (broadcastInDim (Sh2 4 G) ![] h.zG (constantI Sh0 32 0#32)))
        (addi (V (Proc.devRef .tc v4_3) : IVec (Sh2 4 G) 32) (broadcastInDim (Sh2 4 G) ![] h.zG (constantI Sh0 32 (BitVec.ofNat 32 N)))) (V (Proc.devRef .tc v4_3))))) h.tG
      : FVec Ideal (Sh3 4 3 G) .f32) := by
  simp (disch := exact apart (by decide)) only [↓ readResult, after_cons, after_nil, nullary_result', unary_result', binary_result', ternary_result',
    quaternary_result', reshape_result', nullary_result_ne', unary_result_ne', binary_result_ne', ternary_result_ne', quaternary_result_ne',
    reshape_result_ne']
  and_intros <;> first | exact trivial | rfl

end Lists

/-! ## The run -/

variable {Λ₀ : Labels} (pcs : Fin 0 → Pipeline.PCfg (sig N G) Λ₀ (Elt Ideal)) (defs₀ : Defs nD τ (sig N G) (Elt Ideal) Λ₀)
  (loops : Fin 1 → Prog (TpuEff nD τ (sig N G) (Elt Ideal) (HostLoop.Sig (Pipeline.Sig Λ₀ (Fin 0) fun p => (pcs p).Adm) 1) .tc) PUnit)
  (main : Dev nD → Prog (TpuEff nD τ (sig N G) (Elt Ideal) (HostLoop.Sig (Pipeline.Sig Λ₀ (Fin 0) fun p => (pcs p).Adm) 1) .tc) PUnit)

/-- The loop's condition. -/
def cond : Prog (TpuEff nD τ (sig N G) (Elt Ideal) (HostLoop.Sig (Pipeline.Sig Λ₀ (Fin 0) fun p => (pcs p).Adm) 1) .tc) (Elt Ideal .i1) := do
  hlo rfl (nullary while0c_c_10 (constantI Sh0 32 (BitVec.ofNat 32 G)) (near _)) (fun _ => .ret ⟨⟩)
  let x ← hlo rfl (binary v4_1 while0c_c_10 while0c_v13 (cmpi .slt : (⟨Sh0, .i32⟩ : BufTy).Contents (Elt Ideal) → (⟨Sh0, .i32⟩ : BufTy).Contents (Elt Ideal) → (⟨Sh0, .i1⟩ : BufTy).Contents (Elt Ideal)) (near _) (near _) (near _)) (HostLoop.elt while0c_v13)
  pure x

variable (m : (ℓ : Loc nD τ (sig N G)) → Buf (Elt Ideal) ℓ) (ρ : Dev nD → PrngReg)

/-- The buffers before the `k`-th run of the condition. -/
abbrev before : ℕ → Dev nD → Valuation τ (sig N G) (Elt Ideal) := atTrip condOps [bodyOps h] (entryContents [preOps h] m)

variable (c : Dev nD)

/-- The points as the launch has them. -/
abbrev arg : FVec Ideal (Sh3 4 3 N) .f32 := m ((c.tc : Thread nD τ).loc arg0)

theorem entry (b : Ref (sig N G) .tc) : before h m 0 c (Proc.devRef .tc b) = after (preOps h) (launchContents m c) (Proc.devRef .tc b) := by
  rw [before, atTrip_zero, entryContents, afterL_cons, afterL_nil]

theorem step (k : ℕ) (b : Ref (sig N G) .tc) :
    before h m (k + 1) c (Proc.devRef .tc b) = after (bodyOps h) (after condOps (before h m k c)) (Proc.devRef .tc b) := by
  rw [before, atTrip_succ, afterL_cons, afterL_nil]

/-- What every trip keeps, and the two counts of the trips. -/
theorem kept (k : ℕ) : before h m k c (Proc.devRef .tc v0) = transpose (Sh3 4 N 3) [0, 2, 1] (arg m c) h.t
    ∧ before h m k c (Proc.devRef .tc v4_0) = transpose (Sh3 4 N 3) [0, 2, 1] (arg m c) h.t
    ∧ before h m k c (Proc.devRef .tc arg0) = arg m c
    ∧ before h m k c (Proc.devRef .tc v4_1) = (fun _ => Scf.iv 0#32 1#32 k : IVec Sh0 32)
    ∧ before h m k c (Proc.devRef .tc v4_2) = (fun _ => BitVec.ofNat 32 k : IVec Sh0 32) := by
  induction k with
  | zero =>
    obtain ⟨e0, e1, e2, e3, e4, -, -⟩ := pre_at h (launchContents m c)
    refine ⟨(entry h m c _).trans e0, (entry h m c _).trans e1, (entry h m c _).trans e2, (entry h m c _).trans (e3.trans ?_), (entry h m c _).trans e4⟩
    rw [Scf.iv_zero]
    rfl
  | succ k ih =>
    obtain ⟨i0, i1, i2, i3, i4⟩ := ih
    obtain ⟨c0, c1, c2, c3, c4, -⟩ := cond_at (before h m k c)
    obtain ⟨b0, b1, b2, b3, b4, -⟩ := trip_at h (after condOps (before h m k c))
    refine ⟨(step h m c k _).trans (b0.trans (c0.trans i0)), (step h m c k _).trans (b1.trans (c1.trans i1)),
      (step h m c k _).trans (b2.trans (c2.trans i2)), ?_, ?_⟩
    · rw [step, b3, c3, i3, Scf.iv_succ]
      rfl
    · rw [step, b4, c4, i4, BitVec.ofNat_add]
      rfl

variable (hok : Scf.OK 0#32 (BitVec.ofNat 32 G) 1#32) (htr : Scf.trips 0#32 (BitVec.ofNat 32 G) 1#32 = G)
include hok htr

-- the rule is stated for any thread, and this core's thread is found only when its type may be unfolded
set_option backward.isDefEq.respectTransparency.types false in
/-- The condition holds before the first `G` trips and fails after them. -/
theorem cond_spec : CondSpec pcs defs₀ loops (cond pcs) condOps [bodyOps h] (entryContents [preOps h] m) G := by
  intro k hk c bd
  have hctr := (kept h m c k).2.2.2.1
  unfold cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt ((HloOp.result (nullary while0c_c_10 (constantI Sh0 32 (BitVec.ofNat 32 G)) (near _)) (before h m k c) (Proc.devRef .tc v4_1) : IVec Sh0 32) HostLoop.idx0)
        ((HloOp.result (nullary while0c_c_10 (constantI Sh0 32 (BitVec.ofNat 32 G)) (near _)) (before h m k c) (Proc.devRef .tc while0c_c_10) : IVec Sh0 32) HostLoop.idx0) = 1#1) (k < G)
    rw [nullary_result_ne _ _ _ _ (apart (by decide)), nullary_result, hctr]
    exact (Scf.cmpi_slt_iv_ub_iff hok (hk.trans htr.ge)).trans (iff_of_eq (congrArg (k < ·) htr))
  isplitl [Hb]; · iexact Hb
  rw [after_cons, after_cons, after_nil]; iexact Hh

omit hok htr in
/-- The program's result is what is sampled, and its argument is kept. -/
theorem final_at (hN : 0 < N) (hN' : N < 2 ^ 30) (hG : G < 2 ^ 30) :
    finalContents condOps [preOps h] [bodyOps h] [postOps h] G m c (Proc.devRef .tc v12) = (sampled hN (arg m c) : FVec Ideal (Sh3 4 3 G) .f32)
    ∧ finalContents condOps [preOps h] [bodyOps h] [postOps h] G m c (Proc.devRef .tc arg0) = arg m c := by
  show after (postOps h) (after condOps (before h m G c)) (Proc.devRef .tc v12) = _ ∧ after (postOps h) (after condOps (before h m G c)) (Proc.devRef .tc arg0) = _
  obtain ⟨pa, pr⟩ := post_at h (after condOps (before h m G c))
  obtain ⟨c0, -, ca, -, -, c3, -, -⟩ := cond_at (before h m G c)
  obtain ⟨-, -, -, -, -, e4, e5⟩ := pre_at h (launchContents m c)
  refine ⟨?_, pa.trans (ca.trans (kept h m c G).2.2.1)⟩
  rw [pr, c0, c3, (kept h m c G).1]
  have trip : ∀ k, before h m (k + 1) c (Proc.devRef .tc v4_3) = htable h (before h m k c (Proc.devRef .tc v4_3)) (before h m k c (Proc.devRef .tc v4_2)) (before h m k c (Proc.devRef .tc v4_5))
      ∧ before h m (k + 1) c (Proc.devRef .tc v4_4) = hdists h (before h m k c (Proc.devRef .tc v4_0)) (before h m k c (Proc.devRef .tc v4_4)) (before h m k c (Proc.devRef .tc v4_5))
      ∧ before h m (k + 1) c (Proc.devRef .tc v4_5) = hfarthest h (hdists h (before h m k c (Proc.devRef .tc v4_0)) (before h m k c (Proc.devRef .tc v4_4)) (before h m k c (Proc.devRef .tc v4_5))) := fun k => by
    obtain ⟨-, q0, -, -, q2, q3, q4, q5⟩ := cond_at (before h m k c)
    obtain ⟨-, -, -, -, -, t3, t4, t5⟩ := trip_at h (after condOps (before h m k c))
    rw [q0, q4, q5] at t4 t5
    rw [q2, q3, q5] at t3
    exact ⟨(step h m c k _).trans t3, (step h m c k _).trans t4, (step h m c k _).trans t5⟩
  exact host_trips_eq h hN hN' hG (arg m c) (fun k => before h m k c (Proc.devRef .tc v4_0))
    (fun k => before h m k c (Proc.devRef .tc v4_4)) (fun k => before h m k c (Proc.devRef .tc v4_5)) (fun k => before h m k c (Proc.devRef .tc v4_3))
    (fun k => before h m k c (Proc.devRef .tc v4_2)) (fun k => (kept h m c k).2.1) (fun j => congrFun ((entry h m c _).trans e4) j)
    (fun j => congrFun ((entry h m c _).trans e5) j) (fun k => congrFun (kept h m c k).2.2.2.2 _) (fun k _ => (trip k).2.1)
    (fun k _ => (trip k).2.2) (fun k _ => (trip k).1)

/-- The run of a program that is the four lists: every weakly fair one ends, the result what is sampled and the argument kept. -/
theorem run (hN : 0 < N) (hN' : N < 2 ^ 30) (hG : G < 2 ^ 30)
    (body : Prog (TpuEff nD τ (sig N G) (Elt Ideal) (HostLoop.Sig (Pipeline.Sig Λ₀ (Fin 0) fun p => (pcs p).Adm) 1) .tc) PUnit)
    (hloops : loops 0 = HostLoop.step 0 (cond pcs) body) (hbody : body = Pipeline.chain ([bodyOps h].map fun ops => (seq ops : Prog _ PUnit)))
    (hmain : ∀ c, main c = Pipeline.chain (([preOps h].map fun ops => (seq ops : Prog _ PUnit)) ++ HostLoop.enter 0 :: [postOps h].map fun ops => (seq ops : Prog _ PUnit))) :
    θ_run (HostLoop.defs loops (Pipeline.defs pcs defs₀)) (onTc (τ := τ) main) ⟨m, fun _ => 0, ρ⟩
      (fun r => ∀ c : Dev nD, r.2.mem ((c.tc : Thread nD τ).loc v12) = (sampled hN (arg m c) : FVec Ideal (Sh3 4 3 G) .f32)
        ∧ r.2.mem ((c.tc : Thread nD τ).loc arg0) = m ((c.tc : Thread nD τ).loc arg0)) :=
  (θ_run _ _ _).mono (fun r q c => ⟨(q c v12 rfl).trans (final_at h m c hN hN' hG).1, (q c arg0 rfl).trans (final_at h m c hN hN' hG).2⟩)
    (run_loop pcs defs₀ loops main 0 (cond pcs) body hloops [preOps h] [bodyOps h] [postOps h] condOps
      (.cons (pre_sub h) .nil) (.cons (body_sub h) .nil) (.cons (post_sub h) .nil) hmain hbody G m ρ (cond_spec h pcs defs₀ loops m hok htr))

end Program

end Cert.Sample.Run

end
-- ==== Proof.SampleCall.lean ====
/- The sampling kernel's loop, for any number of points `N` and of samples `G`: what its pieces, the latest first, leave in the
   block of samples. -/
module

public import proofs.«01_k».proof.Proof.Sample
public import Idealize.ShloMosaic.Lib.VecWindow

@[expose] public section

noncomputable section

namespace Cert.Sample

open Idealize.ShloMosaic Idealize.ShloMosaic.ValueIdx Cert.Block Cert.Reference

variable {N G : ℕ} {sig : RefSig} {κ κ' : Kind} {sp sp' : Space}

/-- From a block of zeros, `G` trips that each write the whole block leave what is sampled. -/
theorem pieces_left (h : KFits N G) (hN : 0 < N) (hN' : N < 2 ^ 30) (hG : 0 < G) (hG' : G < 2 ^ 30) (v : FVec Ideal (Sh3 4 3 N) .f32)
    (w : View sig κ sp (Sh3 4 3 G) .f32) (u : View sig κ' sp' (Sh3 4 3 G) .f32)
    (inb : ∀ a, (![0, 0, 0] : Fin 3 → ℕ) a + (Sh3 4 3 G).size a ≤ (Sh3 4 3 G).size a) (Z : FVec Ideal (Sh3 4 3 G) .f32) (hZ : ∀ j, Z j = 0)
    (f : w.ty.Contents (Elt Ideal)) (f' : u.ty.Contents (Elt Ideal))
    (st : ℕ → (FVec Ideal (Sh2 4 N) .f32 × IVec (Sh2 4 1) 32) × List (View.Piece (Elt Ideal) (Sh3 4 3 G) .f32))
    (d0 : ∀ j, (st 0).1.1 j = Ideal.ofBits .f32 0x501502F9#32) (f0 : ∀ j, (st 0).1.2 j = 0#32) (L0 : (st 0).2 = [])
    (hs : ∀ k, k < G → st (k + 1) = ((dists h v (st k).1.1 (st k).1.2, farthest h (BitVec.ofNat 32 N) (dists h v (st k).1.1 (st k).1.2)),
      ⟨Rect.unit ![0, 0, 0] (Sh3 4 3 G).size inb, stored h v (BitVec.ofNat 32 k) (st k).1.2
        (w.read (Elt Ideal) (w.writes (Elt Ideal) (w.writes (Elt Ideal) f [⟨Rect.unit ![0, 0, 0] (Sh3 4 3 G).size inb, Z⟩]) (st k).2))⟩ :: (st k).2)) :
    u.read (Elt Ideal) (u.writes (Elt Ideal) f' ((st G).2 ++ [⟨Rect.unit ![0, 0, 0] (Sh3 4 3 G).size inb, Z⟩])) = sampled hN v := by
  have trips := trips_eq h hN hN' hG' v (fun k => (st k).1.1) (fun k => (st k).1.2)
    (fun k => w.read (Elt Ideal) (w.writes (Elt Ideal) (w.writes (Elt Ideal) f [⟨Rect.unit ![0, 0, 0] (Sh3 4 3 G).size inb, Z⟩]) (st k).2))
    d0 f0 (fun j => by rw [L0, View.writes_nil, View.read_writes_full]; exact hZ j) (fun k hk => by rw [hs k hk]) (fun k hk => by rw [hs k hk])
    (fun k hk => by rw [hs k hk, View.read_writes_full])
  rw [← trips]
  obtain ⟨g, rfl⟩ : ∃ g, G = g + 1 := ⟨G - 1, by omega⟩
  rw [hs g (Nat.lt_succ_self g), List.cons_append, View.read_writes_full, View.read_writes_full]

end Cert.Sample

end
-- ==== Proof.Sample0.lean ====
/- The first stage's sampling: its kernel and its reference as those stated for any sizes, and its five claims. -/
module

public import proofs.«01_k».proof.Defs
public import proofs.«01_k».proof.Proof.Gen.Fps0.Frame
public import proofs.«01_k».proof.Proof.Gen.Fps0Ideal.Value
public import proofs.«01_k».proof.Proof.Gen.RefFps0Ideal
public import proofs.«01_k».proof.Proof.SampleRun
public import proofs.«01_k».proof.Proof.SampleCall
public import Idealize.ShloMosaic.Lib.Pipeline.ValueKit

@[expose] public section

set_option maxRecDepth 8192

noncomputable section

namespace Cert.Sample0.Kernel

open Cert.Fps0Ideal Cert.Fps0Ideal.Gen
open Idealize.ShloMosaic hiding ix1 ix2 ix3 ix4
open Idealize.ShloMosaic.TcCoe Idealize.ShloMosaic.ValueIdx Idealize.ShloMosaic.Pipeline Idealize.ShloMosaic.Tactic Idealize.SL.Sem
open Cert.Block Cert.Reference Cert.Sample

theorem fits : KFits 1024 512 := by constructor <;> decide

theorem pay6_eq (v : FVec Ideal (Sh3 4 3 1024) .f32) (d : FVec Ideal (Sh2 4 1024) .f32) (f : IVec (Sh2 4 1) 32) :
    k0_pay6 (F := Ideal) v d f = dists fits v d f := rfl

theorem pay7_eq (v : FVec Ideal (Sh3 4 3 1024) .f32) (d : FVec Ideal (Sh2 4 1024) .f32) (f : IVec (Sh2 4 1) 32) :
    k0_pay7 (F := Ideal) v d f = farthest fits (BitVec.ofNat 32 1024) (dists fits v d f) := rfl

theorem pay5_eq (v : FVec Ideal (Sh3 4 3 1024) .f32) (k : Fin k0_t1_loop.trips) (f : IVec (Sh2 4 1) 32) (o : FVec Ideal (Sh3 4 3 512) .f32) :
    k0_pay5 (F := Ideal) v k f o = stored fits v (BitVec.ofNat 32 k.val) f o := by
  rw [← show Scf.iv 0#32 1#32 k.val = BitVec.ofNat 32 k.val by simp [Scf.iv]]
  rfl

theorem count_eq : k0_t1_loop.trips = 512 := by decide +kernel

variable (c : Dev nD)

/-- What the body leaves is what is sampled. -/
theorem out_eq (arg0 : Memref sig .tc .vmem S4x3x1024 .f32) (harg0 : arg0.IsWhole) (arg1 : Memref sig .tc .vmem S4x3x512 .f32) (harg1 : arg1.IsWhole)
    (v : FVec Ideal (Sh3 4 3 1024) .f32) : out0_A_1 (F := Ideal) c arg0 harg0 arg1 harg1 v = (sampled (by decide) v : FVec Ideal (Sh3 4 3 512) .f32) := by
  unfold out0_A_1 kernelRun0_A
  dsimp only
  rw [View.readAt_full, harg0.read_unread]
  refine pieces_left fits _ (by decide) (by decide) (by decide) v arg1.view VO0_1 inb_S4x3x512_S4x3x512_0_0_0 (k0_pay1 (F := Ideal))
    (fun j => Ideal.ofBits_zero_f32) arg1.view.junk _ (fun k => st_k0_t1 (F := Ideal) Variants.none c none arg0 harg0 arg1 harg1 v _ (k0_pay2, k0_pay3) k)
    (fun j => rfl) (fun j => rfl) rfl fun k hk => ?_
  have e := st_k0_t1_succ (F := Ideal) Variants.none c none arg0 harg0 arg1 harg1 v
    (arg1.view.writes (Elt Ideal) arg1.view.junk [⟨Rect.unit ![0, 0, 0] ![4, 3, 512] inb_S4x3x512_S4x3x512_0_0_0, k0_pay1 (F := Ideal)⟩]) (k0_pay2, k0_pay3)
    ⟨k, by rw [count_eq]; exact hk⟩
  unfold tripR_k0_t1 tripL_k0_t1 trip_k0_t1 at e
  dsimp only at e
  rw [List.singleton_append, pay5_eq, pay6_eq, pay7_eq, View.readAt_full] at e
  exact e

variable (m : (ℓ : Loc nD τ sig) → Buf (Elt Ideal) ℓ)

theorem places : ∀ t : Fin cfg0.N, win0_0.index t = ![0, 0, 0] ∧ win0_1.index t = ![0, 0, 0] := (by decide +kernel : ∀ t : Fin grid0.N, _)

theorem whole0 (t : Fin cfg0.N) : iblk m c 0 t = m ((c : Thread nD τ).loc main_arg0) := funext fun x => by blk_ext [iblk, V_main_arg0, places t]

/-- What is sampled of the launch's points. -/
def result : FVec Ideal (Sh3 4 3 512) .f32 := sampled (by decide) (m ((c : Thread nD τ).loc main_arg0) : FVec Ideal (Sh3 4 3 1024) .f32)

theorem out_at (t : Fin cfg0.N) (y : S4x3x512.Idx) : ((cfg0.win 1).blk t).view.emb y = y := by
  blk_ext [places t]

theorem final : (dats m 0 c).arrAt 1 cfg0.N = result c m := by
  refine (dats m 0 c).arrAt_eq_of_covers 1 (result c m) (by decide +kernel) fun t _ (y : S4x3x512.Idx) => ?_
  show (dats m 0 c).after 1 t y = result c m (((cfg0.win 1).blk t).view.emb y)
  rw [out_at, after0_1, outsAt0, out_eq, whole0]
  rfl

end Cert.Sample0.Kernel

namespace Cert.Sample0.Ref

open Cert.RefFps0Ideal Cert.RefFps0Ideal.Gen
open Idealize.ShloMosaic Idealize.ShloMosaic.TcCoe Idealize.SL.Sem Cert.Block Cert.Sample

theorem fits : HFits 1024 512 := by constructor <;> decide

/-- The printed program is the one stated for any sizes, so its run is. -/
theorem run (m : (ℓ : Loc nD τ sig) → Buf (Elt Ideal) ℓ) (ρ : Dev nD → PrngReg) : θ_run (defs (F := Ideal)) (onTc (τ := τ) (main (F := Ideal))) ⟨m, fun _ => 0, ρ⟩
    (fun r => ∀ c : Dev nD, r.2.mem ((c.tc : Thread nD τ).loc main_v12) = (sampled (by decide) (m ((c.tc : Thread nD τ).loc main_arg0) : FVec Ideal (Sh3 4 3 1024) .f32) : FVec Ideal (Sh3 4 3 512) .f32)
      ∧ r.2.mem ((c.tc : Thread nD τ).loc main_arg0) = m ((c.tc : Thread nD τ).loc main_arg0)) :=
  Run.run fits (pcfgs (F := Ideal)) defs₀ loops main m ρ (by decide) (by decide) (by decide) (by decide) (by decide) main_while0_body rfl (by chain_rfl)
    fun c => by chain_rfl

end Cert.Sample0.Ref

namespace Cert.Sample0

open Idealize.ShloMosaic Idealize.SL.Sem

theorem quiescent : @quiescent_Fps0 Fps0.Gen.facts := fun m g _ => Fps0.Gen.frame m g

theorem quiescentIdeal : @quiescent_Fps0Ideal Fps0Ideal.Gen.facts := fun m g _ => Fps0Ideal.Gen.frame m g

theorem quiescentRef : @quiescent_RefFps0Ideal RefFps0Ideal.Gen.facts := fun m g _ =>
  (θ_run _ _ _).mono (fun r h => ⟨fun c => (h c).2, sem_eq_zero_of_no_sems (by decide) r.2⟩) (Ref.run m g)

theorem preserves : preserves_Fps0_Fps0Ideal := trivial

/-- From equal arguments the call and its reference leave equal results. -/
theorem algebraic : @algebraic_Fps0Ideal_RefFps0Ideal Fps0Ideal.Gen.facts RefFps0Ideal.Gen.facts := by
  intro m g m' g' _ hag
  refine ⟨fun c => Kernel.result c m, ?_, ?_⟩
  · exact (θ_run _ _ _).mono (fun r h c => ⟨(h c).1.trans (Kernel.final c m), (h c).2⟩) (Fps0Ideal.Value.run_blocks m g)
  · exact (θ_run _ _ _).mono (fun r h c => ⟨(h c).1.trans (congrArg (Sample.sampled (by decide)) (hag c)), (h c).2⟩) (Ref.run m' g')

end Cert.Sample0

end
-- ==== Proof.Sample1.lean ====
/- The second stage's sampling: its kernel and its reference as those stated for any sizes, and its five claims. -/
module

public import proofs.«01_k».proof.Defs
public import proofs.«01_k».proof.Proof.Gen.Fps1.Frame
public import proofs.«01_k».proof.Proof.Gen.Fps1Ideal.Value
public import proofs.«01_k».proof.Proof.Gen.RefFps1Ideal
public import proofs.«01_k».proof.Proof.SampleRun
public import proofs.«01_k».proof.Proof.SampleCall
public import Idealize.ShloMosaic.Lib.Pipeline.ValueKit

@[expose] public section

set_option maxRecDepth 8192

noncomputable section

namespace Cert.Sample1.Kernel

open Cert.Fps1Ideal Cert.Fps1Ideal.Gen
open Idealize.ShloMosaic hiding ix1 ix2 ix3 ix4
open Idealize.ShloMosaic.TcCoe Idealize.ShloMosaic.ValueIdx Idealize.ShloMosaic.Pipeline Idealize.ShloMosaic.Tactic Idealize.SL.Sem
open Cert.Block Cert.Reference Cert.Sample

theorem fits : KFits 512 256 := by constructor <;> decide

theorem pay6_eq (v : FVec Ideal (Sh3 4 3 512) .f32) (d : FVec Ideal (Sh2 4 512) .f32) (f : IVec (Sh2 4 1) 32) :
    k0_pay6 (F := Ideal) v d f = dists fits v d f := rfl

theorem pay7_eq (v : FVec Ideal (Sh3 4 3 512) .f32) (d : FVec Ideal (Sh2 4 512) .f32) (f : IVec (Sh2 4 1) 32) :
    k0_pay7 (F := Ideal) v d f = farthest fits (BitVec.ofNat 32 512) (dists fits v d f) := rfl

theorem pay5_eq (v : FVec Ideal (Sh3 4 3 512) .f32) (k : Fin k0_t1_loop.trips) (f : IVec (Sh2 4 1) 32) (o : FVec Ideal (Sh3 4 3 256) .f32) :
    k0_pay5 (F := Ideal) v k f o = stored fits v (BitVec.ofNat 32 k.val) f o := by
  rw [← show Scf.iv 0#32 1#32 k.val = BitVec.ofNat 32 k.val by simp [Scf.iv]]
  rfl

theorem count_eq : k0_t1_loop.trips = 256 := by decide +kernel

variable (c : Dev nD)

/-- What the body leaves is what is sampled. -/
theorem out_eq (arg0 : Memref sig .tc .vmem S4x3x512 .f32) (harg0 : arg0.IsWhole) (arg1 : Memref sig .tc .vmem S4x3x256 .f32) (harg1 : arg1.IsWhole)
    (v : FVec Ideal (Sh3 4 3 512) .f32) : out0_A_1 (F := Ideal) c arg0 harg0 arg1 harg1 v = (sampled (by decide) v : FVec Ideal (Sh3 4 3 256) .f32) := by
  unfold out0_A_1 kernelRun0_A
  dsimp only
  rw [View.readAt_full, harg0.read_unread]
  refine pieces_left fits _ (by decide) (by decide) (by decide) v arg1.view VO0_1 inb_S4x3x256_S4x3x256_0_0_0 (k0_pay1 (F := Ideal))
    (fun j => Ideal.ofBits_zero_f32) arg1.view.junk _ (fun k => st_k0_t1 (F := Ideal) Variants.none c none arg0 harg0 arg1 harg1 v _ (k0_pay2, k0_pay3) k)
    (fun j => rfl) (fun j => rfl) rfl fun k hk => ?_
  have e := st_k0_t1_succ (F := Ideal) Variants.none c none arg0 harg0 arg1 harg1 v
    (arg1.view.writes (Elt Ideal) arg1.view.junk [⟨Rect.unit ![0, 0, 0] ![4, 3, 256] inb_S4x3x256_S4x3x256_0_0_0, k0_pay1 (F := Ideal)⟩]) (k0_pay2, k0_pay3)
    ⟨k, by rw [count_eq]; exact hk⟩
  unfold tripR_k0_t1 tripL_k0_t1 trip_k0_t1 at e
  dsimp only at e
  rw [List.singleton_append, pay5_eq, pay6_eq, pay7_eq, View.readAt_full] at e
  exact e

variable (m : (ℓ : Loc nD τ sig) → Buf (Elt Ideal) ℓ)

theorem places : ∀ t : Fin cfg0.N, win0_0.index t = ![0, 0, 0] ∧ win0_1.index t = ![0, 0, 0] := (by decide +kernel : ∀ t : Fin grid0.N, _)

theorem whole0 (t : Fin cfg0.N) : iblk m c 0 t = m ((c : Thread nD τ).loc main_arg0) := funext fun x => by blk_ext [iblk, V_main_arg0, places t]

/-- What is sampled of the launch's points. -/
def result : FVec Ideal (Sh3 4 3 256) .f32 := sampled (by decide) (m ((c : Thread nD τ).loc main_arg0) : FVec Ideal (Sh3 4 3 512) .f32)

theorem out_at (t : Fin cfg0.N) (y : S4x3x256.Idx) : ((cfg0.win 1).blk t).view.emb y = y := by
  blk_ext [places t]

theorem final : (dats m 0 c).arrAt 1 cfg0.N = result c m := by
  refine (dats m 0 c).arrAt_eq_of_covers 1 (result c m) (by decide +kernel) fun t _ (y : S4x3x256.Idx) => ?_
  show (dats m 0 c).after 1 t y = result c m (((cfg0.win 1).blk t).view.emb y)
  rw [out_at, after0_1, outsAt0, out_eq, whole0]
  rfl

end Cert.Sample1.Kernel

namespace Cert.Sample1.Ref

open Cert.RefFps1Ideal Cert.RefFps1Ideal.Gen
open Idealize.ShloMosaic Idealize.ShloMosaic.TcCoe Idealize.SL.Sem Cert.Block Cert.Sample

theorem fits : HFits 512 256 := by constructor <;> decide

/-- The printed program is the one stated for any sizes, so its run is. -/
theorem run (m : (ℓ : Loc nD τ sig) → Buf (Elt Ideal) ℓ) (ρ : Dev nD → PrngReg) : θ_run (defs (F := Ideal)) (onTc (τ := τ) (main (F := Ideal))) ⟨m, fun _ => 0, ρ⟩
    (fun r => ∀ c : Dev nD, r.2.mem ((c.tc : Thread nD τ).loc main_v12) = (sampled (by decide) (m ((c.tc : Thread nD τ).loc main_arg0) : FVec Ideal (Sh3 4 3 512) .f32) : FVec Ideal (Sh3 4 3 256) .f32)
      ∧ r.2.mem ((c.tc : Thread nD τ).loc main_arg0) = m ((c.tc : Thread nD τ).loc main_arg0)) :=
  Run.run fits (pcfgs (F := Ideal)) defs₀ loops main m ρ (by decide) (by decide) (by decide) (by decide) (by decide) main_while0_body rfl (by chain_rfl)
    fun c => by chain_rfl

end Cert.Sample1.Ref

namespace Cert.Sample1

open Idealize.ShloMosaic Idealize.SL.Sem

theorem quiescent : @quiescent_Fps1 Fps1.Gen.facts := fun m g _ => Fps1.Gen.frame m g

theorem quiescentIdeal : @quiescent_Fps1Ideal Fps1Ideal.Gen.facts := fun m g _ => Fps1Ideal.Gen.frame m g

theorem quiescentRef : @quiescent_RefFps1Ideal RefFps1Ideal.Gen.facts := fun m g _ =>
  (θ_run _ _ _).mono (fun r h => ⟨fun c => (h c).2, sem_eq_zero_of_no_sems (by decide) r.2⟩) (Ref.run m g)

theorem preserves : preserves_Fps1_Fps1Ideal := trivial

/-- From equal arguments the call and its reference leave equal results. -/
theorem algebraic : @algebraic_Fps1Ideal_RefFps1Ideal Fps1Ideal.Gen.facts RefFps1Ideal.Gen.facts := by
  intro m g m' g' _ hag
  refine ⟨fun c => Kernel.result c m, ?_, ?_⟩
  · exact (θ_run _ _ _).mono (fun r h c => ⟨(h c).1.trans (Kernel.final c m), (h c).2⟩) (Fps1Ideal.Value.run_blocks m g)
  · exact (θ_run _ _ _).mono (fun r h c => ⟨(h c).1.trans (congrArg (Sample.sampled (by decide)) (hag c)), (h c).2⟩) (Ref.run m' g')

end Cert.Sample1

end
-- ==== Proof.Sample2.lean ====
/- The last stage's sampling: its kernel and its reference as those stated for any sizes, and its five claims. -/
module

public import proofs.«01_k».proof.Defs
public import proofs.«01_k».proof.Proof.Gen.Fps2.Frame
public import proofs.«01_k».proof.Proof.Gen.Fps2Ideal.Value
public import proofs.«01_k».proof.Proof.Gen.RefFps2Ideal
public import proofs.«01_k».proof.Proof.SampleRun
public import proofs.«01_k».proof.Proof.SampleCall
public import Idealize.ShloMosaic.Lib.Pipeline.ValueKit

@[expose] public section

set_option maxRecDepth 8192

noncomputable section

namespace Cert.Sample2.Kernel

open Cert.Fps2Ideal Cert.Fps2Ideal.Gen
open Idealize.ShloMosaic hiding ix1 ix2 ix3 ix4
open Idealize.ShloMosaic.TcCoe Idealize.ShloMosaic.ValueIdx Idealize.ShloMosaic.Pipeline Idealize.ShloMosaic.Tactic Idealize.SL.Sem
open Cert.Block Cert.Reference Cert.Sample

theorem fits : KFits 256 128 := by constructor <;> decide

theorem pay6_eq (v : FVec Ideal (Sh3 4 3 256) .f32) (d : FVec Ideal (Sh2 4 256) .f32) (f : IVec (Sh2 4 1) 32) :
    k0_pay6 (F := Ideal) v d f = dists fits v d f := rfl

theorem pay7_eq (v : FVec Ideal (Sh3 4 3 256) .f32) (d : FVec Ideal (Sh2 4 256) .f32) (f : IVec (Sh2 4 1) 32) :
    k0_pay7 (F := Ideal) v d f = farthest fits (BitVec.ofNat 32 256) (dists fits v d f) := rfl

theorem pay5_eq (v : FVec Ideal (Sh3 4 3 256) .f32) (k : Fin k0_t1_loop.trips) (f : IVec (Sh2 4 1) 32) (o : FVec Ideal (Sh3 4 3 128) .f32) :
    k0_pay5 (F := Ideal) v k f o = stored fits v (BitVec.ofNat 32 k.val) f o := by
  rw [← show Scf.iv 0#32 1#32 k.val = BitVec.ofNat 32 k.val by simp [Scf.iv]]
  rfl

theorem count_eq : k0_t1_loop.trips = 128 := by decide +kernel

variable (c : Dev nD)

/-- What the body leaves is what is sampled. -/
theorem out_eq (arg0 : Memref sig .tc .vmem S4x3x256 .f32) (harg0 : arg0.IsWhole) (arg1 : Memref sig .tc .vmem S4x3x128 .f32) (harg1 : arg1.IsWhole)
    (v : FVec Ideal (Sh3 4 3 256) .f32) : out0_A_1 (F := Ideal) c arg0 harg0 arg1 harg1 v = (sampled (by decide) v : FVec Ideal (Sh3 4 3 128) .f32) := by
  unfold out0_A_1 kernelRun0_A
  dsimp only
  rw [View.readAt_full, harg0.read_unread]
  refine pieces_left fits _ (by decide) (by decide) (by decide) v arg1.view VO0_1 inb_S4x3x128_S4x3x128_0_0_0 (k0_pay1 (F := Ideal))
    (fun j => Ideal.ofBits_zero_f32) arg1.view.junk _ (fun k => st_k0_t1 (F := Ideal) Variants.none c none arg0 harg0 arg1 harg1 v _ (k0_pay2, k0_pay3) k)
    (fun j => rfl) (fun j => rfl) rfl fun k hk => ?_
  have e := st_k0_t1_succ (F := Ideal) Variants.none c none arg0 harg0 arg1 harg1 v
    (arg1.view.writes (Elt Ideal) arg1.view.junk [⟨Rect.unit ![0, 0, 0] ![4, 3, 128] inb_S4x3x128_S4x3x128_0_0_0, k0_pay1 (F := Ideal)⟩]) (k0_pay2, k0_pay3)
    ⟨k, by rw [count_eq]; exact hk⟩
  unfold tripR_k0_t1 tripL_k0_t1 trip_k0_t1 at e
  dsimp only at e
  rw [List.singleton_append, pay5_eq, pay6_eq, pay7_eq, View.readAt_full] at e
  exact e

variable (m : (ℓ : Loc nD τ sig) → Buf (Elt Ideal) ℓ)

theorem places : ∀ t : Fin cfg0.N, win0_0.index t = ![0, 0, 0] ∧ win0_1.index t = ![0, 0, 0] := (by decide +kernel : ∀ t : Fin grid0.N, _)

theorem whole0 (t : Fin cfg0.N) : iblk m c 0 t = m ((c : Thread nD τ).loc main_arg0) := funext fun x => by blk_ext [iblk, V_main_arg0, places t]

/-- What is sampled of the launch's points. -/
def result : FVec Ideal (Sh3 4 3 128) .f32 := sampled (by decide) (m ((c : Thread nD τ).loc main_arg0) : FVec Ideal (Sh3 4 3 256) .f32)

theorem out_at (t : Fin cfg0.N) (y : S4x3x128.Idx) : ((cfg0.win 1).blk t).view.emb y = y := by
  blk_ext [places t]

theorem final : (dats m 0 c).arrAt 1 cfg0.N = result c m := by
  refine (dats m 0 c).arrAt_eq_of_covers 1 (result c m) (by decide +kernel) fun t _ (y : S4x3x128.Idx) => ?_
  show (dats m 0 c).after 1 t y = result c m (((cfg0.win 1).blk t).view.emb y)
  rw [out_at, after0_1, outsAt0, out_eq, whole0]
  rfl

end Cert.Sample2.Kernel

namespace Cert.Sample2.Ref

open Cert.RefFps2Ideal Cert.RefFps2Ideal.Gen
open Idealize.ShloMosaic Idealize.ShloMosaic.TcCoe Idealize.SL.Sem Cert.Block Cert.Sample

theorem fits : HFits 256 128 := by constructor <;> decide

/-- The printed program is the one stated for any sizes, so its run is. -/
theorem run (m : (ℓ : Loc nD τ sig) → Buf (Elt Ideal) ℓ) (ρ : Dev nD → PrngReg) : θ_run (defs (F := Ideal)) (onTc (τ := τ) (main (F := Ideal))) ⟨m, fun _ => 0, ρ⟩
    (fun r => ∀ c : Dev nD, r.2.mem ((c.tc : Thread nD τ).loc main_v12) = (sampled (by decide) (m ((c.tc : Thread nD τ).loc main_arg0) : FVec Ideal (Sh3 4 3 256) .f32) : FVec Ideal (Sh3 4 3 128) .f32)
      ∧ r.2.mem ((c.tc : Thread nD τ).loc main_arg0) = m ((c.tc : Thread nD τ).loc main_arg0)) :=
  Run.run fits (pcfgs (F := Ideal)) defs₀ loops main m ρ (by decide) (by decide) (by decide) (by decide) (by decide) main_while0_body rfl (by chain_rfl)
    fun c => by chain_rfl

end Cert.Sample2.Ref

namespace Cert.Sample2

open Idealize.ShloMosaic Idealize.SL.Sem

theorem quiescent : @quiescent_Fps2 Fps2.Gen.facts := fun m g _ => Fps2.Gen.frame m g

theorem quiescentIdeal : @quiescent_Fps2Ideal Fps2Ideal.Gen.facts := fun m g _ => Fps2Ideal.Gen.frame m g

theorem quiescentRef : @quiescent_RefFps2Ideal RefFps2Ideal.Gen.facts := fun m g _ =>
  (θ_run _ _ _).mono (fun r h => ⟨fun c => (h c).2, sem_eq_zero_of_no_sems (by decide) r.2⟩) (Ref.run m g)

theorem preserves : preserves_Fps2_Fps2Ideal := trivial

/-- From equal arguments the call and its reference leave equal results. -/
theorem algebraic : @algebraic_Fps2Ideal_RefFps2Ideal Fps2Ideal.Gen.facts RefFps2Ideal.Gen.facts := by
  intro m g m' g' _ hag
  refine ⟨fun c => Kernel.result c m, ?_, ?_⟩
  · exact (θ_run _ _ _).mono (fun r h c => ⟨(h c).1.trans (Kernel.final c m), (h c).2⟩) (Fps2Ideal.Value.run_blocks m g)
  · exact (θ_run _ _ _).mono (fun r h c => ⟨(h c).1.trans (congrArg (Sample.sampled (by decide)) (hag c)), (h c).2⟩) (Ref.run m' g')

end Cert.Sample2

end
-- ==== Proof.lean ====
/- The claims, assembled from each stage's. -/
module

public import proofs.«01_k».proof.Defs
public import proofs.«01_k».proof.Proof.Claim0
public import proofs.«01_k».proof.Proof.Claim1
public import proofs.«01_k».proof.Proof.Claim2
public import proofs.«01_k».proof.Proof.Sample0
public import proofs.«01_k».proof.Proof.Sample1
public import proofs.«01_k».proof.Proof.Sample2

@[expose] public section

noncomputable section

namespace Cert.Proof

theorem claim : Cert.Claim := ⟨
  Cert.Feat0.Gen.facts, Cert.Feat0Ideal.Gen.facts, Cert.Ref0Ideal.Gen.facts,
  Cert.Feat1.Gen.facts, Cert.Feat1Ideal.Gen.facts, Cert.Ref1Ideal.Gen.facts,
  Cert.Feat2.Gen.facts, Cert.Feat2Ideal.Gen.facts, Cert.Ref2Ideal.Gen.facts,
  Cert.Fps0.Gen.facts, Cert.Fps0Ideal.Gen.facts, Cert.RefFps0Ideal.Gen.facts,
  Cert.Fps1.Gen.facts, Cert.Fps1Ideal.Gen.facts, Cert.RefFps1Ideal.Gen.facts,
  Cert.Fps2.Gen.facts, Cert.Fps2Ideal.Gen.facts, Cert.RefFps2Ideal.Gen.facts,
  Stage0.quiescent, Stage0.quiescentIdeal, Stage0.quiescentRef,
  Stage1.quiescent, Stage1.quiescentIdeal, Stage1.quiescentRef,
  Stage2.quiescent, Stage2.quiescentIdeal, Stage2.quiescentRef,
  Sample0.quiescent, Sample0.quiescentIdeal, Sample0.quiescentRef,
  Sample1.quiescent, Sample1.quiescentIdeal, Sample1.quiescentRef,
  Sample2.quiescent, Sample2.quiescentIdeal, Sample2.quiescentRef,
  Stage0.preserves, Stage0.algebraic, Stage1.preserves, Stage1.algebraic, Stage2.preserves, Stage2.algebraic,
  Sample0.preserves, Sample0.algebraic, Sample1.preserves, Sample1.algebraic, Sample2.preserves, Sample2.algebraic⟩

end Cert.Proof

end
